-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Tokens (m : (ℓ : Loc Cert.Tokens.nD Cert.Tokens.τ Cert.Tokens.sig) → Buf (Elt Bits) ℓ) : Prop :=
  True

def Pre_TokensIdeal (m : (ℓ : Loc Cert.TokensIdeal.nD Cert.TokensIdeal.τ Cert.TokensIdeal.sig) → Buf (Elt Ideal) ℓ) : Prop :=
  True

def Pre_TokensReferenceIdeal (m : (ℓ : Loc Cert.TokensReferenceIdeal.nD Cert.TokensReferenceIdeal.τ Cert.TokensReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Tokens [hTokens : Cert.Tokens.Facts] : Prop :=
  ∀ (m : (ℓ : Loc Cert.Tokens.nD Cert.Tokens.τ Cert.Tokens.sig) → Buf (Elt Bits) ℓ) (g : Dev Cert.Tokens.nD → PrngReg), Pre_Tokens m →
    θ_run (Cert.Tokens.defs (F := Bits)) (onTc (τ := Cert.Tokens.τ) (Cert.Tokens.main (F := Bits))) ⟨m, fun _ => 0, g⟩ (fun r => (∀ c : Dev Cert.Tokens.nD,
      r.2.mem ((c.tc : Thread Cert.Tokens.nD Cert.Tokens.τ).loc Cert.Tokens.main_arg0) = m ((c.tc : Thread Cert.Tokens.nD Cert.Tokens.τ).loc Cert.Tokens.main_arg0)
      ∧ r.2.mem ((c.tc : Thread Cert.Tokens.nD Cert.Tokens.τ).loc Cert.Tokens.main_arg1) = m ((c.tc : Thread Cert.Tokens.nD Cert.Tokens.τ).loc Cert.Tokens.main_arg1)
      ∧ r.2.mem ((c.tc : Thread Cert.Tokens.nD Cert.Tokens.τ).loc Cert.Tokens.main_arg2) = m ((c.tc : Thread Cert.Tokens.nD Cert.Tokens.τ).loc Cert.Tokens.main_arg2)
      ∧ r.2.mem ((c.tc : Thread Cert.Tokens.nD Cert.Tokens.τ).loc Cert.Tokens.main_arg3) = m ((c.tc : Thread Cert.Tokens.nD Cert.Tokens.τ).loc Cert.Tokens.main_arg3))
      ∧ r.2.sem = fun _ => 0)

def quiescent_TokensIdeal [hTokensIdeal : Cert.TokensIdeal.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal m →
    θ_run (Cert.TokensIdeal.defs (F := Ideal)) (onTc (τ := Cert.TokensIdeal.τ) (Cert.TokensIdeal.main (F := Ideal))) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
      ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
      ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
      ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3))
      ∧ r.2.sem = fun _ => 0)

def quiescent_TokensReferenceIdeal [hTokensReferenceIdeal : Cert.TokensReferenceIdeal.Facts] : Prop :=
  ∀ (m : (ℓ : Loc Cert.TokensReferenceIdeal.nD Cert.TokensReferenceIdeal.τ Cert.TokensReferenceIdeal.sig) → Buf (Elt Ideal) ℓ) (g : Dev Cert.TokensReferenceIdeal.nD → PrngReg), Pre_TokensReferenceIdeal m →
    θ_run (Cert.TokensReferenceIdeal.defs (F := Ideal)) (onTc (τ := Cert.TokensReferenceIdeal.τ) (Cert.TokensReferenceIdeal.main (F := Ideal))) ⟨m, fun _ => 0, g⟩ (fun r => (∀ c : Dev Cert.TokensReferenceIdeal.nD,
      r.2.mem ((c.tc : Thread Cert.TokensReferenceIdeal.nD Cert.TokensReferenceIdeal.τ).loc Cert.TokensReferenceIdeal.main_arg0) = m ((c.tc : Thread Cert.TokensReferenceIdeal.nD Cert.TokensReferenceIdeal.τ).loc Cert.TokensReferenceIdeal.main_arg0)
      ∧ r.2.mem ((c.tc : Thread Cert.TokensReferenceIdeal.nD Cert.TokensReferenceIdeal.τ).loc Cert.TokensReferenceIdeal.main_arg1) = m ((c.tc : Thread Cert.TokensReferenceIdeal.nD Cert.TokensReferenceIdeal.τ).loc Cert.TokensReferenceIdeal.main_arg1)
      ∧ r.2.mem ((c.tc : Thread Cert.TokensReferenceIdeal.nD Cert.TokensReferenceIdeal.τ).loc Cert.TokensReferenceIdeal.main_arg2) = m ((c.tc : Thread Cert.TokensReferenceIdeal.nD Cert.TokensReferenceIdeal.τ).loc Cert.TokensReferenceIdeal.main_arg2)
      ∧ r.2.mem ((c.tc : Thread Cert.TokensReferenceIdeal.nD Cert.TokensReferenceIdeal.τ).loc Cert.TokensReferenceIdeal.main_arg3) = m ((c.tc : Thread Cert.TokensReferenceIdeal.nD Cert.TokensReferenceIdeal.τ).loc Cert.TokensReferenceIdeal.main_arg3))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4)
      ∧ r.2.mem ((c.tc : Thread Cert.HeadsReferenceIdeal.nD Cert.HeadsReferenceIdeal.τ).loc Cert.HeadsReferenceIdeal.main_arg5) = m ((c.tc : Thread Cert.HeadsReferenceIdeal.nD Cert.HeadsReferenceIdeal.τ).loc Cert.HeadsReferenceIdeal.main_arg5)
      ∧ r.2.mem ((c.tc : Thread Cert.HeadsReferenceIdeal.nD Cert.HeadsReferenceIdeal.τ).loc Cert.HeadsReferenceIdeal.main_arg6) = m ((c.tc : Thread Cert.HeadsReferenceIdeal.nD Cert.HeadsReferenceIdeal.τ).loc Cert.HeadsReferenceIdeal.main_arg6)
      ∧ r.2.mem ((c.tc : Thread Cert.HeadsReferenceIdeal.nD Cert.HeadsReferenceIdeal.τ).loc Cert.HeadsReferenceIdeal.main_arg7) = m ((c.tc : Thread Cert.HeadsReferenceIdeal.nD Cert.HeadsReferenceIdeal.τ).loc Cert.HeadsReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)) (v7 : (c : Dev Cert.KernelIdeal.nD) → Buf (Elt Ideal) ((c.tc : Thread Cert.KernelIdeal.nD Cert.KernelIdeal.τ).loc Cert.KernelIdeal.main_v13_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_v13_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_v1_6) = v6 c
          ∧ r.2.mem ((c.tc : Thread Cert.ReferenceIdeal.nD Cert.ReferenceIdeal.τ).loc Cert.ReferenceIdeal.main_v1_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Tokens_TokensIdeal : Prop :=
  True

def algebraic_TokensIdeal_TokensReferenceIdeal [hTokensIdeal : Cert.TokensIdeal.Facts] [hTokensReferenceIdeal : Cert.TokensReferenceIdeal.Facts] : Prop :=
  ∀ (m : (ℓ : Loc Cert.TokensIdeal.nD Cert.TokensIdeal.τ Cert.TokensIdeal.sig) → Buf (Elt Ideal) ℓ) (g : Dev Cert.TokensIdeal.nD → PrngReg)
    (m' : (ℓ : Loc Cert.TokensReferenceIdeal.nD Cert.TokensReferenceIdeal.τ Cert.TokensReferenceIdeal.sig) → Buf (Elt Ideal) ℓ) (g' : Dev Cert.TokensReferenceIdeal.nD → PrngReg), Pre_TokensIdeal m →
    (∀ c : Dev Cert.TokensIdeal.nD,
      m' ((c.tc : Thread Cert.TokensReferenceIdeal.nD Cert.TokensReferenceIdeal.τ).loc Cert.TokensReferenceIdeal.main_arg0) = m ((c.tc : Thread Cert.TokensIdeal.nD Cert.TokensIdeal.τ).loc Cert.TokensIdeal.main_arg0)
      ∧ m' ((c.tc : Thread Cert.TokensReferenceIdeal.nD Cert.TokensReferenceIdeal.τ).loc Cert.TokensReferenceIdeal.main_arg1) = m ((c.tc : Thread Cert.TokensIdeal.nD Cert.TokensIdeal.τ).loc Cert.TokensIdeal.main_arg1)
      ∧ m' ((c.tc : Thread Cert.TokensReferenceIdeal.nD Cert.TokensReferenceIdeal.τ).loc Cert.TokensReferenceIdeal.main_arg2) = m ((c.tc : Thread Cert.TokensIdeal.nD Cert.TokensIdeal.τ).loc Cert.TokensIdeal.main_arg2)
      ∧ m' ((c.tc : Thread Cert.TokensReferenceIdeal.nD Cert.TokensReferenceIdeal.τ).loc Cert.TokensReferenceIdeal.main_arg3) = m ((c.tc : Thread Cert.TokensIdeal.nD Cert.TokensIdeal.τ).loc Cert.TokensIdeal.main_arg3)) →
    ∃ (v0 : (c : Dev Cert.TokensIdeal.nD) → Buf (Elt Ideal) ((c.tc : Thread Cert.TokensIdeal.nD Cert.TokensIdeal.τ).loc Cert.TokensIdeal.main_v5_0)) (v1 : (c : Dev Cert.TokensIdeal.nD) → Buf (Elt Ideal) ((c.tc : Thread Cert.TokensIdeal.nD Cert.TokensIdeal.τ).loc Cert.TokensIdeal.main_v5_1)) (v2 : (c : Dev Cert.TokensIdeal.nD) → Buf (Elt Ideal) ((c.tc : Thread Cert.TokensIdeal.nD Cert.TokensIdeal.τ).loc Cert.TokensIdeal.main_v5_2)) (v3 : (c : Dev Cert.TokensIdeal.nD) → Buf (Elt Ideal) ((c.tc : Thread Cert.TokensIdeal.nD Cert.TokensIdeal.τ).loc Cert.TokensIdeal.main_v5_3)) (v4 : (c : Dev Cert.TokensIdeal.nD) → Buf (Elt Ideal) ((c.tc : Thread Cert.TokensIdeal.nD Cert.TokensIdeal.τ).loc Cert.TokensIdeal.main_v5_4)),
      θ_run (Cert.TokensIdeal.defs (F := Ideal)) (onTc (τ := Cert.TokensIdeal.τ) (Cert.TokensIdeal.main (F := Ideal))) ⟨m, fun _ => 0, g⟩ (fun r => ∀ c : Dev Cert.TokensIdeal.nD,
          r.2.mem ((c.tc : Thread Cert.TokensIdeal.nD Cert.TokensIdeal.τ).loc Cert.TokensIdeal.main_v5_0) = v0 c
          ∧ r.2.mem ((c.tc : Thread Cert.TokensIdeal.nD Cert.TokensIdeal.τ).loc Cert.TokensIdeal.main_v5_1) = v1 c
          ∧ r.2.mem ((c.tc : Thread Cert.TokensIdeal.nD Cert.TokensIdeal.τ).loc Cert.TokensIdeal.main_v5_2) = v2 c
          ∧ r.2.mem ((c.tc : Thread Cert.TokensIdeal.nD Cert.TokensIdeal.τ).loc Cert.TokensIdeal.main_v5_3) = v3 c
          ∧ r.2.mem ((c.tc : Thread Cert.TokensIdeal.nD Cert.TokensIdeal.τ).loc Cert.TokensIdeal.main_v5_4) = v4 c
          ∧ r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
          ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
          ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
          ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3))
      ∧ θ_run (Cert.TokensReferenceIdeal.defs (F := Ideal)) (onTc (τ := Cert.TokensReferenceIdeal.τ) (Cert.TokensReferenceIdeal.main (F := Ideal))) ⟨m', fun _ => 0, g'⟩ (fun r => ∀ c : Dev Cert.TokensReferenceIdeal.nD,
          r.2.mem ((c.tc : Thread Cert.TokensReferenceIdeal.nD Cert.TokensReferenceIdeal.τ).loc Cert.TokensReferenceIdeal.main_v0_0) = v0 c
          ∧ r.2.mem ((c.tc : Thread Cert.TokensReferenceIdeal.nD Cert.TokensReferenceIdeal.τ).loc Cert.TokensReferenceIdeal.main_v0_1) = v1 c
          ∧ r.2.mem ((c.tc : Thread Cert.TokensReferenceIdeal.nD Cert.TokensReferenceIdeal.τ).loc Cert.TokensReferenceIdeal.main_v0_2) = v2 c
          ∧ r.2.mem ((c.tc : Thread Cert.TokensReferenceIdeal.nD Cert.TokensReferenceIdeal.τ).loc Cert.TokensReferenceIdeal.main_v0_3) = v3 c
          ∧ r.2.mem ((c.tc : Thread Cert.TokensReferenceIdeal.nD Cert.TokensReferenceIdeal.τ).loc Cert.TokensReferenceIdeal.main_v0_4) = v4 c
          ∧ r.2.mem ((c.tc : Thread Cert.TokensReferenceIdeal.nD Cert.TokensReferenceIdeal.τ).loc Cert.TokensReferenceIdeal.main_arg0) = m' ((c.tc : Thread Cert.TokensReferenceIdeal.nD Cert.TokensReferenceIdeal.τ).loc Cert.TokensReferenceIdeal.main_arg0)
          ∧ r.2.mem ((c.tc : Thread Cert.TokensReferenceIdeal.nD Cert.TokensReferenceIdeal.τ).loc Cert.TokensReferenceIdeal.main_arg1) = m' ((c.tc : Thread Cert.TokensReferenceIdeal.nD Cert.TokensReferenceIdeal.τ).loc Cert.TokensReferenceIdeal.main_arg1)
          ∧ r.2.mem ((c.tc : Thread Cert.TokensReferenceIdeal.nD Cert.TokensReferenceIdeal.τ).loc Cert.TokensReferenceIdeal.main_arg2) = m' ((c.tc : Thread Cert.TokensReferenceIdeal.nD Cert.TokensReferenceIdeal.τ).loc Cert.TokensReferenceIdeal.main_arg2)
          ∧ r.2.mem ((c.tc : Thread Cert.TokensReferenceIdeal.nD Cert.TokensReferenceIdeal.τ).loc Cert.TokensReferenceIdeal.main_arg3) = m' ((c.tc : Thread Cert.TokensReferenceIdeal.nD Cert.TokensReferenceIdeal.τ).loc Cert.TokensReferenceIdeal.main_arg3))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)
      ∧ m' ((c.tc : Thread Cert.HeadsReferenceIdeal.nD Cert.HeadsReferenceIdeal.τ).loc Cert.HeadsReferenceIdeal.main_arg3) = m ((c.tc : Thread Cert.HeadsIdeal.nD Cert.HeadsIdeal.τ).loc Cert.HeadsIdeal.main_arg3)
      ∧ m' ((c.tc : Thread Cert.HeadsReferenceIdeal.nD Cert.HeadsReferenceIdeal.τ).loc Cert.HeadsReferenceIdeal.main_arg4) = m ((c.tc : Thread Cert.HeadsIdeal.nD Cert.HeadsIdeal.τ).loc Cert.HeadsIdeal.main_arg4)
      ∧ m' ((c.tc : Thread Cert.HeadsReferenceIdeal.nD Cert.HeadsReferenceIdeal.τ).loc Cert.HeadsReferenceIdeal.main_arg5) = m ((c.tc : Thread Cert.HeadsIdeal.nD Cert.HeadsIdeal.τ).loc Cert.HeadsIdeal.main_arg5)
      ∧ m' ((c.tc : Thread Cert.HeadsReferenceIdeal.nD Cert.HeadsReferenceIdeal.τ).loc Cert.HeadsReferenceIdeal.main_arg6) = m ((c.tc : Thread Cert.HeadsIdeal.nD Cert.HeadsIdeal.τ).loc Cert.HeadsIdeal.main_arg6)
      ∧ m' ((c.tc : Thread Cert.HeadsReferenceIdeal.nD Cert.HeadsReferenceIdeal.τ).loc Cert.HeadsReferenceIdeal.main_arg7) = m ((c.tc : Thread Cert.HeadsIdeal.nD Cert.HeadsIdeal.τ).loc Cert.HeadsIdeal.main_arg7)) →
    ∃ (v0 : (c : Dev Cert.HeadsIdeal.nD) → Buf (Elt Ideal) ((c.tc : Thread Cert.HeadsIdeal.nD Cert.HeadsIdeal.τ).loc Cert.HeadsIdeal.main_v18_0)) (v1 : (c : Dev Cert.HeadsIdeal.nD) → Buf (Elt Ideal) ((c.tc : Thread Cert.HeadsIdeal.nD Cert.HeadsIdeal.τ).loc Cert.HeadsIdeal.main_v18_1)) (v2 : (c : Dev Cert.HeadsIdeal.nD) → Buf (Elt Ideal) ((c.tc : Thread Cert.HeadsIdeal.nD Cert.HeadsIdeal.τ).loc Cert.HeadsIdeal.main_v18_2)) (v3 : (c : Dev Cert.HeadsIdeal.nD) → Buf (Elt Ideal) ((c.tc : Thread Cert.HeadsIdeal.nD Cert.HeadsIdeal.τ).loc Cert.HeadsIdeal.main_v18_3)) (v4 : (c : Dev Cert.HeadsIdeal.nD) → Buf (Elt Ideal) ((c.tc : Thread Cert.HeadsIdeal.nD Cert.HeadsIdeal.τ).loc Cert.HeadsIdeal.main_v18_4)) (v5 : (c : Dev Cert.HeadsIdeal.nD) → Buf (Elt Ideal) ((c.tc : Thread Cert.HeadsIdeal.nD Cert.HeadsIdeal.τ).loc Cert.HeadsIdeal.main_v18_5)) (v6 : (c : Dev Cert.HeadsIdeal.nD) → Buf (Elt Ideal) ((c.tc : Thread Cert.HeadsIdeal.nD Cert.HeadsIdeal.τ).loc Cert.HeadsIdeal.main_v18_6)) (v7 : (c : Dev Cert.HeadsIdeal.nD) → Buf (Elt Ideal) ((c.tc : Thread Cert.HeadsIdeal.nD Cert.HeadsIdeal.τ).loc Cert.HeadsIdeal.main_v18_7)) (v8 : (c : Dev Cert.HeadsIdeal.nD) → Buf (Elt Ideal) ((c.tc : Thread Cert.HeadsIdeal.nD Cert.HeadsIdeal.τ).loc Cert.HeadsIdeal.main_v18_8)) (v9 : (c : Dev Cert.HeadsIdeal.nD) → Buf (Elt Ideal) ((c.tc : Thread Cert.HeadsIdeal.nD Cert.HeadsIdeal.τ).loc Cert.HeadsIdeal.main_v18_9)) (v10 : (c : Dev Cert.HeadsIdeal.nD) → Buf (Elt Ideal) ((c.tc : Thread Cert.HeadsIdeal.nD Cert.HeadsIdeal.τ).loc Cert.HeadsIdeal.main_v18_10)) (v11 : (c : Dev Cert.HeadsIdeal.nD) → Buf (Elt Ideal) ((c.tc : Thread Cert.HeadsIdeal.nD Cert.HeadsIdeal.τ).loc Cert.HeadsIdeal.main_v18_11)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v18_0) = v0 c
          ∧ r.2.mem ((c.tc : Thread Cert.HeadsIdeal.nD Cert.HeadsIdeal.τ).loc Cert.HeadsIdeal.main_v18_1) = v1 c
          ∧ r.2.mem ((c.tc : Thread Cert.HeadsIdeal.nD Cert.HeadsIdeal.τ).loc Cert.HeadsIdeal.main_v18_2) = v2 c
          ∧ r.2.mem ((c.tc : Thread Cert.HeadsIdeal.nD Cert.HeadsIdeal.τ).loc Cert.HeadsIdeal.main_v18_3) = v3 c
          ∧ r.2.mem ((c.tc : Thread Cert.HeadsIdeal.nD Cert.HeadsIdeal.τ).loc Cert.HeadsIdeal.main_v18_4) = v4 c
          ∧ r.2.mem ((c.tc : Thread Cert.HeadsIdeal.nD Cert.HeadsIdeal.τ).loc Cert.HeadsIdeal.main_v18_5) = v5 c
          ∧ r.2.mem ((c.tc : Thread Cert.HeadsIdeal.nD Cert.HeadsIdeal.τ).loc Cert.HeadsIdeal.main_v18_6) = v6 c
          ∧ r.2.mem ((c.tc : Thread Cert.HeadsIdeal.nD Cert.HeadsIdeal.τ).loc Cert.HeadsIdeal.main_v18_7) = v7 c
          ∧ r.2.mem ((c.tc : Thread Cert.HeadsIdeal.nD Cert.HeadsIdeal.τ).loc Cert.HeadsIdeal.main_v18_8) = v8 c
          ∧ r.2.mem ((c.tc : Thread Cert.HeadsIdeal.nD Cert.HeadsIdeal.τ).loc Cert.HeadsIdeal.main_v18_9) = v9 c
          ∧ r.2.mem ((c.tc : Thread Cert.HeadsIdeal.nD Cert.HeadsIdeal.τ).loc Cert.HeadsIdeal.main_v18_10) = v10 c
          ∧ r.2.mem ((c.tc : Thread Cert.HeadsIdeal.nD Cert.HeadsIdeal.τ).loc Cert.HeadsIdeal.main_v18_11) = v11 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v14_0) = v0 c
          ∧ r.2.mem ((c.tc : Thread Cert.HeadsReferenceIdeal.nD Cert.HeadsReferenceIdeal.τ).loc Cert.HeadsReferenceIdeal.main_v14_1) = v1 c
          ∧ r.2.mem ((c.tc : Thread Cert.HeadsReferenceIdeal.nD Cert.HeadsReferenceIdeal.τ).loc Cert.HeadsReferenceIdeal.main_v14_2) = v2 c
          ∧ r.2.mem ((c.tc : Thread Cert.HeadsReferenceIdeal.nD Cert.HeadsReferenceIdeal.τ).loc Cert.HeadsReferenceIdeal.main_v14_3) = v3 c
          ∧ r.2.mem ((c.tc : Thread Cert.HeadsReferenceIdeal.nD Cert.HeadsReferenceIdeal.τ).loc Cert.HeadsReferenceIdeal.main_v14_4) = v4 c
          ∧ r.2.mem ((c.tc : Thread Cert.HeadsReferenceIdeal.nD Cert.HeadsReferenceIdeal.τ).loc Cert.HeadsReferenceIdeal.main_v14_5) = v5 c
          ∧ r.2.mem ((c.tc : Thread Cert.HeadsReferenceIdeal.nD Cert.HeadsReferenceIdeal.τ).loc Cert.HeadsReferenceIdeal.main_v14_6) = v6 c
          ∧ r.2.mem ((c.tc : Thread Cert.HeadsReferenceIdeal.nD Cert.HeadsReferenceIdeal.τ).loc Cert.HeadsReferenceIdeal.main_v14_7) = v7 c
          ∧ r.2.mem ((c.tc : Thread Cert.HeadsReferenceIdeal.nD Cert.HeadsReferenceIdeal.τ).loc Cert.HeadsReferenceIdeal.main_v14_8) = v8 c
          ∧ r.2.mem ((c.tc : Thread Cert.HeadsReferenceIdeal.nD Cert.HeadsReferenceIdeal.τ).loc Cert.HeadsReferenceIdeal.main_v14_9) = v9 c
          ∧ r.2.mem ((c.tc : Thread Cert.HeadsReferenceIdeal.nD Cert.HeadsReferenceIdeal.τ).loc Cert.HeadsReferenceIdeal.main_v14_10) = v10 c
          ∧ r.2.mem ((c.tc : Thread Cert.HeadsReferenceIdeal.nD Cert.HeadsReferenceIdeal.τ).loc Cert.HeadsReferenceIdeal.main_v14_11) = v11 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3)
          ∧ r.2.mem ((c.tc : Thread Cert.HeadsReferenceIdeal.nD Cert.HeadsReferenceIdeal.τ).loc Cert.HeadsReferenceIdeal.main_arg4) = m' ((c.tc : Thread Cert.HeadsReferenceIdeal.nD Cert.HeadsReferenceIdeal.τ).loc Cert.HeadsReferenceIdeal.main_arg4)
          ∧ r.2.mem ((c.tc : Thread Cert.HeadsReferenceIdeal.nD Cert.HeadsReferenceIdeal.τ).loc Cert.HeadsReferenceIdeal.main_arg5) = m' ((c.tc : Thread Cert.HeadsReferenceIdeal.nD Cert.HeadsReferenceIdeal.τ).loc Cert.HeadsReferenceIdeal.main_arg5)
          ∧ r.2.mem ((c.tc : Thread Cert.HeadsReferenceIdeal.nD Cert.HeadsReferenceIdeal.τ).loc Cert.HeadsReferenceIdeal.main_arg6) = m' ((c.tc : Thread Cert.HeadsReferenceIdeal.nD Cert.HeadsReferenceIdeal.τ).loc Cert.HeadsReferenceIdeal.main_arg6)
          ∧ r.2.mem ((c.tc : Thread Cert.HeadsReferenceIdeal.nD Cert.HeadsReferenceIdeal.τ).loc Cert.HeadsReferenceIdeal.main_arg7) = m' ((c.tc : Thread Cert.HeadsReferenceIdeal.nD Cert.HeadsReferenceIdeal.τ).loc Cert.HeadsReferenceIdeal.main_arg7))

def Claim : Prop :=
  ∃ (hKernel : Cert.Kernel.Facts) (hKernelIdeal : Cert.KernelIdeal.Facts) (hReferenceIdeal : Cert.ReferenceIdeal.Facts) (hTokens : Cert.Tokens.Facts) (hTokensIdeal : Cert.TokensIdeal.Facts) (hTokensReferenceIdeal : Cert.TokensReferenceIdeal.Facts) (hHeads : Cert.Heads.Facts) (hHeadsIdeal : Cert.HeadsIdeal.Facts) (hHeadsReferenceIdeal : Cert.HeadsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Tokens (hTokens := hTokens)
    ∧ quiescent_TokensIdeal (hTokensIdeal := hTokensIdeal)
    ∧ quiescent_TokensReferenceIdeal (hTokensReferenceIdeal := hTokensReferenceIdeal)
    ∧ quiescent_Heads (hHeads := hHeads)
    ∧ quiescent_HeadsIdeal (hHeadsIdeal := hHeadsIdeal)
    ∧ quiescent_HeadsReferenceIdeal (hHeadsReferenceIdeal := hHeadsReferenceIdeal)
    ∧ preserves_Kernel_KernelIdeal
    ∧ algebraic_KernelIdeal_ReferenceIdeal (hKernelIdeal := hKernelIdeal) (hReferenceIdeal := hReferenceIdeal)
    ∧ preserves_Tokens_TokensIdeal
    ∧ algebraic_TokensIdeal_TokensReferenceIdeal (hTokensIdeal := hTokensIdeal) (hTokensReferenceIdeal := hTokensReferenceIdeal)
    ∧ preserves_Heads_HeadsIdeal
    ∧ algebraic_HeadsIdeal_HeadsReferenceIdeal (hHeadsIdeal := hHeadsIdeal) (hHeadsReferenceIdeal := hHeadsReferenceIdeal)
-- ==== Kernel.lean ====
abbrev S6x5x144x768 : Shape := ⟨4, ![6, 5, 144, 768]⟩
abbrev S6x256x768 : Shape := ⟨3, ![6, 256, 768]⟩
abbrev S6x5x16x768 : Shape := ⟨4, ![6, 5, 16, 768]⟩
abbrev S768 : Shape := ⟨1, ![768]⟩
abbrev S8x96x768 : Shape := ⟨3, ![8, 96, 768]⟩
abbrev S768x3072 : Shape := ⟨2, ![768, 3072]⟩
abbrev S3072 : Shape := ⟨1, ![3072]⟩
abbrev S3072x768 : Shape := ⟨2, ![3072, 768]⟩
abbrev S6x128x768 : Shape := ⟨3, ![6, 128, 768]⟩
abbrev S6x5x128x768 : Shape := ⟨4, ![6, 5, 128, 768]⟩
abbrev S6x5x768x128 : Shape := ⟨4, ![6, 5, 768, 128]⟩
abbrev S6x80x768 : Shape := ⟨3, ![6, 80, 768]⟩
abbrev S6x768x80 : Shape := ⟨3, ![6, 768, 80]⟩
abbrev S_ : Shape := ⟨0, ![]⟩
abbrev S6x768x128 : Shape := ⟨3, ![6, 768, 128]⟩
abbrev S1x768 : Shape := ⟨2, ![1, 768]⟩
abbrev S768x768 : Shape := ⟨2, ![768, 768]⟩
abbrev S1x3072 : Shape := ⟨2, ![1, 3072]⟩
abbrev S6x5x144 : Shape := ⟨3, ![6, 5, 144]⟩
abbrev S6x5x144x3072 : Shape := ⟨4, ![6, 5, 144, 3072]⟩
abbrev S1x5x16x768 : Shape := ⟨4, ![1, 5, 16, 768]⟩
abbrev S1x128x768 : Shape := ⟨3, ![1, 128, 768]⟩
abbrev S1x5x768x128 : Shape := ⟨4, ![1, 5, 768, 128]⟩
abbrev S1x768x128 : Shape := ⟨3, ![1, 768, 128]⟩
abbrev S1x5x144x768 : Shape := ⟨4, ![1, 5, 144, 768]⟩
abbrev S1x5x144 : Shape := ⟨3, ![1, 5, 144]⟩
abbrev S1x5x144x3072 : Shape := ⟨4, ![1, 5, 144, 3072]⟩
abbrev S144x3072 : Shape := ⟨2, ![144, 3072]⟩
abbrev S768x128 : Shape := ⟨2, ![768, 128]⟩
abbrev S128x768 : Shape := ⟨2, ![128, 768]⟩
abbrev S144x128 : Shape := ⟨2, ![144, 128]⟩
abbrev S16x768 : Shape := ⟨2, ![16, 768]⟩
abbrev S5x768x128 : Shape := ⟨3, ![5, 768, 128]⟩
abbrev S144x768 : Shape := ⟨2, ![144, 768]⟩
abbrev S1x1x144x768 : Shape := ⟨4, ![1, 1, 144, 768]⟩
abbrev S144 : Shape := ⟨1, ![144]⟩
abbrev S144x1 : Shape := ⟨2, ![144, 1]⟩
abbrev S1x1x16x768 : Shape := ⟨4, ![1, 1, 16, 768]⟩
abbrev S768x512 : Shape := ⟨2, ![768, 512]⟩
abbrev S144x512 : Shape := ⟨2, ![144, 512]⟩
abbrev S1x512 : Shape := ⟨2, ![1, 512]⟩
abbrev S1x1x144x512 : Shape := ⟨4, ![1, 1, 144, 512]⟩
abbrev S128x144 : Shape := ⟨2, ![128, 144]⟩
abbrev S1x144 : Shape := ⟨2, ![1, 144]⟩
abbrev S1x1x144 : Shape := ⟨3, ![1, 1, 144]⟩

abbrev nBuf : Space → Nat
  | .hbm => 34
  | .vmem => 37
  | .smem => 0
  | _ => 0

abbrev bufTy : (tb : Table) → Fin (tcTables nBuf tb) → BufTy
  | .hbm, ⟨0, _⟩ => ⟨S6x5x144x768, .f32⟩
  | .hbm, ⟨1, _⟩ => ⟨S6x256x768, .f32⟩
  | .hbm, ⟨2, _⟩ => ⟨S6x5x16x768, .bf16⟩
  | .hbm, ⟨3, _⟩ => ⟨S768, .f32⟩
  | .hbm, ⟨4, _⟩ => ⟨S768, .f32⟩
  | .hbm, ⟨5, _⟩ => ⟨S8x96x768, .i8⟩
  | .hbm, ⟨6, _⟩ => ⟨S768, .f32⟩
  | .hbm, ⟨7, _⟩ => ⟨S768x3072, .i8⟩
  | .hbm, ⟨8, _⟩ => ⟨S3072, .f32⟩
  | .hbm, ⟨9, _⟩ => ⟨S3072x768, .i8⟩
  | .hbm, ⟨10, _⟩ => ⟨S768, .f32⟩
  | .hbm, ⟨11, _⟩ => ⟨S6x128x768, .f32⟩
  | .hbm, ⟨12, _⟩ => ⟨S6x5x128x768, .f32⟩
  | .hbm, ⟨13, _⟩ => ⟨S6x5x768x128, .f32⟩
  | .hbm, ⟨14, _⟩ => ⟨S6x5x16x768, .f32⟩
  | .hbm, ⟨15, _⟩ => ⟨S6x80x768, .f32⟩
  | .hbm, ⟨16, _⟩ => ⟨S6x768x80, .f32⟩
  | .hbm, ⟨17, _⟩ => ⟨S_, .i32⟩
  | .hbm, ⟨18, _⟩ => ⟨S_, .f32⟩
  | .hbm, ⟨19, _⟩ => ⟨S6x768x128, .f32⟩
  | .hbm, ⟨20, _⟩ => ⟨S1x768, .f32⟩
  | .hbm, ⟨21, _⟩ => ⟨S1x768, .f32⟩
  | .hbm, ⟨22, _⟩ => ⟨S768x768, .i8⟩
  | .hbm, ⟨23, _⟩ => ⟨S1x768, .f32⟩
  | .hbm, ⟨24, _⟩ => ⟨S1x3072, .f32⟩
  | .hbm, ⟨25, _⟩ => ⟨S1x768, .f32⟩
  | .hbm, ⟨26, _⟩ => ⟨S6x5x144x768, .bf16⟩
  | .hbm, ⟨27, _⟩ => ⟨S6x5x144x768, .bf16⟩
  | .hbm, ⟨28, _⟩ => ⟨S6x5x144x768, .i8⟩
  | .hbm, ⟨29, _⟩ => ⟨S6x5x144, .f32⟩
  | .hbm, ⟨30, _⟩ => ⟨S6x5x144x768, .i8⟩
  | .hbm, ⟨31, _⟩ => ⟨S6x5x144, .f32⟩
  | .hbm, ⟨32, _⟩ => ⟨S6x5x144x3072, .i8⟩
  | .hbm, ⟨33, _⟩ => ⟨S6x5x144, .f32⟩
  | .local _ .vmem, ⟨0, _⟩ => ⟨S1x5x16x768, .bf16⟩
  | .local _ .vmem, ⟨1, _⟩ => ⟨S1x5x16x768, .bf16⟩
  | .local _ .vmem, ⟨2, _⟩ => ⟨S1x768, .f32⟩
  | .local _ .vmem, ⟨3, _⟩ => ⟨S1x768, .f32⟩
  | .local _ .vmem, ⟨4, _⟩ => ⟨S768x768, .i8⟩
  | .local _ .vmem, ⟨5, _⟩ => ⟨S1x768, .f32⟩
  | .local _ .vmem, ⟨6, _⟩ => ⟨S768x3072, .i8⟩
  | .local _ .vmem, ⟨7, _⟩ => ⟨S1x3072, .f32⟩
  | .local _ .vmem, ⟨8, _⟩ => ⟨S3072x768, .i8⟩
  | .local _ .vmem, ⟨9, _⟩ => ⟨S1x768, .f32⟩
  | .local _ .vmem, ⟨10, _⟩ => ⟨S1x128x768, .f32⟩
  | .local _ .vmem, ⟨11, _⟩ => ⟨S1x128x768, .f32⟩
  | .local _ .vmem, ⟨12, _⟩ => ⟨S1x5x768x128, .f32⟩
  | .local _ .vmem, ⟨13, _⟩ => ⟨S1x5x768x128, .f32⟩
  | .local _ .vmem, ⟨14, _⟩ => ⟨S1x768x128, .f32⟩
  | .local _ .vmem, ⟨15, _⟩ => ⟨S1x768x128, .f32⟩
  | .local _ .vmem, ⟨16, _⟩ => ⟨S1x5x144x768, .bf16⟩
  | .local _ .vmem, ⟨17, _⟩ => ⟨S1x5x144x768, .bf16⟩
  | .local _ .vmem, ⟨18, _⟩ => ⟨S1x5x144x768, .bf16⟩
  | .local _ .vmem, ⟨19, _⟩ => ⟨S1x5x144x768, .bf16⟩
  | .local _ .vmem, ⟨20, _⟩ => ⟨S1x5x144x768, .i8⟩
  | .local _ .vmem, ⟨21, _⟩ => ⟨S1x5x144x768, .i8⟩
  | .local _ .vmem, ⟨22, _⟩ => ⟨S1x5x144, .f32⟩
  | .local _ .vmem, ⟨23, _⟩ => ⟨S1x5x144, .f32⟩
  | .local _ .vmem, ⟨24, _⟩ => ⟨S1x5x144x768, .i8⟩
  | .local _ .vmem, ⟨25, _⟩ => ⟨S1x5x144x768, .i8⟩
  | .local _ .vmem, ⟨26, _⟩ => ⟨S1x5x144, .f32⟩
  | .local _ .vmem, ⟨27, _⟩ => ⟨S1x5x144, .f32⟩
  | .local _ .vmem, ⟨28, _⟩ => ⟨S1x5x144x3072, .i8⟩
  | .local _ .vmem, ⟨29, _⟩ => ⟨S1x5x144x3072, .i8⟩
  | .local _ .vmem, ⟨30, _⟩ => ⟨S1x5x144, .f32⟩
  | .local _ .vmem, ⟨31, _⟩ => ⟨S1x5x144, .f32⟩
  | .local _ .vmem, ⟨32, _⟩ => ⟨S144x3072, .f32⟩
  | .local _ .vmem, ⟨33, _⟩ => ⟨S144x3072, .bf16⟩
  | .local _ .vmem, ⟨34, _⟩ => ⟨S768x768, .bf16⟩
  | .local _ .vmem, ⟨35, _⟩ => ⟨S768x3072, .bf16⟩
  | .local _ .vmem, ⟨36, _⟩ => ⟨S3072x768, .bf16⟩
  | _, _ => ⟨S6x5x144x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev main_v13_5 : Ref sig .tc := ⟨.hbm, 31, rfl⟩
abbrev main_v13_6 : Ref sig .tc := ⟨.hbm, 32, rfl⟩
abbrev main_v13_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![6], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5x16x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x3072 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x768 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x5x768x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x768x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x5x144x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x5x144x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x5x144x768 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x5x144 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x5x144x768 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x5x144 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x5x144x3072 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x5x144 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S6x5x144x768 : Shape := ⟨4, ![6, 5, 144, 768]⟩
abbrev S6x256x768 : Shape := ⟨3, ![6, 256, 768]⟩
abbrev S6x5x16x768 : Shape := ⟨4, ![6, 5, 16, 768]⟩
abbrev S768 : Shape := ⟨1, ![768]⟩
abbrev S8x96x768 : Shape := ⟨3, ![8, 96, 768]⟩
abbrev S768x3072 : Shape := ⟨2, ![768, 3072]⟩
abbrev S3072 : Shape := ⟨1, ![3072]⟩
abbrev S3072x768 : Shape := ⟨2, ![3072, 768]⟩
abbrev S768x768 : Shape := ⟨2, ![768, 768]⟩
abbrev S6x5x144 : Shape := ⟨3, ![6, 5, 144]⟩
abbrev S6x5x144x3072 : Shape := ⟨4, ![6, 5, 144, 3072]⟩
abbrev S6x128x768 : Shape := ⟨3, ![6, 128, 768]⟩
abbrev S6x1x128x768 : Shape := ⟨4, ![6, 1, 128, 768]⟩
abbrev S6x5x128x768 : Shape := ⟨4, ![6, 5, 128, 768]⟩
abbrev S6x5x144x1 : Shape := ⟨4, ![6, 5, 144, 1]⟩
abbrev S4320x768 : Shape := ⟨2, ![4320, 768]⟩
abbrev S1x1x1x768 : Shape := ⟨4, ![1, 1, 1, 768]⟩
abbrev S4320x3072 : Shape := ⟨2, ![4320, 3072]⟩
abbrev S1x1x1x3072 : Shape := ⟨4, ![1, 1, 1, 3072]⟩

abbrev nBuf : Space → Nat
  | .hbm => 20
  | .vmem => 19
  | .smem => 0
  | _ => 0

abbrev bufTy : (tb : Table) → Fin (tcTables nBuf tb) → BufTy
  | .hbm, ⟨0, _⟩ => ⟨S6x5x144x768, .f32⟩
  | .hbm, ⟨1, _⟩ => ⟨S6x256x768, .f32⟩
  | .hbm, ⟨2, _⟩ => ⟨S6x5x16x768, .bf16⟩
  | .hbm, ⟨3, _⟩ => ⟨S768, .f32⟩
  | .hbm, ⟨4, _⟩ => ⟨S768, .f32⟩
  | .hbm, ⟨5, _⟩ => ⟨S8x96x768, .i8⟩
  | .hbm, ⟨6, _⟩ => ⟨S768, .f32⟩
  | .hbm, ⟨7, _⟩ => ⟨S768x3072, .i8⟩
  | .hbm, ⟨8, _⟩ => ⟨S3072, .f32⟩
  | .hbm, ⟨9, _⟩ => ⟨S3072x768, .i8⟩
  | .hbm, ⟨10, _⟩ => ⟨S768, .f32⟩
  | .hbm, ⟨11, _⟩ => ⟨S768x768, .i8⟩
  | .hbm, ⟨12, _⟩ => ⟨S6x5x144x768, .bf16⟩
  | .hbm, ⟨13, _⟩ => ⟨S6x5x144x768, .bf16⟩
  | .hbm, ⟨14, _⟩ => ⟨S6x5x144x768, .i8⟩
  | .hbm, ⟨15, _⟩ => ⟨S6x5x144, .f32⟩
  | .hbm, ⟨16, _⟩ => ⟨S6x5x144x768, .i8⟩
  | .hbm, ⟨17, _⟩ => ⟨S6x5x144, .f32⟩
  | .hbm, ⟨18, _⟩ => ⟨S6x5x144x3072, .i8⟩
  | .hbm, ⟨19, _⟩ => ⟨S6x5x144, .f32⟩
  | .local _ .vmem, ⟨0, _⟩ => ⟨S6x5x144x768, .f32⟩
  | .local _ .vmem, ⟨1, _⟩ => ⟨S6x256x768, .f32⟩
  | .local _ .vmem, ⟨2, _⟩ => ⟨S6x5x16x768, .bf16⟩
  | .local _ .vmem, ⟨3, _⟩ => ⟨S768, .f32⟩
  | .local _ .vmem, ⟨4, _⟩ => ⟨S768, .f32⟩
  | .local _ .vmem, ⟨5, _⟩ => ⟨S768x768, .i8⟩
  | .local _ .vmem, ⟨6, _⟩ => ⟨S768, .f32⟩
  | .local _ .vmem, ⟨7, _⟩ => ⟨S768x3072, .i8⟩
  | .local _ .vmem, ⟨8, _⟩ => ⟨S3072, .f32⟩
  | .local _ .vmem, ⟨9, _⟩ => ⟨S3072x768, .i8⟩
  | .local _ .vmem, ⟨10, _⟩ => ⟨S768, .f32⟩
  | .local _ .vmem, ⟨11, _⟩ => ⟨S6x5x144x768, .bf16⟩
  | .local _ .vmem, ⟨12, _⟩ => ⟨S6x5x144x768, .bf16⟩
  | .local _ .vmem, ⟨13, _⟩ => ⟨S6x5x144x768, .i8⟩
  | .local _ .vmem, ⟨14, _⟩ => ⟨S6x5x144, .f32⟩
  | .local _ .vmem, ⟨15, _⟩ => ⟨S6x5x144x768, .i8⟩
  | .local _ .vmem, ⟨16, _⟩ => ⟨S6x5x144, .f32⟩
  | .local _ .vmem, ⟨17, _⟩ => ⟨S6x5x144x3072, .i8⟩
  | .local _ .vmem, ⟨18, _⟩ => ⟨S6x5x144, .f32⟩
  | _, _ => ⟨S6x5x144x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S6x5x144x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x5x16x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x3072 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x768 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x5x144x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x5x144x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x5x144x768 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x5x144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x5x144x768 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x5x144 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x5x144x3072 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S6x5x144 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Tokens.lean ====
abbrev S6x256x768 : Shape := ⟨3, ![6, 256, 768]⟩
abbrev S6x5x16x768 : Shape := ⟨4, ![6, 5, 16, 768]⟩
abbrev S768 : Shape := ⟨1, ![768]⟩
abbrev S768x1 : Shape := ⟨2, ![768, 1]⟩
abbrev S768x128 : Shape := ⟨2, ![768, 128]⟩
abbrev S6x768x256 : Shape := ⟨3, ![6, 768, 256]⟩
abbrev S6x5x16 : Shape := ⟨3, ![6, 5, 16]⟩
abbrev S6x256 : Shape := ⟨2, ![6, 256]⟩
abbrev S1x5x16x768 : Shape := ⟨4, ![1, 5, 16, 768]⟩
abbrev S1x768x256 : Shape := ⟨3, ![1, 768, 256]⟩
abbrev S1x256x768 : Shape := ⟨3, ![1, 256, 768]⟩
abbrev S1x5x16 : Shape := ⟨3, ![1, 5, 16]⟩
abbrev S768x384 : Shape := ⟨2, ![768, 384]⟩
abbrev S1x384 : Shape := ⟨2, ![1, 384]⟩
abbrev S128x768 : Shape := ⟨2, ![128, 768]⟩
abbrev S1x768x128 : Shape := ⟨3, ![1, 768, 128]⟩
abbrev S5x16x768 : Shape := ⟨3, ![5, 16, 768]⟩
abbrev S80x768 : Shape := ⟨2, ![80, 768]⟩
abbrev S48x768 : Shape := ⟨2, ![48, 768]⟩
abbrev S1x128x768 : Shape := ⟨3, ![1, 128, 768]⟩
abbrev S128 : Shape := ⟨1, ![128]⟩
abbrev S1x128 : Shape := ⟨2, ![1, 128]⟩
abbrev S6x128 : Shape := ⟨2, ![6, 128]⟩
abbrev S1x16 : Shape := ⟨2, ![1, 16]⟩
abbrev S1x1x16 : Shape := ⟨3, ![1, 1, 16]⟩

abbrev nBuf : Space → Nat
  | .hbm => 14
  | .vmem => 19
  | .smem => 0
  | _ => 0

abbrev bufTy : (tb : Table) → Fin (tcTables nBuf tb) → BufTy
  | .hbm, ⟨0, _⟩ => ⟨S6x256x768, .f32⟩
  | .hbm, ⟨1, _⟩ => ⟨S6x5x16x768, .bf16⟩
  | .hbm, ⟨2, _⟩ => ⟨S768, .f32⟩
  | .hbm, ⟨3, _⟩ => ⟨S768, .f32⟩
  | .hbm, ⟨4, _⟩ => ⟨S768x1, .f32⟩
  | .hbm, ⟨5, _⟩ => ⟨S768x128, .f32⟩
  | .hbm, ⟨6, _⟩ => ⟨S768x1, .f32⟩
  | .hbm, ⟨7, _⟩ => ⟨S768x128, .f32⟩
  | .hbm, ⟨8, _⟩ => ⟨S6x768x256, .f32⟩
  | .hbm, ⟨9, _⟩ => ⟨S6x256x768, .bf16⟩
  | .hbm, ⟨10, _⟩ => ⟨S6x5x16x768, .i8⟩
  | .hbm, ⟨11, _⟩ => ⟨S6x5x16, .f32⟩
  | .hbm, ⟨12, _⟩ => ⟨S6x256x768, .i8⟩
  | .hbm, ⟨13, _⟩ => ⟨S6x256, .f32⟩
  | .local _ .vmem, ⟨0, _⟩ => ⟨S1x5x16x768, .bf16⟩
  | .local _ .vmem, ⟨1, _⟩ => ⟨S1x5x16x768, .bf16⟩
  | .local _ .vmem, ⟨2, _⟩ => ⟨S768x128, .f32⟩
  | .local _ .vmem, ⟨3, _⟩ => ⟨S768x128, .f32⟩
  | .local _ .vmem, ⟨4, _⟩ => ⟨S1x768x256, .f32⟩
  | .local _ .vmem, ⟨5, _⟩ => ⟨S1x768x256, .f32⟩
  | .local _ .vmem, ⟨6, _⟩ => ⟨S1x256x768, .bf16⟩
  | .local _ .vmem, ⟨7, _⟩ => ⟨S1x256x768, .bf16⟩
  | .local _ .vmem, ⟨8, _⟩ => ⟨S1x5x16x768, .i8⟩
  | .local _ .vmem, ⟨9, _⟩ => ⟨S1x5x16x768, .i8⟩
  | .local _ .vmem, ⟨10, _⟩ => ⟨S1x5x16, .f32⟩
  | .local _ .vmem, ⟨11, _⟩ => ⟨S1x5x16, .f32⟩
  | .local _ .vmem, ⟨12, _⟩ => ⟨S1x256x768, .i8⟩
  | .local _ .vmem, ⟨13, _⟩ => ⟨S1x256x768, .i8⟩
  | .local _ .vmem, ⟨14, _⟩ => ⟨S6x256, .f32⟩
  | .local _ .vmem, ⟨15, _⟩ => ⟨S768x384, .f32⟩
  | .local _ .vmem, ⟨16, _⟩ => ⟨S768x384, .bf16⟩
  | .local _ .vmem, ⟨17, _⟩ => ⟨S1x384, .f32⟩
  | .local _ .vmem, ⟨18, _⟩ => ⟨S128x768, .f32⟩
  | _, _ => ⟨S6x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x5x16x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x5x16x768 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== TokensReferenceIdeal.lean ====
abbrev S6x256x768 : Shape := ⟨3, ![6, 256, 768]⟩
abbrev S6x5x16x768 : Shape := ⟨4, ![6, 5, 16, 768]⟩
abbrev S768 : Shape := ⟨1, ![768]⟩
abbrev S6x5x16 : Shape := ⟨3, ![6, 5, 16]⟩
abbrev S6x256 : Shape := ⟨2, ![6, 256]⟩
abbrev S6x5x16x1 : Shape := ⟨4, ![6, 5, 16, 1]⟩
abbrev S1x1x1x768 : Shape := ⟨4, ![1, 1, 1, 768]⟩
abbrev S6x256x1 : Shape := ⟨3, ![6, 256, 1]⟩
abbrev S1x1x768 : Shape := ⟨3, ![1, 1, 768]⟩

abbrev nBuf : Space → Nat
  | .hbm => 9
  | .vmem => 9
  | .smem => 0
  | _ => 0

abbrev bufTy : (tb : Table) → Fin (tcTables nBuf tb) → BufTy
  | .hbm, ⟨0, _⟩ => ⟨S6x256x768, .f32⟩
  | .hbm, ⟨1, _⟩ => ⟨S6x5x16x768, .bf16⟩
  | .hbm, ⟨2, _⟩ => ⟨S768, .f32⟩
  | .hbm, ⟨3, _⟩ => ⟨S768, .f32⟩
  | .hbm, ⟨4, _⟩ => ⟨S6x256x768, .bf16⟩
  | .hbm, ⟨5, _⟩ => ⟨S6x5x16x768, .i8⟩
  | .hbm, ⟨6, _⟩ => ⟨S6x5x16, .f32⟩
  | .hbm, ⟨7, _⟩ => ⟨S6x256x768, .i8⟩
  | .hbm, ⟨8, _⟩ => ⟨S6x256, .f32⟩
  | .local _ .vmem, ⟨0, _⟩ => ⟨S6x256x768, .f32⟩
  | .local _ .vmem, ⟨1, _⟩ => ⟨S6x5x16x768, .bf16⟩
  | .local _ .vmem, ⟨2, _⟩ => ⟨S768, .f32⟩
  | .local _ .vmem, ⟨3, _⟩ => ⟨S768, .f32⟩
  | .local _ .vmem, ⟨4, _⟩ => ⟨S6x256x768, .bf16⟩
  | .local _ .vmem, ⟨5, _⟩ => ⟨S6x5x16x768, .i8⟩
  | .local _ .vmem, ⟨6, _⟩ => ⟨S6x5x16, .f32⟩
  | .local _ .vmem, ⟨7, _⟩ => ⟨S6x256x768, .i8⟩
  | .local _ .vmem, ⟨8, _⟩ => ⟨S6x256, .f32⟩
  | _, _ => ⟨S6x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x5x16x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x5x16x768 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x5x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x768 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Heads.lean ====
abbrev S6x5x16x768 : Shape := ⟨4, ![6, 5, 16, 768]⟩
abbrev S6x5x16 : Shape := ⟨3, ![6, 5, 16]⟩
abbrev S6x256x768 : Shape := ⟨3, ![6, 256, 768]⟩
abbrev S6x256 : Shape := ⟨2, ![6, 256]⟩
abbrev S768x2x8x96 : Shape := ⟨4, ![768, 2, 8, 96]⟩
abbrev S2x8x96 : Shape := ⟨3, ![2, 8, 96]⟩
abbrev S768x8x96 : Shape := ⟨3, ![768, 8, 96]⟩
abbrev S8x96 : Shape := ⟨2, ![8, 96]⟩
abbrev S768x1536 : Shape := ⟨2, ![768, 1536]⟩
abbrev S768x768 : Shape := ⟨2, ![768, 768]⟩
abbrev S768x2304 : Shape := ⟨2, ![768, 2304]⟩
abbrev S2304x768 : Shape := ⟨2, ![2304, 768]⟩
abbrev S1536 : Shape := ⟨1, ![1536]⟩
abbrev S768 : Shape := ⟨1, ![768]⟩
abbrev S2304 : Shape := ⟨1, ![2304]⟩
abbrev S6x80x768 : Shape := ⟨3, ![6, 80, 768]⟩
abbrev S_ : Shape := ⟨0, ![]⟩
abbrev S6x128x768 : Shape := ⟨3, ![6, 128, 768]⟩
abbrev S6x384x768 : Shape := ⟨3, ![6, 384, 768]⟩
abbrev S6x768x384 : Shape := ⟨3, ![6, 768, 384]⟩
abbrev S6x256x1 : Shape := ⟨3, ![6, 256, 1]⟩
abbrev S6x80x1 : Shape := ⟨3, ![6, 80, 1]⟩
abbrev S6x128x1 : Shape := ⟨3, ![6, 128, 1]⟩
abbrev S6x384x1 : Shape := ⟨3, ![6, 384, 1]⟩
abbrev S6x1x384 : Shape := ⟨3, ![6, 1, 384]⟩
abbrev S2304x1 : Shape := ⟨2, ![2304, 1]⟩
abbrev S2304x128 : Shape := ⟨2, ![2304, 128]⟩
abbrev S6x5x16x8x96 : Shape := ⟨5, ![6, 5, 16, 8, 96]⟩
abbrev S6x5x16x8 : Shape := ⟨4, ![6, 5, 16, 8]⟩
abbrev S6x256x8x96 : Shape := ⟨4, ![6, 256, 8, 96]⟩
abbrev S6x256x8 : Shape := ⟨3, ![6, 256, 8]⟩
abbrev S6x128x8x96 : Shape := ⟨4, ![6, 128, 8, 96]⟩
abbrev S6x128x8 : Shape := ⟨3, ![6, 128, 8]⟩
abbrev S1x768x384 : Shape := ⟨3, ![1, 768, 384]⟩
abbrev S1x1x384 : Shape := ⟨3, ![1, 1, 384]⟩
abbrev S1x5x16x8x96 : Shape := ⟨5, ![1, 5, 16, 8, 96]⟩
abbrev S1x5x16x8 : Shape := ⟨4, ![1, 5, 16, 8]⟩
abbrev S1x256x8x96 : Shape := ⟨4, ![1, 256, 8, 96]⟩
abbrev S1x256x8 : Shape := ⟨3, ![1, 256, 8]⟩
abbrev S1x128x8x96 : Shape := ⟨4, ![1, 128, 8, 96]⟩
abbrev S1x128x8 : Shape := ⟨3, ![1, 128, 8]⟩
abbrev S768x384 : Shape := ⟨2, ![768, 384]⟩
abbrev S2304x384 : Shape := ⟨2, ![2304, 384]⟩
abbrev S24x384 : Shape := ⟨2, ![24, 384]⟩
abbrev S384x128 : Shape := ⟨2, ![384, 128]⟩
abbrev S96x768 : Shape := ⟨2, ![96, 768]⟩
abbrev S96x384 : Shape := ⟨2, ![96, 384]⟩
abbrev S96x128 : Shape := ⟨2, ![96, 128]⟩
abbrev S1x384 : Shape := ⟨2, ![1, 384]⟩
abbrev S384 : Shape := ⟨1, ![384]⟩
abbrev S384x96 : Shape := ⟨2, ![384, 96]⟩
abbrev S384x1x96 : Shape := ⟨3, ![384, 1, 96]⟩
abbrev S384x8x96 : Shape := ⟨3, ![384, 8, 96]⟩
abbrev S256x8x96 : Shape := ⟨3, ![256, 8, 96]⟩
abbrev S80x8x96 : Shape := ⟨3, ![80, 8, 96]⟩
abbrev S5x16x8x96 : Shape := ⟨4, ![5, 16, 8, 96]⟩
abbrev S768x256 : Shape := ⟨2, ![768, 256]⟩
abbrev S96x256 : Shape := ⟨2, ![96, 256]⟩
abbrev S1x256 : Shape := ⟨2, ![1, 256]⟩
abbrev S256 : Shape := ⟨1, ![256]⟩
abbrev S1x128 : Shape := ⟨2, ![1, 128]⟩
abbrev S256x96 : Shape := ⟨2, ![256, 96]⟩
abbrev S256x1x96 : Shape := ⟨3, ![256, 1, 96]⟩
abbrev S128x8x96 : Shape := ⟨3, ![128, 8, 96]⟩
abbrev S104x384 : Shape := ⟨2, ![104, 384]⟩
abbrev S128x384 : Shape := ⟨2, ![128, 384]⟩
abbrev S256x8 : Shape := ⟨2, ![256, 8]⟩
abbrev S80x8 : Shape := ⟨2, ![80, 8]⟩
abbrev S5x16x8 : Shape := ⟨3, ![5, 16, 8]⟩
abbrev S128x8 : Shape := ⟨2, ![128, 8]⟩

abbrev nBuf : Space → Nat
  | .hbm => 42
  | .vmem => 35
  | .smem => 0
  | _ => 0

abbrev bufTy : (tb : Table) → Fin (tcTables nBuf tb) → BufTy
  | .hbm, ⟨0, _⟩ => ⟨S6x5x16x768, .i8⟩
  | .hbm, ⟨1, _⟩ => ⟨S6x5x16, .f32⟩
  | .hbm, ⟨2, _⟩ => ⟨S6x256x768, .i8⟩
  | .hbm, ⟨3, _⟩ => ⟨S6x256, .f32⟩
  | .hbm, ⟨4, _⟩ => ⟨S768x2x8x96, .i8⟩
  | .hbm, ⟨5, _⟩ => ⟨S2x8x96, .f32⟩
  | .hbm, ⟨6, _⟩ => ⟨S768x8x96, .i8⟩
  | .hbm, ⟨7, _⟩ => ⟨S8x96, .f32⟩
  | .hbm, ⟨8, _⟩ => ⟨S768x1536, .i8⟩
  | .hbm, ⟨9, _⟩ => ⟨S768x768, .i8⟩
  | .hbm, ⟨10, _⟩ => ⟨S768x2304, .i8⟩
  | .hbm, ⟨11, _⟩ => ⟨S2304x768, .i8⟩
  | .hbm, ⟨12, _⟩ => ⟨S1536, .f32⟩
  | .hbm, ⟨13, _⟩ => ⟨S768, .f32⟩
  | .hbm, ⟨14, _⟩ => ⟨S2304, .f32⟩
  | .hbm, ⟨15, _⟩ => ⟨S6x80x768, .i8⟩
  | .hbm, ⟨16, _⟩ => ⟨S_, .i32⟩
  | .hbm, ⟨17, _⟩ => ⟨S_, .i8⟩
  | .hbm, ⟨18, _⟩ => ⟨S6x128x768, .i8⟩
  | .hbm, ⟨19, _⟩ => ⟨S6x384x768, .i8⟩
  | .hbm, ⟨20, _⟩ => ⟨S6x768x384, .i8⟩
  | .hbm, ⟨21, _⟩ => ⟨S6x256x1, .f32⟩
  | .hbm, ⟨22, _⟩ => ⟨S6x80x1, .f32⟩
  | .hbm, ⟨23, _⟩ => ⟨S_, .i32⟩
  | .hbm, ⟨24, _⟩ => ⟨S_, .f32⟩
  | .hbm, ⟨25, _⟩ => ⟨S6x128x1, .f32⟩
  | .hbm, ⟨26, _⟩ => ⟨S6x384x1, .f32⟩
  | .hbm, ⟨27, _⟩ => ⟨S6x1x384, .f32⟩
  | .hbm, ⟨28, _⟩ => ⟨S2304x1, .f32⟩
  | .hbm, ⟨29, _⟩ => ⟨S2304x128, .f32⟩
  | .hbm, ⟨30, _⟩ => ⟨S6x5x16x8x96, .i8⟩
  | .hbm, ⟨31, _⟩ => ⟨S6x5x16x8, .f32⟩
  | .hbm, ⟨32, _⟩ => ⟨S6x256x8x96, .i8⟩
  | .hbm, ⟨33, _⟩ => ⟨S6x256x8, .f32⟩
  | .hbm, ⟨34, _⟩ => ⟨S6x5x16x8x96, .i8⟩
  | .hbm, ⟨35, _⟩ => ⟨S6x5x16x8, .f32⟩
  | .hbm, ⟨36, _⟩ => ⟨S6x256x8x96, .i8⟩
  | .hbm, ⟨37, _⟩ => ⟨S6x256x8, .f32⟩
  | .hbm, ⟨38, _⟩ => ⟨S6x5x16x8x96, .i8⟩
  | .hbm, ⟨39, _⟩ => ⟨S6x5x16x8, .f32⟩
  | .hbm, ⟨40, _⟩ => ⟨S6x128x8x96, .i8⟩
  | .hbm, ⟨41, _⟩ => ⟨S6x128x8, .f32⟩
  | .local _ .vmem, ⟨0, _⟩ => ⟨S1x768x384, .i8⟩
  | .local _ .vmem, ⟨1, _⟩ => ⟨S1x768x384, .i8⟩
  | .local _ .vmem, ⟨2, _⟩ => ⟨S1x1x384, .f32⟩
  | .local _ .vmem, ⟨3, _⟩ => ⟨S1x1x384, .f32⟩
  | .local _ .vmem, ⟨4, _⟩ => ⟨S2304x768, .i8⟩
  | .local _ .vmem, ⟨5, _⟩ => ⟨S2304x128, .f32⟩
  | .local _ .vmem, ⟨6, _⟩ => ⟨S1x5x16x8x96, .i8⟩
  | .local _ .vmem, ⟨7, _⟩ => ⟨S1x5x16x8x96, .i8⟩
  | .local _ .vmem, ⟨8, _⟩ => ⟨S1x5x16x8, .f32⟩
  | .local _ .vmem, ⟨9, _⟩ => ⟨S1x5x16x8, .f32⟩
  | .local _ .vmem, ⟨10, _⟩ => ⟨S1x256x8x96, .i8⟩
  | .local _ .vmem, ⟨11, _⟩ => ⟨S1x256x8x96, .i8⟩
  | .local _ .vmem, ⟨12, _⟩ => ⟨S1x256x8, .f32⟩
  | .local _ .vmem, ⟨13, _⟩ => ⟨S1x256x8, .f32⟩
  | .local _ .vmem, ⟨14, _⟩ => ⟨S1x5x16x8x96, .i8⟩
  | .local _ .vmem, ⟨15, _⟩ => ⟨S1x5x16x8x96, .i8⟩
  | .local _ .vmem, ⟨16, _⟩ => ⟨S1x5x16x8, .f32⟩
  | .local _ .vmem, ⟨17, _⟩ => ⟨S1x5x16x8, .f32⟩
  | .local _ .vmem, ⟨18, _⟩ => ⟨S1x256x8x96, .i8⟩
  | .local _ .vmem, ⟨19, _⟩ => ⟨S1x256x8x96, .i8⟩
  | .local _ .vmem, ⟨20, _⟩ => ⟨S1x256x8, .f32⟩
  | .local _ .vmem, ⟨21, _⟩ => ⟨S1x256x8, .f32⟩
  | .local _ .vmem, ⟨22, _⟩ => ⟨S1x5x16x8x96, .i8⟩
  | .local _ .vmem, ⟨23, _⟩ => ⟨S1x5x16x8x96, .i8⟩
  | .local _ .vmem, ⟨24, _⟩ => ⟨S1x5x16x8, .f32⟩
  | .local _ .vmem, ⟨25, _⟩ => ⟨S1x5x16x8, .f32⟩
  | .local _ .vmem, ⟨26, _⟩ => ⟨S1x128x8x96, .i8⟩
  | .local _ .vmem, ⟨27, _⟩ => ⟨S1x128x8x96, .i8⟩
  | .local _ .vmem, ⟨28, _⟩ => ⟨S1x128x8, .f32⟩
  | .local _ .vmem, ⟨29, _⟩ => ⟨S1x128x8, .f32⟩
  | .local _ .vmem, ⟨30, _⟩ => ⟨S768x384, .bf16⟩
  | .local _ .vmem, ⟨31, _⟩ => ⟨S2304x768, .bf16⟩
  | .local _ .vmem, ⟨32, _⟩ => ⟨S2304x384, .bf16⟩
  | .local _ .vmem, ⟨33, _⟩ => ⟨S24x384, .f32⟩
  | .local _ .vmem, ⟨34, _⟩ => ⟨S384x128, .f32⟩
  | _, _ => ⟨S6x5x16x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev main_v18_5 : Ref sig .tc := ⟨.hbm, 35, rfl⟩
abbrev main_v18_6 : Ref sig .tc := ⟨.hbm, 36, rfl⟩
abbrev main_v18_7 : Ref sig .tc := ⟨.hbm, 37, rfl⟩
abbrev main_v18_8 : Ref sig .tc := ⟨.hbm, 38, rfl⟩
abbrev main_v18_9 : Ref sig .tc := ⟨.hbm, 39, rfl⟩
abbrev main_v18_10 : Ref sig .tc := ⟨.hbm, 40, rfl⟩
abbrev main_v18_11 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x5x16x8x96 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x5x16x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x8x96 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x5x16x8x96 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x5x16x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x8x96 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x5x16x8x96 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x5x16x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x8x96 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== HeadsReferenceIdeal.lean ====
abbrev S6x5x16x768 : Shape := ⟨4, ![6, 5, 16, 768]⟩
abbrev S6x5x16 : Shape := ⟨3, ![6, 5, 16]⟩
abbrev S6x256x768 : Shape := ⟨3, ![6, 256, 768]⟩
abbrev S6x256 : Shape := ⟨2, ![6, 256]⟩
abbrev S768x2x8x96 : Shape := ⟨4, ![768, 2, 8, 96]⟩
abbrev S2x8x96 : Shape := ⟨3, ![2, 8, 96]⟩
abbrev S768x8x96 : Shape := ⟨3, ![768, 8, 96]⟩
abbrev S8x96 : Shape := ⟨2, ![8, 96]⟩
abbrev S768x1x8x96 : Shape := ⟨4, ![768, 1, 8, 96]⟩
abbrev S768x768 : Shape := ⟨2, ![768, 768]⟩
abbrev S1x8x96 : Shape := ⟨3, ![1, 8, 96]⟩
abbrev S768 : Shape := ⟨1, ![768]⟩
abbrev S6x5x16x8x96 : Shape := ⟨5, ![6, 5, 16, 8, 96]⟩
abbrev S6x5x16x8 : Shape := ⟨4, ![6, 5, 16, 8]⟩
abbrev S6x256x8x96 : Shape := ⟨4, ![6, 256, 8, 96]⟩
abbrev S6x256x8 : Shape := ⟨3, ![6, 256, 8]⟩
abbrev S6x128x8x96 : Shape := ⟨4, ![6, 128, 8, 96]⟩
abbrev S6x128x8 : Shape := ⟨3, ![6, 128, 8]⟩
abbrev S6x128x768 : Shape := ⟨3, ![6, 128, 768]⟩
abbrev S6x128 : Shape := ⟨2, ![6, 128]⟩
abbrev S6x5x16x1 : Shape := ⟨4, ![6, 5, 16, 1]⟩
abbrev S480x768 : Shape := ⟨2, ![480, 768]⟩
abbrev S1x1x1x768 : Shape := ⟨4, ![1, 1, 1, 768]⟩
abbrev S6x5x16x8x1 : Shape := ⟨5, ![6, 5, 16, 8, 1]⟩
abbrev S6x256x1 : Shape := ⟨3, ![6, 256, 1]⟩
abbrev S1536x768 : Shape := ⟨2, ![1536, 768]⟩
abbrev S1x1x768 : Shape := ⟨3, ![1, 1, 768]⟩
abbrev S6x256x8x1 : Shape := ⟨4, ![6, 256, 8, 1]⟩
abbrev S6x128x1 : Shape := ⟨3, ![6, 128, 1]⟩
abbrev S6x128x8x1 : Shape := ⟨4, ![6, 128, 8, 1]⟩

abbrev nBuf : Space → Nat
  | .hbm => 34
  | .vmem => 22
  | .smem => 0
  | _ => 0

abbrev bufTy : (tb : Table) → Fin (tcTables nBuf tb) → BufTy
  | .hbm, ⟨0, _⟩ => ⟨S6x5x16x768, .i8⟩
  | .hbm, ⟨1, _⟩ => ⟨S6x5x16, .f32⟩
  | .hbm, ⟨2, _⟩ => ⟨S6x256x768, .i8⟩
  | .hbm, ⟨3, _⟩ => ⟨S6x256, .f32⟩
  | .hbm, ⟨4, _⟩ => ⟨S768x2x8x96, .i8⟩
  | .hbm, ⟨5, _⟩ => ⟨S2x8x96, .f32⟩
  | .hbm, ⟨6, _⟩ => ⟨S768x8x96, .i8⟩
  | .hbm, ⟨7, _⟩ => ⟨S8x96, .f32⟩
  | .hbm, ⟨8, _⟩ => ⟨S768x1x8x96, .i8⟩
  | .hbm, ⟨9, _⟩ => ⟨S768x8x96, .i8⟩
  | .hbm, ⟨10, _⟩ => ⟨S768x768, .i8⟩
  | .hbm, ⟨11, _⟩ => ⟨S768x1x8x96, .i8⟩
  | .hbm, ⟨12, _⟩ => ⟨S768x8x96, .i8⟩
  | .hbm, ⟨13, _⟩ => ⟨S768x768, .i8⟩
  | .hbm, ⟨14, _⟩ => ⟨S1x8x96, .f32⟩
  | .hbm, ⟨15, _⟩ => ⟨S8x96, .f32⟩
  | .hbm, ⟨16, _⟩ => ⟨S768, .f32⟩
  | .hbm, ⟨17, _⟩ => ⟨S1x8x96, .f32⟩
  | .hbm, ⟨18, _⟩ => ⟨S8x96, .f32⟩
  | .hbm, ⟨19, _⟩ => ⟨S768, .f32⟩
  | .hbm, ⟨20, _⟩ => ⟨S768x768, .i8⟩
  | .hbm, ⟨21, _⟩ => ⟨S768, .f32⟩
  | .hbm, ⟨22, _⟩ => ⟨S6x5x16x8x96, .i8⟩
  | .hbm, ⟨23, _⟩ => ⟨S6x5x16x8, .f32⟩
  | .hbm, ⟨24, _⟩ => ⟨S6x256x8x96, .i8⟩
  | .hbm, ⟨25, _⟩ => ⟨S6x256x8, .f32⟩
  | .hbm, ⟨26, _⟩ => ⟨S6x5x16x8x96, .i8⟩
  | .hbm, ⟨27, _⟩ => ⟨S6x5x16x8, .f32⟩
  | .hbm, ⟨28, _⟩ => ⟨S6x256x8x96, .i8⟩
  | .hbm, ⟨29, _⟩ => ⟨S6x256x8, .f32⟩
  | .hbm, ⟨30, _⟩ => ⟨S6x5x16x8x96, .i8⟩
  | .hbm, ⟨31, _⟩ => ⟨S6x5x16x8, .f32⟩
  | .hbm, ⟨32, _⟩ => ⟨S6x128x8x96, .i8⟩
  | .hbm, ⟨33, _⟩ => ⟨S6x128x8, .f32⟩
  | .local _ .vmem, ⟨0, _⟩ => ⟨S6x5x16x768, .i8⟩
  | .local _ .vmem, ⟨1, _⟩ => ⟨S6x5x16, .f32⟩
  | .local _ .vmem, ⟨2, _⟩ => ⟨S6x256x768, .i8⟩
  | .local _ .vmem, ⟨3, _⟩ => ⟨S6x256, .f32⟩
  | .local _ .vmem, ⟨4, _⟩ => ⟨S768x768, .i8⟩
  | .local _ .vmem, ⟨5, _⟩ => ⟨S768, .f32⟩
  | .local _ .vmem, ⟨6, _⟩ => ⟨S768x768, .i8⟩
  | .local _ .vmem, ⟨7, _⟩ => ⟨S768, .f32⟩
  | .local _ .vmem, ⟨8, _⟩ => ⟨S768x768, .i8⟩
  | .local _ .vmem, ⟨9, _⟩ => ⟨S768, .f32⟩
  | .local _ .vmem, ⟨10, _⟩ => ⟨S6x5x16x8x96, .i8⟩
  | .local _ .vmem, ⟨11, _⟩ => ⟨S6x5x16x8, .f32⟩
  | .local _ .vmem, ⟨12, _⟩ => ⟨S6x256x8x96, .i8⟩
  | .local _ .vmem, ⟨13, _⟩ => ⟨S6x256x8, .f32⟩
  | .local _ .vmem, ⟨14, _⟩ => ⟨S6x5x16x8x96, .i8⟩
  | .local _ .vmem, ⟨15, _⟩ => ⟨S6x5x16x8, .f32⟩
  | .local _ .vmem, ⟨16, _⟩ => ⟨S6x256x8x96, .i8⟩
  | .local _ .vmem, ⟨17, _⟩ => ⟨S6x256x8, .f32⟩
  | .local _ .vmem, ⟨18, _⟩ => ⟨S6x5x16x8x96, .i8⟩
  | .local _ .vmem, ⟨19, _⟩ => ⟨S6x5x16x8, .f32⟩
  | .local _ .vmem, ⟨20, _⟩ => ⟨S6x128x8x96, .i8⟩
  | .local _ .vmem, ⟨21, _⟩ => ⟨S6x128x8, .f32⟩
  | _, _ => ⟨S6x5x16x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev main_v14_8 : Ref sig .tc := ⟨.hbm, 30, rfl⟩
abbrev main_v14_9 : Ref sig .tc := ⟨.hbm, 31, rfl⟩
abbrev main_v14_10 : Ref sig .tc := ⟨.hbm, 32, rfl⟩
abbrev main_v14_11 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S6x5x16x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x5x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x768 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x768 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x5x16x8x96 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x5x16x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x256x8x96 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x256x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x5x16x8x96 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x5x16x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x256x8x96 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x256x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S6x5x16x8x96 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S6x5x16x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S6x128x8x96 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S6x128x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.Vocab.lean ====
/- The feed-forward stage's block arithmetic, named: the operations one candidate's rows run through in the
   kernel's body, each stage a function of the stages before it, and the eight output blocks the five
   candidates' stores leave. Nothing here is about the idealized number system; `Proof/Cases.lean` shows that
   the body's stores are these, `Proof/Rows.lean` reads them at an index. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Vocab

open Cert.KernelIdeal Cert.KernelIdeal.Gen

variable {F : FTy → Type} [FloatOps F]

/-- The number a literal word names, on every row. -/
abbrev lit (s : Shape) (w : BitVec 32) : FVec F s .f32 := broadcast s (Scalar.ofBits .f32 w : F .f32)

/-! ## The stages -/

/-- A candidate's attention rows: the sixteen global rows above the transposed block of the others. -/
def vAttn (g : FVec F S16x768 .f32) (a : Vec F S1x768x128 .f32) : FVec F S144x768 .f32 :=
  concatenate S144x768 0 [⟨S16x768, g⟩, ⟨S128x768, transpose S128x768 [1, 0] (shapeCast S768x128 a shapeCasts_S1x768x128_S768x128) transposes_S768x128_p1_0_S128x768⟩]
    concatenates_S16x768_S128x768_S144x768_d0

/-- The greatest magnitude of each row. -/
def vMax (v : FVec F S144x768 .f32) : FVec F S144x1 .f32 :=
  shapeCast S144x1 (multiReduction .maximumf [1] S144 (absf v) 0xFF800000#32 reduces_S144x768_S144 (.inl rfl) rfl) shapeCasts_S144_S144x1

/-- The greatest magnitude of each row of one 512-column chunk. -/
def vMax512 (v : FVec F S144x512 .f32) : FVec F S144x1 .f32 :=
  shapeCast S144x1 (multiReduction .maximumf [1] S144 (absf v) 0xFF800000#32 reduces_S144x512_S144 (.inl rfl) rfl) shapeCasts_S144_S144x1

/-- The scale of rows whose greatest magnitudes are `a`. -/
def vScale (a : FVec F S144x1 .f32) : FVec F S144x1 .f32 :=
  select (cmpf .oeq a (lit S144x1 0x00000000#32)) (lit S144x1 0x3F800000#32) (divf a (lit S144x1 0x42FE0000#32))

/-- The reciprocal of a scale. -/
def vInv (s : FVec F S144x1 .f32) : FVec F S144x1 .f32 := divf (lit S144x1 0x3F800000#32) s

/-- Rows rounded and clipped at a scale. -/
def vClip (v : FVec F S144x768 .f32) (s : FVec F S144x1 .f32) : FVec F S144x768 .f32 :=
  minimumf (lit S144x768 0x42FE0000#32) (maximumf (lit S144x768 0xC2FE0000#32) (roundeven (mulf v (broadcastTo S144x768 (vInv s) broadcasts_S144x1_S144x768))))

/-- A chunk's rows rounded and clipped at a scale. -/
def vClip512 (v : FVec F S144x512 .f32) (s : FVec F S144x1 .f32) : FVec F S144x512 .f32 :=
  minimumf (lit S144x512 0x42FE0000#32) (maximumf (lit S144x512 0xC2FE0000#32) (roundeven (mulf v (broadcastTo S144x512 (vInv s) broadcasts_S144x1_S144x512))))

/-- The residual rows: the global tokens above the merged sequence's tail. -/
def vResid (gl : Vec F S1x1x16x768 .bf16) (mq : Vec F S1x128x768 .f32) : FVec F S144x768 .f32 :=
  concatenate S144x768 0 [⟨S16x768, extf .f32 (shapeCast S16x768 gl shapeCasts_S1x1x16x768_S16x768) bitsLt_bf16_f32⟩, ⟨S128x768, shapeCast S128x768 mq shapeCasts_S1x128x768_S128x768⟩]
    concatenates_S16x768_S128x768_S144x768_d0

/-- A row vector spread over the rows. -/
abbrev rowWise (v : Vec F S1x768 .f32) : FVec F S144x768 .f32 :=
  broadcastTo S144x768 (shapeCast S1x768 v shapeCasts_S1x768_S1x768) broadcasts_S1x768_S144x768

/-- A column spread over the columns. -/
abbrev colWise (v : FVec F S144x1 .f32) : FVec F S144x768 .f32 := broadcastTo S144x768 v broadcasts_S144x1_S144x768

/-- The output projection added to the residual. -/
def vH (h0 r : FVec F S144x768 .f32) (s : FVec F S144x1 .f32) (w : Vec F S768x768 .bf16) (so : Vec F S1x768 .f32) : FVec F S144x768 .f32 :=
  addf h0 (mulf (mulf (matmul dot_S144x768_S768x768_S144x768_1_0_0_1_n_n none (truncf .bf16 r bitsLt_bf16_f32) w (constant S144x768 .f32 0x00000000#32))
    (colWise s)) (rowWise so))

/-- A row's mean. -/
def vMean (v : FVec F S144x768 .f32) : FVec F S144x1 .f32 :=
  divf (shapeCast S144x1 (multiReduction .add [1] S144 v 0x00000000#32 reduces_S144x768_S144 (.inl rfl) rfl) shapeCasts_S144_S144x1) (lit S144x1 0x44400000#32)

/-- Rows less their means. -/
def vCentre (v : FVec F S144x768 .f32) : FVec F S144x768 .f32 := subf v (colWise (vMean v))

/-- The layer norm of rows already centred. -/
def vNorm (d : FVec F S144x768 .f32) (g b : Vec F S1x768 .f32) : FVec F S144x768 .f32 :=
  addf (mulf (mulf d (colWise (rsqrt (addf (vMean (mulf d d)) (lit S144x1 0x3727C5AC#32))))) (rowWise g)) (rowWise b)

/-- One 512-column chunk of the first feed-forward projection, its activation applied. -/
def vPre (r : FVec F S144x768 .f32) (s : FVec F S144x1 .f32) (w : Vec F S768x512 .bf16) (sf : Vec F S1x512 .f32) : FVec F S144x512 .f32 :=
  mulf (mulf (matmul dot_S144x768_S768x512_S144x512_1_0_0_1_n_n none (truncf .bf16 r bitsLt_bf16_f32) w (constant S144x512 .f32 0x00000000#32))
    (broadcastTo S144x512 s broadcasts_S144x1_S144x512)) (broadcastTo S144x512 (shapeCast S1x512 sf shapeCasts_S1x512_S1x512) broadcasts_S1x512_S144x512)

/-- The activation. -/
def vGelu (v : FVec F S144x512 .f32) : FVec F S144x512 .f32 :=
  mulf (mulf (lit S144x512 0x3F000000#32) v) (addf (lit S144x512 0x3F800000#32) (erf (mulf v (lit S144x512 0x3F3504F3#32))))

/-- Six 512-column chunks side by side. -/
def glue (w0 w1 w2 w3 w4 w5 : Vec F S144x512 .bf16) : Vec F S144x3072 .bf16 := fun y =>
  (if (y 1 : ℕ) < 512 then w0 else if (y 1 : ℕ) < 1024 then w1 else if (y 1 : ℕ) < 1536 then w2 else if (y 1 : ℕ) < 2048 then w3 else if (y 1 : ℕ) < 2560 then w4 else w5)
    (ix2 (y 0) ⟨(y 1 : ℕ) % 512, Nat.mod_lt _ (by decide)⟩)

/-- The second feed-forward projection added to the residual. -/
def vY (h : FVec F S144x768 .f32) (codes : Vec F S144x3072 .bf16) (s : FVec F S144x1 .f32) (w : Vec F S3072x768 .bf16) (sf : Vec F S1x768 .f32) : FVec F S144x768 .f32 :=
  addf h (mulf (mulf (matmul dot_S144x3072_S3072x768_S144x768_1_0_0_1_n_n none codes w (constant S144x768 .f32 0x00000000#32)) (colWise s)) (rowWise sf))

/-- The three scales in the first three lanes, transposed. -/
def vLanes (a b c : FVec F S144x1 .f32) : FVec F S128x144 .f32 :=
  transpose S128x144 [1, 0]
    (select (cmpi .eq (iota .tc S144x128 32 [1] iota_S144x128_d1_w32) (broadcast S144x128 0#32))
      (broadcastTo S144x128 (shapeCast S144x1 a shapeCasts_S144x1_S144x1) broadcasts_S144x1_S144x128)
      (select (cmpi .eq (iota .tc S144x128 32 [1] iota_S144x128_d1_w32) (broadcast S144x128 1#32))
        (broadcastTo S144x128 (shapeCast S144x1 b shapeCasts_S144x1_S144x1) broadcasts_S144x1_S144x128)
        (broadcastTo S144x128 (shapeCast S144x1 c shapeCasts_S144x1_S144x1) broadcasts_S144x1_S144x128)))
    transposes_S144x128_p1_0_S128x144

/-! ## A candidate -/

/-- What the body reads: the blocks of its operands and the three weights as it holds them. -/
structure Blocks (F : FTy → Type) where
  /-- the global tokens -/
  glob : Vec F S1x5x16x768 .bf16
  /-- the layer norm's gain -/
  gain : Vec F S1x768 .f32
  /-- the layer norm's shift -/
  shift : Vec F S1x768 .f32
  /-- the output projection's column scales -/
  so : Vec F S1x768 .f32
  /-- the first feed-forward projection's column scales -/
  s1 : Vec F S1x3072 .f32
  /-- the second feed-forward projection's column scales -/
  s2 : Vec F S1x768 .f32
  /-- the merged sequence's tail -/
  merged : Vec F S1x128x768 .f32
  /-- the attention rows, transposed -/
  attnM : Vec F S1x5x768x128 .f32
  /-- the attention's global rows, transposed -/
  attnG : Vec F S1x768x128 .f32
  /-- the output projection's weight -/
  wo : Vec F S768x768 .bf16
  /-- the first feed-forward projection's weight -/
  w1 : Vec F S768x3072 .bf16
  /-- the second feed-forward projection's weight -/
  w2 : Vec F S3072x768 .bf16

/-- A candidate's own rows. -/
structure Cand (F : FTy → Type) where
  /-- its global attention rows -/
  g : FVec F S16x768 .f32
  /-- its other attention rows, transposed -/
  a : Vec F S1x768x128 .f32
  /-- its global tokens -/
  gl : Vec F S1x1x16x768 .bf16

/-- The candidates' attention rows, all of them, as loaded. -/
abbrev Blocks.rows (B : Blocks F) : Vec F S5x768x128 .f32 := shapeCast S5x768x128 B.attnM squeezes_S1x5x768x128_S5x768x128.numel_eq

/-- Candidate 0's rows. -/
def cand0 (B : Blocks F) : Cand F :=
  ⟨extractStridedSlice S16x768 ![0, 0] (k0_pay5 B.attnG) slices_S128x768_o0_0_S16x768,
    View.ld B.rows (Rect.unit ![0, 0, 0] S1x768x128.size inb_S5x768x128_S1x768x128_0_0_0),
    View.ld B.glob (Rect.unit ![0, 0, 0, 0] S1x1x16x768.size inb_S1x5x16x768_S1x1x16x768_0_0_0_0)⟩

/-- Candidate 1's rows. -/
def cand1 (B : Blocks F) : Cand F :=
  ⟨extractStridedSlice S16x768 ![16, 0] (k0_pay5 B.attnG) slices_S128x768_o16_0_S16x768,
    View.ld B.rows (Rect.unit ![1, 0, 0] S1x768x128.size inb_S5x768x128_S1x768x128_1_0_0),
    View.ld B.glob (Rect.unit ![0, 1, 0, 0] S1x1x16x768.size inb_S1x5x16x768_S1x1x16x768_0_1_0_0)⟩

/-- Candidate 2's rows. -/
def cand2 (B : Blocks F) : Cand F :=
  ⟨extractStridedSlice S16x768 ![32, 0] (k0_pay5 B.attnG) slices_S128x768_o32_0_S16x768,
    View.ld B.rows (Rect.unit ![2, 0, 0] S1x768x128.size inb_S5x768x128_S1x768x128_2_0_0),
    View.ld B.glob (Rect.unit ![0, 2, 0, 0] S1x1x16x768.size inb_S1x5x16x768_S1x1x16x768_0_2_0_0)⟩

/-- Candidate 3's rows. -/
def cand3 (B : Blocks F) : Cand F :=
  ⟨extractStridedSlice S16x768 ![48, 0] (k0_pay5 B.attnG) slices_S128x768_o48_0_S16x768,
    View.ld B.rows (Rect.unit ![3, 0, 0] S1x768x128.size inb_S5x768x128_S1x768x128_3_0_0),
    View.ld B.glob (Rect.unit ![0, 3, 0, 0] S1x1x16x768.size inb_S1x5x16x768_S1x1x16x768_0_3_0_0)⟩

/-- Candidate 4's rows. -/
def cand4 (B : Blocks F) : Cand F :=
  ⟨extractStridedSlice S16x768 ![64, 0] (k0_pay5 B.attnG) slices_S128x768_o64_0_S16x768,
    View.ld B.rows (Rect.unit ![4, 0, 0] S1x768x128.size inb_S5x768x128_S1x768x128_4_0_0),
    View.ld B.glob (Rect.unit ![0, 4, 0, 0] S1x1x16x768.size inb_S1x5x16x768_S1x1x16x768_0_4_0_0)⟩

variable (B : Blocks F) (C : Cand F)

def cA : FVec F S144x768 .f32 := vAttn C.g C.a
def cS0 : FVec F S144x1 .f32 := vScale (vMax (cA C))
def cR0 : FVec F S144x768 .f32 := vClip (cA C) (cS0 C)
def cH : FVec F S144x768 .f32 := vH (vResid C.gl B.merged) (cR0 C) (cS0 C) B.wo B.so
def cN : FVec F S144x768 .f32 := vNorm (vCentre (cH B C)) B.gain B.shift
def cS1 : FVec F S144x1 .f32 := vScale (vMax (cN B C))
def cR1 : FVec F S144x768 .f32 := vClip (cN B C) (cS1 B C)
/-- Columns 0 to 511 of the activation. -/
def cU0 : FVec F S144x512 .f32 := vGelu (vPre (cR1 B C) (cS1 B C)
  (View.ld B.w1 (Rect.unit ![0, 0] S768x512.size inb_S768x3072_S768x512_0_0)) (View.ld B.s1 (Rect.unit ![0, 0] S1x512.size inb_S1x3072_S1x512_0_0)))
/-- Columns 512 to 1023 of the activation. -/
def cU1 : FVec F S144x512 .f32 := vGelu (vPre (cR1 B C) (cS1 B C)
  (View.ld B.w1 (Rect.unit ![0, 512] S768x512.size inb_S768x3072_S768x512_0_512)) (View.ld B.s1 (Rect.unit ![0, 512] S1x512.size inb_S1x3072_S1x512_0_512)))
/-- Columns 1024 to 1535 of the activation. -/
def cU2 : FVec F S144x512 .f32 := vGelu (vPre (cR1 B C) (cS1 B C)
  (View.ld B.w1 (Rect.unit ![0, 1024] S768x512.size inb_S768x3072_S768x512_0_1024)) (View.ld B.s1 (Rect.unit ![0, 1024] S1x512.size inb_S1x3072_S1x512_0_1024)))
/-- Columns 1536 to 2047 of the activation. -/
def cU3 : FVec F S144x512 .f32 := vGelu (vPre (cR1 B C) (cS1 B C)
  (View.ld B.w1 (Rect.unit ![0, 1536] S768x512.size inb_S768x3072_S768x512_0_1536)) (View.ld B.s1 (Rect.unit ![0, 1536] S1x512.size inb_S1x3072_S1x512_0_1536)))
/-- Columns 2048 to 2559 of the activation. -/
def cU4 : FVec F S144x512 .f32 := vGelu (vPre (cR1 B C) (cS1 B C)
  (View.ld B.w1 (Rect.unit ![0, 2048] S768x512.size inb_S768x3072_S768x512_0_2048)) (View.ld B.s1 (Rect.unit ![0, 2048] S1x512.size inb_S1x3072_S1x512_0_2048)))
/-- Columns 2560 to 3071 of the activation. -/
def cU5 : FVec F S144x512 .f32 := vGelu (vPre (cR1 B C) (cS1 B C)
  (View.ld B.w1 (Rect.unit ![0, 2560] S768x512.size inb_S768x3072_S768x512_0_2560)) (View.ld B.s1 (Rect.unit ![0, 2560] S1x512.size inb_S1x3072_S1x512_0_2560)))
/-- The scale of the activation's rows, its greatest magnitude taken chunk by chunk. -/
def cS2 : FVec F S144x1 .f32 := vScale (maximumf (maximumf (maximumf (maximumf (maximumf (maximumf (lit S144x1 0x00000000#32) (vMax512 (cU0 B C))) (vMax512 (cU1 B C))) (vMax512 (cU2 B C))) (vMax512 (cU3 B C))) (vMax512 (cU4 B C))) (vMax512 (cU5 B C)))
def cR2_0 : FVec F S144x512 .f32 := vClip512 (shapeCast S144x512 (cU0 B C) shapeCasts_S144x512_S144x512) (cS2 B C)
def cR2_1 : FVec F S144x512 .f32 := vClip512 (shapeCast S144x512 (cU1 B C) shapeCasts_S144x512_S144x512) (cS2 B C)
def cR2_2 : FVec F S144x512 .f32 := vClip512 (shapeCast S144x512 (cU2 B C) shapeCasts_S144x512_S144x512) (cS2 B C)
def cR2_3 : FVec F S144x512 .f32 := vClip512 (shapeCast S144x512 (cU3 B C) shapeCasts_S144x512_S144x512) (cS2 B C)
def cR2_4 : FVec F S144x512 .f32 := vClip512 (shapeCast S144x512 (cU4 B C) shapeCasts_S144x512_S144x512) (cS2 B C)
def cR2_5 : FVec F S144x512 .f32 := vClip512 (shapeCast S144x512 (cU5 B C) shapeCasts_S144x512_S144x512) (cS2 B C)
/-- The activation's codes. -/
def cCodes : Vec F S144x3072 .bf16 :=
  glue (shapeCast S144x512 (truncf .bf16 (cR2_0 B C) bitsLt_bf16_f32) shapeCasts_S144x512_S144x512)
    (shapeCast S144x512 (truncf .bf16 (cR2_1 B C) bitsLt_bf16_f32) shapeCasts_S144x512_S144x512)
    (shapeCast S144x512 (truncf .bf16 (cR2_2 B C) bitsLt_bf16_f32) shapeCasts_S144x512_S144x512)
    (shapeCast S144x512 (truncf .bf16 (cR2_3 B C) bitsLt_bf16_f32) shapeCasts_S144x512_S144x512)
    (shapeCast S144x512 (truncf .bf16 (cR2_4 B C) bitsLt_bf16_f32) shapeCasts_S144x512_S144x512)
    (shapeCast S144x512 (truncf .bf16 (cR2_5 B C) bitsLt_bf16_f32) shapeCasts_S144x512_S144x512)
def cY : FVec F S144x768 .f32 := vY (cH B C) (cCodes B C) (cS2 B C) B.w2 B.s2
def cL : FVec F S128x144 .f32 := vLanes (cS0 C) (cS1 B C) (cS2 B C)

/-! ## The output blocks -/

/-- The rows leaving the block. -/
def oY : Vec F S1x5x144x768 .bf16 :=
  View.canon [⟨Rect.unit ![0, 4, 0, 0] S1x1x144x768.size inb_S1x5x144x768_S1x1x144x768_0_4_0_0, shapeCast S1x1x144x768 (truncf .bf16 (cY B (cand4 B)) bitsLt_bf16_f32) shapeCasts_S144x768_S1x1x144x768⟩,
    ⟨Rect.unit ![0, 3, 0, 0] S1x1x144x768.size inb_S1x5x144x768_S1x1x144x768_0_3_0_0, shapeCast S1x1x144x768 (truncf .bf16 (cY B (cand3 B)) bitsLt_bf16_f32) shapeCasts_S144x768_S1x1x144x768⟩,
    ⟨Rect.unit ![0, 2, 0, 0] S1x1x144x768.size inb_S1x5x144x768_S1x1x144x768_0_2_0_0, shapeCast S1x1x144x768 (truncf .bf16 (cY B (cand2 B)) bitsLt_bf16_f32) shapeCasts_S144x768_S1x1x144x768⟩,
    ⟨Rect.unit ![0, 1, 0, 0] S1x1x144x768.size inb_S1x5x144x768_S1x1x144x768_0_1_0_0, shapeCast S1x1x144x768 (truncf .bf16 (cY B (cand1 B)) bitsLt_bf16_f32) shapeCasts_S144x768_S1x1x144x768⟩,
    ⟨Rect.unit ![0, 0, 0, 0] S1x1x144x768.size inb_S1x5x144x768_S1x1x144x768_0_0_0_0, shapeCast S1x1x144x768 (truncf .bf16 (cY B (cand0 B)) bitsLt_bf16_f32) shapeCasts_S144x768_S1x1x144x768⟩]

/-- The attention rows. -/
def oA : Vec F S1x5x144x768 .bf16 :=
  View.canon [⟨Rect.unit ![0, 4, 0, 0] S1x1x144x768.size inb_S1x5x144x768_S1x1x144x768_0_4_0_0, shapeCast S1x1x144x768 (truncf .bf16 (cA (cand4 B)) bitsLt_bf16_f32) shapeCasts_S144x768_S1x1x144x768⟩,
    ⟨Rect.unit ![0, 3, 0, 0] S1x1x144x768.size inb_S1x5x144x768_S1x1x144x768_0_3_0_0, shapeCast S1x1x144x768 (truncf .bf16 (cA (cand3 B)) bitsLt_bf16_f32) shapeCasts_S144x768_S1x1x144x768⟩,
    ⟨Rect.unit ![0, 2, 0, 0] S1x1x144x768.size inb_S1x5x144x768_S1x1x144x768_0_2_0_0, shapeCast S1x1x144x768 (truncf .bf16 (cA (cand2 B)) bitsLt_bf16_f32) shapeCasts_S144x768_S1x1x144x768⟩,
    ⟨Rect.unit ![0, 1, 0, 0] S1x1x144x768.size inb_S1x5x144x768_S1x1x144x768_0_1_0_0, shapeCast S1x1x144x768 (truncf .bf16 (cA (cand1 B)) bitsLt_bf16_f32) shapeCasts_S144x768_S1x1x144x768⟩,
    ⟨Rect.unit ![0, 0, 0, 0] S1x1x144x768.size inb_S1x5x144x768_S1x1x144x768_0_0_0_0, shapeCast S1x1x144x768 (truncf .bf16 (cA (cand0 B)) bitsLt_bf16_f32) shapeCasts_S144x768_S1x1x144x768⟩]

/-- The output projection's codes. -/
def oC0 : Vec F S1x5x144x768 .i8 :=
  View.canon [⟨Rect.unit ![0, 4, 0, 0] S1x1x144x768.size inb_S1x5x144x768_S1x1x144x768_0_4_0_0, shapeCast S1x1x144x768 (fptosi 8 (cR0 (cand4 B))) shapeCasts_S144x768_S1x1x144x768⟩,
    ⟨Rect.unit ![0, 3, 0, 0] S1x1x144x768.size inb_S1x5x144x768_S1x1x144x768_0_3_0_0, shapeCast S1x1x144x768 (fptosi 8 (cR0 (cand3 B))) shapeCasts_S144x768_S1x1x144x768⟩,
    ⟨Rect.unit ![0, 2, 0, 0] S1x1x144x768.size inb_S1x5x144x768_S1x1x144x768_0_2_0_0, shapeCast S1x1x144x768 (fptosi 8 (cR0 (cand2 B))) shapeCasts_S144x768_S1x1x144x768⟩,
    ⟨Rect.unit ![0, 1, 0, 0] S1x1x144x768.size inb_S1x5x144x768_S1x1x144x768_0_1_0_0, shapeCast S1x1x144x768 (fptosi 8 (cR0 (cand1 B))) shapeCasts_S144x768_S1x1x144x768⟩,
    ⟨Rect.unit ![0, 0, 0, 0] S1x1x144x768.size inb_S1x5x144x768_S1x1x144x768_0_0_0_0, shapeCast S1x1x144x768 (fptosi 8 (cR0 (cand0 B))) shapeCasts_S144x768_S1x1x144x768⟩]

/-- The first feed-forward projection's codes. -/
def oC1 : Vec F S1x5x144x768 .i8 :=
  View.canon [⟨Rect.unit ![0, 4, 0, 0] S1x1x144x768.size inb_S1x5x144x768_S1x1x144x768_0_4_0_0, shapeCast S1x1x144x768 (fptosi 8 (cR1 B (cand4 B))) shapeCasts_S144x768_S1x1x144x768⟩,
    ⟨Rect.unit ![0, 3, 0, 0] S1x1x144x768.size inb_S1x5x144x768_S1x1x144x768_0_3_0_0, shapeCast S1x1x144x768 (fptosi 8 (cR1 B (cand3 B))) shapeCasts_S144x768_S1x1x144x768⟩,
    ⟨Rect.unit ![0, 2, 0, 0] S1x1x144x768.size inb_S1x5x144x768_S1x1x144x768_0_2_0_0, shapeCast S1x1x144x768 (fptosi 8 (cR1 B (cand2 B))) shapeCasts_S144x768_S1x1x144x768⟩,
    ⟨Rect.unit ![0, 1, 0, 0] S1x1x144x768.size inb_S1x5x144x768_S1x1x144x768_0_1_0_0, shapeCast S1x1x144x768 (fptosi 8 (cR1 B (cand1 B))) shapeCasts_S144x768_S1x1x144x768⟩,
    ⟨Rect.unit ![0, 0, 0, 0] S1x1x144x768.size inb_S1x5x144x768_S1x1x144x768_0_0_0_0, shapeCast S1x1x144x768 (fptosi 8 (cR1 B (cand0 B))) shapeCasts_S144x768_S1x1x144x768⟩]

/-- The output projection's row scales. -/
def oS0 : Vec F S1x5x144 .f32 :=
  View.canon [⟨Rect.unit ![0, 4, 0] S1x1x144.size inb_S1x5x144_S1x1x144_0_4_0, shapeCast S1x1x144 (extractStridedSlice S1x144 ![0, 0] (cL B (cand4 B)) slices_S128x144_o0_0_S1x144) shapeCasts_S1x144_S1x1x144⟩,
    ⟨Rect.unit ![0, 3, 0] S1x1x144.size inb_S1x5x144_S1x1x144_0_3_0, shapeCast S1x1x144 (extractStridedSlice S1x144 ![0, 0] (cL B (cand3 B)) slices_S128x144_o0_0_S1x144) shapeCasts_S1x144_S1x1x144⟩,
    ⟨Rect.unit ![0, 2, 0] S1x1x144.size inb_S1x5x144_S1x1x144_0_2_0, shapeCast S1x1x144 (extractStridedSlice S1x144 ![0, 0] (cL B (cand2 B)) slices_S128x144_o0_0_S1x144) shapeCasts_S1x144_S1x1x144⟩,
    ⟨Rect.unit ![0, 1, 0] S1x1x144.size inb_S1x5x144_S1x1x144_0_1_0, shapeCast S1x1x144 (extractStridedSlice S1x144 ![0, 0] (cL B (cand1 B)) slices_S128x144_o0_0_S1x144) shapeCasts_S1x144_S1x1x144⟩,
    ⟨Rect.unit ![0, 0, 0] S1x1x144.size inb_S1x5x144_S1x1x144_0_0_0, shapeCast S1x1x144 (extractStridedSlice S1x144 ![0, 0] (cL B (cand0 B)) slices_S128x144_o0_0_S1x144) shapeCasts_S1x144_S1x1x144⟩]

/-- The first feed-forward projection's row scales. -/
def oS1 : Vec F S1x5x144 .f32 :=
  View.canon [⟨Rect.unit ![0, 4, 0] S1x1x144.size inb_S1x5x144_S1x1x144_0_4_0, shapeCast S1x1x144 (extractStridedSlice S1x144 ![1, 0] (cL B (cand4 B)) slices_S128x144_o1_0_S1x144) shapeCasts_S1x144_S1x1x144⟩,
    ⟨Rect.unit ![0, 3, 0] S1x1x144.size inb_S1x5x144_S1x1x144_0_3_0, shapeCast S1x1x144 (extractStridedSlice S1x144 ![1, 0] (cL B (cand3 B)) slices_S128x144_o1_0_S1x144) shapeCasts_S1x144_S1x1x144⟩,
    ⟨Rect.unit ![0, 2, 0] S1x1x144.size inb_S1x5x144_S1x1x144_0_2_0, shapeCast S1x1x144 (extractStridedSlice S1x144 ![1, 0] (cL B (cand2 B)) slices_S128x144_o1_0_S1x144) shapeCasts_S1x144_S1x1x144⟩,
    ⟨Rect.unit ![0, 1, 0] S1x1x144.size inb_S1x5x144_S1x1x144_0_1_0, shapeCast S1x1x144 (extractStridedSlice S1x144 ![1, 0] (cL B (cand1 B)) slices_S128x144_o1_0_S1x144) shapeCasts_S1x144_S1x1x144⟩,
    ⟨Rect.unit ![0, 0, 0] S1x1x144.size inb_S1x5x144_S1x1x144_0_0_0, shapeCast S1x1x144 (extractStridedSlice S1x144 ![1, 0] (cL B (cand0 B)) slices_S128x144_o1_0_S1x144) shapeCasts_S1x144_S1x1x144⟩]

/-- The second feed-forward projection's row scales. -/
def oS2 : Vec F S1x5x144 .f32 :=
  View.canon [⟨Rect.unit ![0, 4, 0] S1x1x144.size inb_S1x5x144_S1x1x144_0_4_0, shapeCast S1x1x144 (extractStridedSlice S1x144 ![2, 0] (cL B (cand4 B)) slices_S128x144_o2_0_S1x144) shapeCasts_S1x144_S1x1x144⟩,
    ⟨Rect.unit ![0, 3, 0] S1x1x144.size inb_S1x5x144_S1x1x144_0_3_0, shapeCast S1x1x144 (extractStridedSlice S1x144 ![2, 0] (cL B (cand3 B)) slices_S128x144_o2_0_S1x144) shapeCasts_S1x144_S1x1x144⟩,
    ⟨Rect.unit ![0, 2, 0] S1x1x144.size inb_S1x5x144_S1x1x144_0_2_0, shapeCast S1x1x144 (extractStridedSlice S1x144 ![2, 0] (cL B (cand2 B)) slices_S128x144_o2_0_S1x144) shapeCasts_S1x144_S1x1x144⟩,
    ⟨Rect.unit ![0, 1, 0] S1x1x144.size inb_S1x5x144_S1x1x144_0_1_0, shapeCast S1x1x144 (extractStridedSlice S1x144 ![2, 0] (cL B (cand1 B)) slices_S128x144_o2_0_S1x144) shapeCasts_S1x144_S1x1x144⟩,
    ⟨Rect.unit ![0, 0, 0] S1x1x144.size inb_S1x5x144_S1x1x144_0_0_0, shapeCast S1x1x144 (extractStridedSlice S1x144 ![2, 0] (cL B (cand0 B)) slices_S128x144_o2_0_S1x144) shapeCasts_S1x144_S1x1x144⟩]

/-- The second feed-forward projection's codes. -/
def oC2 : Vec F S1x5x144x3072 .i8 :=
  View.canon [⟨Rect.unit ![0, 4, 0, 2560] S1x1x144x512.size inb_S1x5x144x3072_S1x1x144x512_0_4_0_2560, shapeCast S1x1x144x512 (fptosi 8 (cR2_5 B (cand4 B))) shapeCasts_S144x512_S1x1x144x512⟩,
    ⟨Rect.unit ![0, 4, 0, 2048] S1x1x144x512.size inb_S1x5x144x3072_S1x1x144x512_0_4_0_2048, shapeCast S1x1x144x512 (fptosi 8 (cR2_4 B (cand4 B))) shapeCasts_S144x512_S1x1x144x512⟩,
    ⟨Rect.unit ![0, 4, 0, 1536] S1x1x144x512.size inb_S1x5x144x3072_S1x1x144x512_0_4_0_1536, shapeCast S1x1x144x512 (fptosi 8 (cR2_3 B (cand4 B))) shapeCasts_S144x512_S1x1x144x512⟩,
    ⟨Rect.unit ![0, 4, 0, 1024] S1x1x144x512.size inb_S1x5x144x3072_S1x1x144x512_0_4_0_1024, shapeCast S1x1x144x512 (fptosi 8 (cR2_2 B (cand4 B))) shapeCasts_S144x512_S1x1x144x512⟩,
    ⟨Rect.unit ![0, 4, 0, 512] S1x1x144x512.size inb_S1x5x144x3072_S1x1x144x512_0_4_0_512, shapeCast S1x1x144x512 (fptosi 8 (cR2_1 B (cand4 B))) shapeCasts_S144x512_S1x1x144x512⟩,
    ⟨Rect.unit ![0, 4, 0, 0] S1x1x144x512.size inb_S1x5x144x3072_S1x1x144x512_0_4_0_0, shapeCast S1x1x144x512 (fptosi 8 (cR2_0 B (cand4 B))) shapeCasts_S144x512_S1x1x144x512⟩,
    ⟨Rect.unit ![0, 3, 0, 2560] S1x1x144x512.size inb_S1x5x144x3072_S1x1x144x512_0_3_0_2560, shapeCast S1x1x144x512 (fptosi 8 (cR2_5 B (cand3 B))) shapeCasts_S144x512_S1x1x144x512⟩,
    ⟨Rect.unit ![0, 3, 0, 2048] S1x1x144x512.size inb_S1x5x144x3072_S1x1x144x512_0_3_0_2048, shapeCast S1x1x144x512 (fptosi 8 (cR2_4 B (cand3 B))) shapeCasts_S144x512_S1x1x144x512⟩,
    ⟨Rect.unit ![0, 3, 0, 1536] S1x1x144x512.size inb_S1x5x144x3072_S1x1x144x512_0_3_0_1536, shapeCast S1x1x144x512 (fptosi 8 (cR2_3 B (cand3 B))) shapeCasts_S144x512_S1x1x144x512⟩,
    ⟨Rect.unit ![0, 3, 0, 1024] S1x1x144x512.size inb_S1x5x144x3072_S1x1x144x512_0_3_0_1024, shapeCast S1x1x144x512 (fptosi 8 (cR2_2 B (cand3 B))) shapeCasts_S144x512_S1x1x144x512⟩,
    ⟨Rect.unit ![0, 3, 0, 512] S1x1x144x512.size inb_S1x5x144x3072_S1x1x144x512_0_3_0_512, shapeCast S1x1x144x512 (fptosi 8 (cR2_1 B (cand3 B))) shapeCasts_S144x512_S1x1x144x512⟩,
    ⟨Rect.unit ![0, 3, 0, 0] S1x1x144x512.size inb_S1x5x144x3072_S1x1x144x512_0_3_0_0, shapeCast S1x1x144x512 (fptosi 8 (cR2_0 B (cand3 B))) shapeCasts_S144x512_S1x1x144x512⟩,
    ⟨Rect.unit ![0, 2, 0, 2560] S1x1x144x512.size inb_S1x5x144x3072_S1x1x144x512_0_2_0_2560, shapeCast S1x1x144x512 (fptosi 8 (cR2_5 B (cand2 B))) shapeCasts_S144x512_S1x1x144x512⟩,
    ⟨Rect.unit ![0, 2, 0, 2048] S1x1x144x512.size inb_S1x5x144x3072_S1x1x144x512_0_2_0_2048, shapeCast S1x1x144x512 (fptosi 8 (cR2_4 B (cand2 B))) shapeCasts_S144x512_S1x1x144x512⟩,
    ⟨Rect.unit ![0, 2, 0, 1536] S1x1x144x512.size inb_S1x5x144x3072_S1x1x144x512_0_2_0_1536, shapeCast S1x1x144x512 (fptosi 8 (cR2_3 B (cand2 B))) shapeCasts_S144x512_S1x1x144x512⟩,
    ⟨Rect.unit ![0, 2, 0, 1024] S1x1x144x512.size inb_S1x5x144x3072_S1x1x144x512_0_2_0_1024, shapeCast S1x1x144x512 (fptosi 8 (cR2_2 B (cand2 B))) shapeCasts_S144x512_S1x1x144x512⟩,
    ⟨Rect.unit ![0, 2, 0, 512] S1x1x144x512.size inb_S1x5x144x3072_S1x1x144x512_0_2_0_512, shapeCast S1x1x144x512 (fptosi 8 (cR2_1 B (cand2 B))) shapeCasts_S144x512_S1x1x144x512⟩,
    ⟨Rect.unit ![0, 2, 0, 0] S1x1x144x512.size inb_S1x5x144x3072_S1x1x144x512_0_2_0_0, shapeCast S1x1x144x512 (fptosi 8 (cR2_0 B (cand2 B))) shapeCasts_S144x512_S1x1x144x512⟩,
    ⟨Rect.unit ![0, 1, 0, 2560] S1x1x144x512.size inb_S1x5x144x3072_S1x1x144x512_0_1_0_2560, shapeCast S1x1x144x512 (fptosi 8 (cR2_5 B (cand1 B))) shapeCasts_S144x512_S1x1x144x512⟩,
    ⟨Rect.unit ![0, 1, 0, 2048] S1x1x144x512.size inb_S1x5x144x3072_S1x1x144x512_0_1_0_2048, shapeCast S1x1x144x512 (fptosi 8 (cR2_4 B (cand1 B))) shapeCasts_S144x512_S1x1x144x512⟩,
    ⟨Rect.unit ![0, 1, 0, 1536] S1x1x144x512.size inb_S1x5x144x3072_S1x1x144x512_0_1_0_1536, shapeCast S1x1x144x512 (fptosi 8 (cR2_3 B (cand1 B))) shapeCasts_S144x512_S1x1x144x512⟩,
    ⟨Rect.unit ![0, 1, 0, 1024] S1x1x144x512.size inb_S1x5x144x3072_S1x1x144x512_0_1_0_1024, shapeCast S1x1x144x512 (fptosi 8 (cR2_2 B (cand1 B))) shapeCasts_S144x512_S1x1x144x512⟩,
    ⟨Rect.unit ![0, 1, 0, 512] S1x1x144x512.size inb_S1x5x144x3072_S1x1x144x512_0_1_0_512, shapeCast S1x1x144x512 (fptosi 8 (cR2_1 B (cand1 B))) shapeCasts_S144x512_S1x1x144x512⟩,
    ⟨Rect.unit ![0, 1, 0, 0] S1x1x144x512.size inb_S1x5x144x3072_S1x1x144x512_0_1_0_0, shapeCast S1x1x144x512 (fptosi 8 (cR2_0 B (cand1 B))) shapeCasts_S144x512_S1x1x144x512⟩,
    ⟨Rect.unit ![0, 0, 0, 2560] S1x1x144x512.size inb_S1x5x144x3072_S1x1x144x512_0_0_0_2560, shapeCast S1x1x144x512 (fptosi 8 (cR2_5 B (cand0 B))) shapeCasts_S144x512_S1x1x144x512⟩,
    ⟨Rect.unit ![0, 0, 0, 2048] S1x1x144x512.size inb_S1x5x144x3072_S1x1x144x512_0_0_0_2048, shapeCast S1x1x144x512 (fptosi 8 (cR2_4 B (cand0 B))) shapeCasts_S144x512_S1x1x144x512⟩,
    ⟨Rect.unit ![0, 0, 0, 1536] S1x1x144x512.size inb_S1x5x144x3072_S1x1x144x512_0_0_0_1536, shapeCast S1x1x144x512 (fptosi 8 (cR2_3 B (cand0 B))) shapeCasts_S144x512_S1x1x144x512⟩,
    ⟨Rect.unit ![0, 0, 0, 1024] S1x1x144x512.size inb_S1x5x144x3072_S1x1x144x512_0_0_0_1024, shapeCast S1x1x144x512 (fptosi 8 (cR2_2 B (cand0 B))) shapeCasts_S144x512_S1x1x144x512⟩,
    ⟨Rect.unit ![0, 0, 0, 512] S1x1x144x512.size inb_S1x5x144x3072_S1x1x144x512_0_0_0_512, shapeCast S1x1x144x512 (fptosi 8 (cR2_1 B (cand0 B))) shapeCasts_S144x512_S1x1x144x512⟩,
    ⟨Rect.unit ![0, 0, 0, 0] S1x1x144x512.size inb_S1x5x144x3072_S1x1x144x512_0_0_0_0, shapeCast S1x1x144x512 (fptosi 8 (cR2_0 B (cand0 B))) shapeCasts_S144x512_S1x1x144x512⟩]

end Cert.KernelIdeal.Vocab

end
-- ==== Proof.Cases.lean ====
/- What the kernel's body leaves at a point of its grid: the named blocks of `Proof/Vocab.lean`, over the
   weights as the first point widens them. Later points find the weights where the first left them. -/
module

public import proofs.«01_k».proof.Proof.Vocab
public import Idealize.ShloMosaic.Lib.Pipeline.ValueKit
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen Cert.KernelIdeal.Vocab

variable {F : FTy → Type} [FloatOps F]

/-- A rectangle's point at local index `x` of a 144x512 chunk is the row of `x` and the column shifted by
    the chunk's offset, where the glued rows are the chunk's own. -/
theorem glue_emb (o n : ℕ) (ho : o = 512 * n) (i : ∀ a, (![0, o] : Fin 2 → ℕ) a + (![144, 512] : Fin 2 → ℕ) a ≤ S144x3072.size a)
    (w0 w1 w2 w3 w4 w5 : Vec F S144x512 .bf16) (x) :
    glue w0 w1 w2 w3 w4 w5 ((Rect.unit (s := S144x3072) ![0, o] ![144, 512] i).emb x)
      = (if n < 1 then w0 else if n < 2 then w1 else if n < 3 then w2 else if n < 4 then w3 else if n < 5 then w4 else w5) x := by
  have hx : ((x 1 : Fin _) : ℕ) < 512 := (x 1).isLt
  have h1 : (((Rect.unit (s := S144x3072) ![0, o] ![144, 512] i).emb x 1 : Fin _) : ℕ) = o + (x 1 : ℕ) := by
    simp
  have h0 : (((Rect.unit (s := S144x3072) ![0, o] ![144, 512] i).emb x 0 : Fin _) : ℕ) = (x 0 : ℕ) := by
    simp
  have hm : (o + (x 1 : ℕ)) % 512 = (x 1 : ℕ) := by omega
  have e : (ix2 ((Rect.unit (s := S144x3072) ![0, o] ![144, 512] i).emb x 0)
      ⟨(((Rect.unit (s := S144x3072) ![0, o] ![144, 512] i).emb x 1 : Fin _) : ℕ) % 512, Nat.mod_lt _ (by decide)⟩ : S144x512.Idx) = x := by
    funext a
    fin_cases a
    · exact Fin.ext h0
    · exact Fin.ext (by show _ % 512 = _; rw [h1, hm]; rfl)
  unfold glue
  rw [e, h1]
  congr 1
  split_ifs <;> first | rfl | omega

/-- The whole of the codes' buffer read back after its six chunk stores. -/
theorem codes_read (v : View sig .tc .vmem S144x3072 .bf16) (w0 w1 w2 w3 w4 w5 : Vec F S144x512 .bf16) (L : List (View.Piece (Elt F) S144x3072 .bf16)) (i0 i1 i2 i3 i4 i5 i) :
    v.readCov (⟨Rect.unit (s := S144x3072) ![0, 2560] ![144, 512] i5, w5⟩ :: ⟨Rect.unit ![0, 2048] ![144, 512] i4, w4⟩ :: ⟨Rect.unit ![0, 1536] ![144, 512] i3, w3⟩
      :: ⟨Rect.unit ![0, 1024] ![144, 512] i2, w2⟩ :: ⟨Rect.unit ![0, 512] ![144, 512] i1, w1⟩ :: ⟨Rect.unit ![0, 0] ![144, 512] i0, w0⟩ :: L)
      (Rect.unit (s := S144x3072) ![0, 0] ![144, 3072] i).toLoadRect = glue w0 w1 w2 w3 w4 w5 := by
  rw [View.readCov_eq_canon']
  funext j
  refine (View.canon_append_of_piecesOf (glue w0 w1 w2 w3 w4 w5) L [_, _, _, _, _, _] ⟨?_, ?_, ?_, ?_, ?_, ?_, trivial⟩ _
    (View.cover_of_tiledL (s := S144x3072) _ (![144, 512] : Fin 2 → ℕ) (by sl_kernel_rfl) _)).trans ?_
  · exact fun x => (glue_emb 2560 5 rfl i5 w0 w1 w2 w3 w4 w5 x).symm
  · exact fun x => (glue_emb 2048 4 rfl i4 w0 w1 w2 w3 w4 w5 x).symm
  · exact fun x => (glue_emb 1536 3 rfl i3 w0 w1 w2 w3 w4 w5 x).symm
  · exact fun x => (glue_emb 1024 2 rfl i2 w0 w1 w2 w3 w4 w5 x).symm
  · exact fun x => (glue_emb 512 1 rfl i1 w0 w1 w2 w3 w4 w5 x).symm
  · exact fun x => (glue_emb 0 0 rfl i0 w0 w1 w2 w3 w4 w5 x).symm
  · refine congrArg (glue w0 w1 w2 w3 w4 w5) (funext fun a => Fin.ext ?_)
    fin_cases a <;> simp

/-- The candidates' attention rows read from their buffer are the block's. -/
theorem read_rows (M : Memref sig .tc .vmem S1x5x768x128 .f32) (h : M.IsWhole) (X : Vec F S1x5x768x128 .f32)
    (inb : ∀ a, (![0, 0, 0, 0] : Fin 4 → ℕ) a + (![1, 5, 768, 128] : Fin 4 → ℕ) a ≤ S1x5x768x128.size a) (hq) :
    View.read (Elt F) ((M.view.slice (Rect.unit ![0, 0, 0, 0] ![1, 5, 768, 128] inb)).reshape S5x768x128 hq) (h.unread X)
      = shapeCast S5x768x128 X squeezes_S1x5x768x128_S5x768x128.numel_eq := by
  refine (Memref.read_squeeze_full (off := ![0, 0, 0, 0]) M inb squeezes_S1x5x768x128_S5x768x128 (h.unread X)).trans ?_
  rw [h.read_unread]
  rfl

variable (m : (ℓ : Loc nD τ sig) → Buf (Elt F) ℓ) (ρ : Dev nD → PrngReg)

/-- What the body reads at a point, the weights as given. -/
def blocks (c : Dev nD) (t : Fin cfg0.N) (wo : Vec F S768x768 .bf16) (w1 : Vec F S768x3072 .bf16) (w2 : Vec F S3072x768 .bf16) : Blocks F :=
  ⟨iblk m c 0 t, iblk m c 1 t, iblk m c 2 t, iblk m c 4 t, iblk m c 6 t, iblk m c 8 t, iblk m c 9 t, iblk m c 10 t, iblk m c 11 t, wo, w1, w2⟩

/-- What the body leaves: the eight output blocks and the weights. -/
def leaves (B : Blocks F) : Vec F S1x5x144x768 .bf16 × Vec F S1x5x144x768 .bf16 × Vec F S1x5x144x768 .i8 × Vec F S1x5x144 .f32 × Vec F S1x5x144x768 .i8 × Vec F S1x5x144 .f32
    × Vec F S1x5x144x3072 .i8 × Vec F S1x5x144 .f32 × Vec F S768x768 .bf16 × Vec F S768x3072 .bf16 × Vec F S3072x768 .bf16 :=
  (oY B, oA B, oC0 B, oS0 B, oC1 B, oS1 B, oC2 B, oS2 B, B.wo, B.w1, B.w2)

/-- A later point leaves the blocks over the weights the point before it left. -/
theorem later (c : Dev nD) (t : Fin cfg0.N) (h0 : ¬ (t.val % 6 = 0)) (W) (hW : W = outsAt0 m c (t.val - 1) (by have := t.isLt; omega)) :
    outsAt0 m c t.val t.isLt = leaves (blocks m c t W.2.2.2.2.2.2.2.2.1 W.2.2.2.2.2.2.2.2.2.1 W.2.2.2.2.2.2.2.2.2.2) := by
  rw [outsAt0_B m c t h0, ← hW]
  frame_open
  simp (disch := decide) only [↓ View.readCov_skip, ↓ View.readCov_cons_toLoadRect, ↓ View.readCov_fill]
  frame_out
  simp only [read_rows, codes_read, read_unread_whole]
  sl_kernel_rfl

/-- The first point widens the weights and leaves the blocks over them. -/
theorem first (c : Dev nD) (t : Fin cfg0.N) (h0 : t.val % 6 = 0) :
    outsAt0 m c t.val t.isLt = leaves (blocks m c t (k0_pay2 (iblk m c 3 t)) (k0_pay3 (iblk m c 5 t)) (k0_pay4 (iblk m c 7 t))) := by
  rw [outsAt0_A m c t h0]
  frame_open
  simp (disch := decide) only [↓ View.readCov_skip, ↓ View.readCov_cons_toLoadRect, ↓ View.readCov_fill]
  frame_out
  simp only [read_rows, codes_read, read_unread_whole]
  sl_kernel_rfl

/-- The weights' blocks are the same at every point. -/
theorem weight3 (c : Dev nD) (t u : Fin cfg0.N) : (iblk m c 3 t : Vec F S768x768 .i8) = iblk m c 3 u := by
  sl_kernel_rfl
theorem weight5 (c : Dev nD) (t u : Fin cfg0.N) : (iblk m c 5 t : Vec F S768x3072 .i8) = iblk m c 5 u := by
  sl_kernel_rfl
theorem weight7 (c : Dev nD) (t u : Fin cfg0.N) : (iblk m c 7 t : Vec F S3072x768 .i8) = iblk m c 7 u := by
  sl_kernel_rfl

/-- Every point leaves the blocks over the widened weights. -/
theorem every (c : Dev nD) (t : Fin cfg0.N) :
    outsAt0 m c t.val t.isLt = leaves (blocks m c t (k0_pay2 (iblk m c 3 t)) (k0_pay3 (iblk m c 5 t)) (k0_pay4 (iblk m c 7 t))) := by
  obtain ⟨n, hn⟩ := t
  induction n with
  | zero => exact first m c ⟨0, hn⟩ rfl
  | succ n ih =>
    have hn' : n + 1 < 6 := hn
    have e := ih (by show n < 6; omega)
    refine (later m c ⟨n + 1, hn⟩ (by show ¬ ((n + 1) % 6 = 0); omega) _ e.symm).trans ?_
    rw [weight3 m c ⟨n + 1, hn⟩ ⟨n, by show n < 6; omega⟩, weight5 m c ⟨n + 1, hn⟩ ⟨n, by show n < 6; omega⟩, weight7 m c ⟨n + 1, hn⟩ ⟨n, by show n < 6; omega⟩]
    rfl

end Cert.KernelIdeal.Cases

end
-- ==== Proof.Operands.lean ====
/- The kernel's operand blocks at an index, in the arrays it was launched with. -/
module

public import proofs.«01_k».proof.Proof.Cases
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Operands

open Cert.KernelIdeal Cert.KernelIdeal.Gen

variable (m : (ℓ : Loc nD τ sig) → Buf (Elt Ideal) ℓ) (c : Dev nD) (t : Fin cfg0.N)

/-- The batch a point of the grid works on. -/
abbrev batch : Fin 6 := ⟨t.val, t.isLt⟩

/-- The windows' index maps. -/
theorem idx : ∀ t : Fin cfg0.N, win0_0.index t = ![t.val, 0, 0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![t.val, 0, 0]
    ∧ win0_10.index t = ![t.val, 0, 0, 0] ∧ win0_11.index t = ![t.val, 0, 0] :=
  (by decide +kernel : ∀ t : Fin grid0.N, _)

theorem glob_at (n : Fin 5) (q : Fin 16) (k : Fin 768) :
    (iblk m c 0 t : Vec Ideal S1x5x16x768 .bf16) (ix4 0 n q k) = m ((c : Thread nD τ).loc main_arg2) (ix4 (batch t) n q k) := by
  blk_ext [iblk, V, idx t]
theorem gain_at (k : Fin 768) : (iblk m c 1 t : Vec Ideal S1x768 .f32) (ix2 0 k) = m ((c : Thread nD τ).loc main_arg3) (ix1 k) := by
  blk_simp [iblk]
  simp only [V, List.flatten_cons, List.flatten_nil, hostOps0, hostOps0_1, hostOps0_2, List.cons_append, List.nil_append, List.append_nil]
  entry_read
  pointwise
  blk_ext [idx t]
theorem shift_at (k : Fin 768) : (iblk m c 2 t : Vec Ideal S1x768 .f32) (ix2 0 k) = m ((c : Thread nD τ).loc main_arg4) (ix1 k) := by
  blk_simp [iblk]
  simp only [V, List.flatten_cons, List.flatten_nil, hostOps0, hostOps0_1, hostOps0_2, List.cons_append, List.nil_append, List.append_nil]
  entry_read
  pointwise
  blk_ext [idx t]
theorem so_at (k : Fin 768) : (iblk m c 4 t : Vec Ideal S1x768 .f32) (ix2 0 k) = m ((c : Thread nD τ).loc main_arg6) (ix1 k) := by
  blk_simp [iblk]
  simp only [V, List.flatten_cons, List.flatten_nil, hostOps0, hostOps0_1, hostOps0_2, List.cons_append, List.nil_append, List.append_nil]
  entry_read
  pointwise
  blk_ext [idx t]
theorem s1_at (k : Fin 3072) : (iblk m c 6 t : Vec Ideal S1x3072 .f32) (ix2 0 k) = m ((c : Thread nD τ).loc main_arg8) (ix1 k) := by
  blk_simp [iblk]
  simp only [V, List.flatten_cons, List.flatten_nil, hostOps0, hostOps0_1, hostOps0_2, List.cons_append, List.nil_append, List.append_nil]
  entry_read
  pointwise
  blk_ext [idx t]
theorem s2_at (k : Fin 768) : (iblk m c 8 t : Vec Ideal S1x768 .f32) (ix2 0 k) = m ((c : Thread nD τ).loc main_arg10) (ix1 k) := by
  blk_simp [iblk]
  simp only [V, List.flatten_cons, List.flatten_nil, hostOps0, hostOps0_1, hostOps0_2, List.cons_append, List.nil_append, List.append_nil]
  entry_read
  pointwise
  blk_ext [idx t]
theorem wo_at (i j : Fin 768) : (iblk m c 3 t : Vec Ideal S768x768 .i8) (ix2 i j)
    = m ((c : Thread nD τ).loc main_arg5) (ix3 (⟨i.val / 96, by omega⟩ : Fin 8) (⟨i.val % 96, by omega⟩ : Fin 96) j) := by
  blk_simp [iblk]
  simp only [V, List.flatten_cons, List.flatten_nil, hostOps0, hostOps0_1, hostOps0_2, List.cons_append, List.nil_append, List.append_nil]
  entry_read
  pointwise
  blk_ext [idx t]
theorem w1_at (i : Fin 768) (j : Fin 3072) : (iblk m c 5 t : Vec Ideal S768x3072 .i8) (ix2 i j) = m ((c : Thread nD τ).loc main_arg7) (ix2 i j) := by
  blk_ext [iblk, V, idx t]
theorem w2_at (i : Fin 3072) (j : Fin 768) : (iblk m c 7 t : Vec Ideal S3072x768 .i8) (ix2 i j) = m ((c : Thread nD τ).loc main_arg9) (ix2 i j) := by
  blk_ext [iblk, V, idx t]
theorem merged_at (q : Fin 128) (k : Fin 768) :
    (iblk m c 9 t : Vec Ideal S1x128x768 .f32) (ix3 0 q k) = m ((c : Thread nD τ).loc main_arg1) (ix3 (batch t) (⟨128 + q.val, by omega⟩ : Fin 256) k) := by
  blk_simp [iblk]
  simp only [V, List.flatten_cons, List.flatten_nil, hostOps0, hostOps0_1, hostOps0_2, List.cons_append, List.nil_append, List.append_nil]
  entry_read
  pointwise
  blk_ext [idx t]
theorem attnM_at (n : Fin 5) (k : Fin 768) (q : Fin 128) :
    (iblk m c 10 t : Vec Ideal S1x5x768x128 .f32) (ix4 0 n k q) = m ((c : Thread nD τ).loc main_arg0) (ix4 (batch t) n (⟨16 + q.val, by omega⟩ : Fin 144) k) := by
  blk_simp [iblk]
  simp only [V, List.flatten_cons, List.flatten_nil, hostOps0, hostOps0_1, hostOps0_2, List.cons_append, List.nil_append, List.append_nil]
  entry_read
  pointwise
  blk_ext [idx t]
/-- The padded global rows as the host makes them. -/
theorem V_v6 : (V m c main_v6 : Vec Ideal S6x768x128 .f32)
    = pad (α := Elt Ideal .f32) S6x768x128 ![0, 0, 0] ![0, 0, 48] ![0, 0, 0]
        (transpose S6x768x80 [0, 2, 1]
          (shapeCast S6x80x768 (extractStridedSlice S6x5x16x768 ![0, 0, 0, 0] (m ((c : Thread nD τ).loc main_arg0) : Vec Ideal S6x5x144x768 .f32) slices_S6x5x144x768_S6x5x16x768_0_0_0_0) shapeCasts_S6x5x16x768_S6x80x768)
          transposes_S6x80x768_S6x768x80_0_2_1)
        (sitofp (F := Ideal) FTy.f32 (constantI S_ 32 0#32)) pads_S6x768x80_S6x768x128_000_000_0480 h_S_ := by
  simp only [V, List.flatten_cons, List.flatten_nil, hostOps0, hostOps0_1, hostOps0_2, List.cons_append, List.nil_append, List.append_nil]
  entry_read
  rfl

/-- The padded global rows at an index inside the eighty columns. -/
theorem V_v6_at (b : Fin 6) (n : Fin 5) (k : Fin 768) (q : Fin 16) :
    (V m c main_v6 : Vec Ideal S6x768x128 .f32) (ix3 b k (⟨16 * n.val + q.val, by omega⟩ : Fin 128)) = m ((c : Thread nD τ).loc main_arg0) (ix4 b n (⟨q.val, by omega⟩ : Fin 144) k) := by
  rw [V_v6]
  pointwise
  refine (dif_pos (show 16 * n.val + q.val < 80 by omega)).trans (congrArg _ ?_)
  have e1 : (16 * n.val + q.val) / 16 = n.val := by omega
  have e2 : (16 * n.val + q.val) % 16 = q.val := by omega
  simp only [e1, e2]

/-- The padded global rows' block at a batch. -/
theorem v6_block (k : Fin 768) (j : Fin 128) : (iblk m c 11 t : Vec Ideal S1x768x128 .f32) (ix3 0 k j) = (V m c main_v6 : Vec Ideal S6x768x128 .f32) (ix3 (batch t) k j) := by
  blk_ext [iblk, idx t]

theorem attnG_at (n : Fin 5) (k : Fin 768) (q : Fin 16) :
    (iblk m c 11 t : Vec Ideal S1x768x128 .f32) (ix3 0 k (⟨16 * n.val + q.val, by omega⟩ : Fin 128)) = m ((c : Thread nD τ).loc main_arg0) (ix4 (batch t) n (⟨q.val, by omega⟩ : Fin 144) k) :=
  (v6_block m c t k _).trans (V_v6_at m c (batch t) n k q)

end Cert.KernelIdeal.Operands

end
-- ==== Proof.Outputs.lean ====
/- The output blocks at an index: a candidate's stores tile them, so an entry of a block is the entry of the
   candidate its second coordinate names. And the candidates' own rows, in the blocks they are loaded from. -/
module

public import proofs.«01_k».proof.Proof.Vocab
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Outputs

open Cert.KernelIdeal Cert.KernelIdeal.Gen Cert.KernelIdeal.Vocab

variable {F : FTy → Type} [FloatOps F]

/-! ## The output blocks -/

/-- The candidate of a number. -/
def cand (B : Blocks F) : Fin 5 → Cand F
  | 0 => cand0 B
  | 1 => cand1 B
  | 2 => cand2 B
  | 3 => cand3 B
  | 4 => cand4 B

/-- The only index of an axis of size one adds nothing. -/
theorem add_one (n : ℕ) (x : Fin 1) : n + x.val = n := by omega

/-- One candidate's rows of a block: the piece stored for it, at the piece's elements. -/
theorem rows_emb {e : EltTy} (n : Fin 5) (f : Fin 5 → Vec F S144x768 e) (i : ∀ a, (![0, n.val, 0, 0] : Fin 4 → ℕ) a + S1x1x144x768.size a ≤ S1x5x144x768.size a) (x : S1x1x144x768.Idx) :
    shapeCast S1x1x144x768 (f n) shapeCasts_S144x768_S1x1x144x768 x
      = (fun y : S1x5x144x768.Idx => f (y 1) (ix2 (y 2) (y 3))) ((Rect.unit (s := S1x5x144x768) ![0, n.val, 0, 0] S1x1x144x768.size i).emb x) := by
  have v1 : (((Rect.unit (s := S1x5x144x768) ![0, n.val, 0, 0] S1x1x144x768.size i).emb x 1 : Fin _) : ℕ) = n.val + (x 1 : ℕ) :=
    ValueKit.rect_emb_unit_val (s := S1x5x144x768) ![0, n.val, 0, 0] S1x1x144x768.size i x 1
  have e1 : ((Rect.unit (s := S1x5x144x768) ![0, n.val, 0, 0] S1x1x144x768.size i).emb x) 1 = n := Fin.ext (v1.trans (add_one n.val (x 1)))
  have e2 : ((Rect.unit (s := S1x5x144x768) ![0, n.val, 0, 0] S1x1x144x768.size i).emb x) 2 = x 2 :=
    Fin.ext ((ValueKit.rect_emb_unit_val (s := S1x5x144x768) ![0, n.val, 0, 0] S1x1x144x768.size i x 2).trans (Nat.zero_add _))
  have e3 : ((Rect.unit (s := S1x5x144x768) ![0, n.val, 0, 0] S1x1x144x768.size i).emb x) 3 = x 3 :=
    Fin.ext ((ValueKit.rect_emb_unit_val (s := S1x5x144x768) ![0, n.val, 0, 0] S1x1x144x768.size i x 3).trans (Nat.zero_add _))
  simp only [e1, e2, e3]
  pointwise

/-- Five candidates' rows tile a 144x768 output block. -/
theorem canon_rows {e : EltTy} (v : Fin 5 → Vec F S144x768 e) (i4 i3 i2 i1 i0) (n : Fin 5) (q : Fin 144) (k : Fin 768) :
    View.canon (Val := Elt F) (s := S1x5x144x768) (e := e)
      [⟨Rect.unit ![0, 4, 0, 0] S1x1x144x768.size i4, shapeCast S1x1x144x768 (v 4) shapeCasts_S144x768_S1x1x144x768⟩,
       ⟨Rect.unit ![0, 3, 0, 0] S1x1x144x768.size i3, shapeCast S1x1x144x768 (v 3) shapeCasts_S144x768_S1x1x144x768⟩,
       ⟨Rect.unit ![0, 2, 0, 0] S1x1x144x768.size i2, shapeCast S1x1x144x768 (v 2) shapeCasts_S144x768_S1x1x144x768⟩,
       ⟨Rect.unit ![0, 1, 0, 0] S1x1x144x768.size i1, shapeCast S1x1x144x768 (v 1) shapeCasts_S144x768_S1x1x144x768⟩,
       ⟨Rect.unit ![0, 0, 0, 0] S1x1x144x768.size i0, shapeCast S1x1x144x768 (v 0) shapeCasts_S144x768_S1x1x144x768⟩] (ix4 0 n q k)
      = v n (ix2 q k) :=
  View.canon_append_of_piecesOf (fun y : S1x5x144x768.Idx => v (y 1) (ix2 (y 2) (y 3))) [] [_, _, _, _, _]
    ⟨rows_emb 4 v i4, rows_emb 3 v i3, rows_emb 2 v i2, rows_emb 1 v i1, rows_emb 0 v i0, trivial⟩ _
    (View.cover_of_tiledL (s := S1x5x144x768) _ (![1, 1, 144, 768] : Fin 4 → ℕ) (by sl_kernel_rfl) _)

/-- One candidate's scales of a block, at the piece's elements. -/
theorem scales_emb (n : Fin 5) (f : Fin 5 → Vec F S1x144 .f32) (i : ∀ a, (![0, n.val, 0] : Fin 3 → ℕ) a + S1x1x144.size a ≤ S1x5x144.size a) (x : S1x1x144.Idx) :
    shapeCast S1x1x144 (f n) shapeCasts_S1x144_S1x1x144 x
      = (fun y : S1x5x144.Idx => f (y 1) (ix2 0 (y 2))) ((Rect.unit (s := S1x5x144) ![0, n.val, 0] S1x1x144.size i).emb x) := by
  have v1 : (((Rect.unit (s := S1x5x144) ![0, n.val, 0] S1x1x144.size i).emb x 1 : Fin _) : ℕ) = n.val + (x 1 : ℕ) :=
    ValueKit.rect_emb_unit_val (s := S1x5x144) ![0, n.val, 0] S1x1x144.size i x 1
  have e1 : ((Rect.unit (s := S1x5x144) ![0, n.val, 0] S1x1x144.size i).emb x) 1 = n := Fin.ext (v1.trans (add_one n.val (x 1)))
  have e2 : ((Rect.unit (s := S1x5x144) ![0, n.val, 0] S1x1x144.size i).emb x) 2 = x 2 :=
    Fin.ext ((ValueKit.rect_emb_unit_val (s := S1x5x144) ![0, n.val, 0] S1x1x144.size i x 2).trans (Nat.zero_add _))
  simp only [e1, e2]
  pointwise

/-- Five candidates' scales tile a block of scales. -/
theorem canon_scales (v : Fin 5 → Vec F S1x144 .f32) (i4 i3 i2 i1 i0) (n : Fin 5) (q : Fin 144) :
    View.canon (Val := Elt F) (s := S1x5x144) (e := .f32)
      [⟨Rect.unit ![0, 4, 0] S1x1x144.size i4, shapeCast S1x1x144 (v 4) shapeCasts_S1x144_S1x1x144⟩,
       ⟨Rect.unit ![0, 3, 0] S1x1x144.size i3, shapeCast S1x1x144 (v 3) shapeCasts_S1x144_S1x1x144⟩,
       ⟨Rect.unit ![0, 2, 0] S1x1x144.size i2, shapeCast S1x1x144 (v 2) shapeCasts_S1x144_S1x1x144⟩,
       ⟨Rect.unit ![0, 1, 0] S1x1x144.size i1, shapeCast S1x1x144 (v 1) shapeCasts_S1x144_S1x1x144⟩,
       ⟨Rect.unit ![0, 0, 0] S1x1x144.size i0, shapeCast S1x1x144 (v 0) shapeCasts_S1x144_S1x1x144⟩] (ix3 0 n q)
      = v n (ix2 0 q) :=
  View.canon_append_of_piecesOf (fun y : S1x5x144.Idx => v (y 1) (ix2 0 (y 2))) [] [_, _, _, _, _]
    ⟨scales_emb 4 v i4, scales_emb 3 v i3, scales_emb 2 v i2, scales_emb 1 v i1, scales_emb 0 v i0, trivial⟩ _
    (View.cover_of_tiledL (s := S1x5x144) _ (![1, 1, 144] : Fin 3 → ℕ) (by sl_kernel_rfl) _)

/-- A column of the wide block in its chunk. -/
def chunk (k : Fin 3072) : Fin 6 := ⟨k.val / 512, by omega⟩

/-- A column of the wide block within its chunk. -/
def within (k : Fin 3072) : Fin 512 := ⟨k.val % 512, by omega⟩

/-- One chunk of one candidate's codes, at the piece's elements. -/
theorem cols_emb (n : Fin 5) (c : Fin 6) (o : ℕ) (ho : o = 512 * c.val) (f : Fin 5 → Fin 6 → Vec F S144x512 .i8)
    (i : ∀ a, (![0, n.val, 0, o] : Fin 4 → ℕ) a + S1x1x144x512.size a ≤ S1x5x144x3072.size a) (x : S1x1x144x512.Idx) :
    shapeCast S1x1x144x512 (f n c) shapeCasts_S144x512_S1x1x144x512 x
      = (fun y : S1x5x144x3072.Idx => f (y 1) (chunk (y 3)) (ix2 (y 2) (within (y 3)))) ((Rect.unit (s := S1x5x144x3072) ![0, n.val, 0, o] S1x1x144x512.size i).emb x) := by
  have v1 : (((Rect.unit (s := S1x5x144x3072) ![0, n.val, 0, o] S1x1x144x512.size i).emb x 1 : Fin _) : ℕ) = n.val + (x 1 : ℕ) :=
    ValueKit.rect_emb_unit_val (s := S1x5x144x3072) ![0, n.val, 0, o] S1x1x144x512.size i x 1
  have e1 : ((Rect.unit (s := S1x5x144x3072) ![0, n.val, 0, o] S1x1x144x512.size i).emb x) 1 = n := Fin.ext (v1.trans (add_one n.val (x 1)))
  have e2 : ((Rect.unit (s := S1x5x144x3072) ![0, n.val, 0, o] S1x1x144x512.size i).emb x) 2 = x 2 :=
    Fin.ext ((ValueKit.rect_emb_unit_val (s := S1x5x144x3072) ![0, n.val, 0, o] S1x1x144x512.size i x 2).trans (Nat.zero_add _))
  have x3 : (x 3 : ℕ) < 512 := (x 3).isLt
  have e3 : (((Rect.unit (s := S1x5x144x3072) ![0, n.val, 0, o] S1x1x144x512.size i).emb x 3 : Fin _) : ℕ) = o + (x 3 : ℕ) :=
    ValueKit.rect_emb_unit_val (s := S1x5x144x3072) ![0, n.val, 0, o] S1x1x144x512.size i x 3
  have ec : chunk ((Rect.unit (s := S1x5x144x3072) ![0, n.val, 0, o] S1x1x144x512.size i).emb x 3) = c :=
    Fin.ext (by show _ / 512 = _; rw [e3]; omega)
  have ew : within ((Rect.unit (s := S1x5x144x3072) ![0, n.val, 0, o] S1x1x144x512.size i).emb x 3) = x 3 :=
    Fin.ext (by show _ % 512 = _; rw [e3]; omega)
  simp only [e1, e2, ec, ew]
  pointwise

/-- Five candidates' six chunks tile the wide block of codes. -/
theorem canon_cols (v : Fin 5 → Fin 6 → Vec F S144x512 .i8) (i45 i44 i43 i42 i41 i40 i35 i34 i33 i32 i31 i30 i25 i24 i23 i22 i21 i20 i15 i14 i13 i12 i11 i10 i05 i04 i03 i02 i01 i00) (n : Fin 5) (q : Fin 144) (k : Fin 3072) :
    View.canon (Val := Elt F) (s := S1x5x144x3072) (e := .i8)
      [⟨Rect.unit ![0, 4, 0, 2560] S1x1x144x512.size i45, shapeCast S1x1x144x512 (v 4 5) shapeCasts_S144x512_S1x1x144x512⟩,
       ⟨Rect.unit ![0, 4, 0, 2048] S1x1x144x512.size i44, shapeCast S1x1x144x512 (v 4 4) shapeCasts_S144x512_S1x1x144x512⟩,
       ⟨Rect.unit ![0, 4, 0, 1536] S1x1x144x512.size i43, shapeCast S1x1x144x512 (v 4 3) shapeCasts_S144x512_S1x1x144x512⟩,
       ⟨Rect.unit ![0, 4, 0, 1024] S1x1x144x512.size i42, shapeCast S1x1x144x512 (v 4 2) shapeCasts_S144x512_S1x1x144x512⟩,
       ⟨Rect.unit ![0, 4, 0, 512] S1x1x144x512.size i41, shapeCast S1x1x144x512 (v 4 1) shapeCasts_S144x512_S1x1x144x512⟩,
       ⟨Rect.unit ![0, 4, 0, 0] S1x1x144x512.size i40, shapeCast S1x1x144x512 (v 4 0) shapeCasts_S144x512_S1x1x144x512⟩,
       ⟨Rect.unit ![0, 3, 0, 2560] S1x1x144x512.size i35, shapeCast S1x1x144x512 (v 3 5) shapeCasts_S144x512_S1x1x144x512⟩,
       ⟨Rect.unit ![0, 3, 0, 2048] S1x1x144x512.size i34, shapeCast S1x1x144x512 (v 3 4) shapeCasts_S144x512_S1x1x144x512⟩,
       ⟨Rect.unit ![0, 3, 0, 1536] S1x1x144x512.size i33, shapeCast S1x1x144x512 (v 3 3) shapeCasts_S144x512_S1x1x144x512⟩,
       ⟨Rect.unit ![0, 3, 0, 1024] S1x1x144x512.size i32, shapeCast S1x1x144x512 (v 3 2) shapeCasts_S144x512_S1x1x144x512⟩,
       ⟨Rect.unit ![0, 3, 0, 512] S1x1x144x512.size i31, shapeCast S1x1x144x512 (v 3 1) shapeCasts_S144x512_S1x1x144x512⟩,
       ⟨Rect.unit ![0, 3, 0, 0] S1x1x144x512.size i30, shapeCast S1x1x144x512 (v 3 0) shapeCasts_S144x512_S1x1x144x512⟩,
       ⟨Rect.unit ![0, 2, 0, 2560] S1x1x144x512.size i25, shapeCast S1x1x144x512 (v 2 5) shapeCasts_S144x512_S1x1x144x512⟩,
       ⟨Rect.unit ![0, 2, 0, 2048] S1x1x144x512.size i24, shapeCast S1x1x144x512 (v 2 4) shapeCasts_S144x512_S1x1x144x512⟩,
       ⟨Rect.unit ![0, 2, 0, 1536] S1x1x144x512.size i23, shapeCast S1x1x144x512 (v 2 3) shapeCasts_S144x512_S1x1x144x512⟩,
       ⟨Rect.unit ![0, 2, 0, 1024] S1x1x144x512.size i22, shapeCast S1x1x144x512 (v 2 2) shapeCasts_S144x512_S1x1x144x512⟩,
       ⟨Rect.unit ![0, 2, 0, 512] S1x1x144x512.size i21, shapeCast S1x1x144x512 (v 2 1) shapeCasts_S144x512_S1x1x144x512⟩,
       ⟨Rect.unit ![0, 2, 0, 0] S1x1x144x512.size i20, shapeCast S1x1x144x512 (v 2 0) shapeCasts_S144x512_S1x1x144x512⟩,
       ⟨Rect.unit ![0, 1, 0, 2560] S1x1x144x512.size i15, shapeCast S1x1x144x512 (v 1 5) shapeCasts_S144x512_S1x1x144x512⟩,
       ⟨Rect.unit ![0, 1, 0, 2048] S1x1x144x512.size i14, shapeCast S1x1x144x512 (v 1 4) shapeCasts_S144x512_S1x1x144x512⟩,
       ⟨Rect.unit ![0, 1, 0, 1536] S1x1x144x512.size i13, shapeCast S1x1x144x512 (v 1 3) shapeCasts_S144x512_S1x1x144x512⟩,
       ⟨Rect.unit ![0, 1, 0, 1024] S1x1x144x512.size i12, shapeCast S1x1x144x512 (v 1 2) shapeCasts_S144x512_S1x1x144x512⟩,
       ⟨Rect.unit ![0, 1, 0, 512] S1x1x144x512.size i11, shapeCast S1x1x144x512 (v 1 1) shapeCasts_S144x512_S1x1x144x512⟩,
       ⟨Rect.unit ![0, 1, 0, 0] S1x1x144x512.size i10, shapeCast S1x1x144x512 (v 1 0) shapeCasts_S144x512_S1x1x144x512⟩,
       ⟨Rect.unit ![0, 0, 0, 2560] S1x1x144x512.size i05, shapeCast S1x1x144x512 (v 0 5) shapeCasts_S144x512_S1x1x144x512⟩,
       ⟨Rect.unit ![0, 0, 0, 2048] S1x1x144x512.size i04, shapeCast S1x1x144x512 (v 0 4) shapeCasts_S144x512_S1x1x144x512⟩,
       ⟨Rect.unit ![0, 0, 0, 1536] S1x1x144x512.size i03, shapeCast S1x1x144x512 (v 0 3) shapeCasts_S144x512_S1x1x144x512⟩,
       ⟨Rect.unit ![0, 0, 0, 1024] S1x1x144x512.size i02, shapeCast S1x1x144x512 (v 0 2) shapeCasts_S144x512_S1x1x144x512⟩,
       ⟨Rect.unit ![0, 0, 0, 512] S1x1x144x512.size i01, shapeCast S1x1x144x512 (v 0 1) shapeCasts_S144x512_S1x1x144x512⟩,
       ⟨Rect.unit ![0, 0, 0, 0] S1x1x144x512.size i00, shapeCast S1x1x144x512 (v 0 0) shapeCasts_S144x512_S1x1x144x512⟩] (ix4 0 n q k)
      = v n (chunk k) (ix2 q (within k)) :=
  View.canon_append_of_piecesOf (fun y : S1x5x144x3072.Idx => v (y 1) (chunk (y 3)) (ix2 (y 2) (within (y 3)))) [] [_, _, _, _, _, _, _, _, _, _, _, _, _, _, _, _, _, _, _, _, _, _, _, _, _, _, _, _, _, _]
    ⟨cols_emb 4 5 2560 rfl v i45, cols_emb 4 4 2048 rfl v i44, cols_emb 4 3 1536 rfl v i43, cols_emb 4 2 1024 rfl v i42, cols_emb 4 1 512 rfl v i41, cols_emb 4 0 0 rfl v i40, cols_emb 3 5 2560 rfl v i35, cols_emb 3 4 2048 rfl v i34, cols_emb 3 3 1536 rfl v i33, cols_emb 3 2 1024 rfl v i32, cols_emb 3 1 512 rfl v i31, cols_emb 3 0 0 rfl v i30, cols_emb 2 5 2560 rfl v i25, cols_emb 2 4 2048 rfl v i24, cols_emb 2 3 1536 rfl v i23, cols_emb 2 2 1024 rfl v i22, cols_emb 2 1 512 rfl v i21, cols_emb 2 0 0 rfl v i20, cols_emb 1 5 2560 rfl v i15, cols_emb 1 4 2048 rfl v i14, cols_emb 1 3 1536 rfl v i13, cols_emb 1 2 1024 rfl v i12, cols_emb 1 1 512 rfl v i11, cols_emb 1 0 0 rfl v i10, cols_emb 0 5 2560 rfl v i05, cols_emb 0 4 2048 rfl v i04, cols_emb 0 3 1536 rfl v i03, cols_emb 0 2 1024 rfl v i02, cols_emb 0 1 512 rfl v i01, cols_emb 0 0 0 rfl v i00, trivial⟩ _
    (View.cover_of_tiledL (s := S1x5x144x3072) _ (![1, 1, 144, 512] : Fin 4 → ℕ) (by sl_kernel_rfl) _)

variable (B : Blocks F) (n : Fin 5) (q : Fin 144)

/-- A chunk of a candidate's codes before the conversion. -/
def cR2 (C : Cand F) : Fin 6 → FVec F S144x512 .f32
  | 0 => cR2_0 B C
  | 1 => cR2_1 B C
  | 2 => cR2_2 B C
  | 3 => cR2_3 B C
  | 4 => cR2_4 B C
  | 5 => cR2_5 B C

/-- The candidates by number. -/
theorem cand_eq : cand B 0 = cand0 B ∧ cand B 1 = cand1 B ∧ cand B 2 = cand2 B ∧ cand B 3 = cand3 B ∧ cand B 4 = cand4 B := ⟨rfl, rfl, rfl, rfl, rfl⟩

theorem oY_at (k : Fin 768) : oY B (ix4 0 n q k) = (truncf .bf16 (cY B (cand B n)) bitsLt_bf16_f32 : Vec F S144x768 .bf16) (ix2 q k) :=
  canon_rows (F := F) (e := .bf16) (fun n => truncf .bf16 (cY B (cand B n)) bitsLt_bf16_f32) _ _ _ _ _ n q k
theorem oA_at (k : Fin 768) : oA B (ix4 0 n q k) = (truncf .bf16 (cA (cand B n)) bitsLt_bf16_f32 : Vec F S144x768 .bf16) (ix2 q k) :=
  canon_rows (F := F) (e := .bf16) (fun n => truncf .bf16 (cA (cand B n)) bitsLt_bf16_f32) _ _ _ _ _ n q k
theorem oC0_at (k : Fin 768) : oC0 B (ix4 0 n q k) = (fptosi 8 (cR0 (cand B n)) : Vec F S144x768 .i8) (ix2 q k) :=
  canon_rows (F := F) (e := .i8) (fun n => fptosi 8 (cR0 (cand B n))) _ _ _ _ _ n q k
theorem oC1_at (k : Fin 768) : oC1 B (ix4 0 n q k) = (fptosi 8 (cR1 B (cand B n)) : Vec F S144x768 .i8) (ix2 q k) :=
  canon_rows (F := F) (e := .i8) (fun n => fptosi 8 (cR1 B (cand B n))) _ _ _ _ _ n q k
theorem oC2_at (k : Fin 3072) : oC2 B (ix4 0 n q k) = (fptosi 8 (cR2 B (cand B n) (chunk k)) : Vec F S144x512 .i8) (ix2 q (within k)) :=
  canon_cols (F := F) (fun n c => fptosi 8 (cR2 B (cand B n) c)) _ _ _ _ _ _ _ _ _ _ _ _ _ _ _ _ _ _ _ _ _ _ _ _ _ _ _ _ _ _ n q k
theorem lane0_at (L : FVec F S128x144 .f32) : extractStridedSlice S1x144 ![0, 0] L slices_S128x144_o0_0_S1x144 (ix2 0 q) = L (ix2 0 q) := by pointwise
theorem oS0_at : oS0 B (ix3 0 n q) = cL B (cand B n) (ix2 0 q) := by
  have e := canon_scales (F := F) (fun n => extractStridedSlice S1x144 ![0, 0] (cL B (cand B n)) slices_S128x144_o0_0_S1x144) inb_S1x5x144_S1x1x144_0_4_0 inb_S1x5x144_S1x1x144_0_3_0 inb_S1x5x144_S1x1x144_0_2_0 inb_S1x5x144_S1x1x144_0_1_0 inb_S1x5x144_S1x1x144_0_0_0 n q
  simp only [(cand_eq B).1, (cand_eq B).2.1, (cand_eq B).2.2.1, (cand_eq B).2.2.2.1, (cand_eq B).2.2.2.2, lane0_at] at e
  exact e
theorem lane1_at (L : FVec F S128x144 .f32) : extractStridedSlice S1x144 ![1, 0] L slices_S128x144_o1_0_S1x144 (ix2 0 q) = L (ix2 1 q) := by pointwise
theorem oS1_at : oS1 B (ix3 0 n q) = cL B (cand B n) (ix2 1 q) := by
  have e := canon_scales (F := F) (fun n => extractStridedSlice S1x144 ![1, 0] (cL B (cand B n)) slices_S128x144_o1_0_S1x144) inb_S1x5x144_S1x1x144_0_4_0 inb_S1x5x144_S1x1x144_0_3_0 inb_S1x5x144_S1x1x144_0_2_0 inb_S1x5x144_S1x1x144_0_1_0 inb_S1x5x144_S1x1x144_0_0_0 n q
  simp only [(cand_eq B).1, (cand_eq B).2.1, (cand_eq B).2.2.1, (cand_eq B).2.2.2.1, (cand_eq B).2.2.2.2, lane1_at] at e
  exact e
theorem lane2_at (L : FVec F S128x144 .f32) : extractStridedSlice S1x144 ![2, 0] L slices_S128x144_o2_0_S1x144 (ix2 0 q) = L (ix2 2 q) := by pointwise
theorem oS2_at : oS2 B (ix3 0 n q) = cL B (cand B n) (ix2 2 q) := by
  have e := canon_scales (F := F) (fun n => extractStridedSlice S1x144 ![2, 0] (cL B (cand B n)) slices_S128x144_o2_0_S1x144) inb_S1x5x144_S1x1x144_0_4_0 inb_S1x5x144_S1x1x144_0_3_0 inb_S1x5x144_S1x1x144_0_2_0 inb_S1x5x144_S1x1x144_0_1_0 inb_S1x5x144_S1x1x144_0_0_0 n q
  simp only [(cand_eq B).1, (cand_eq B).2.1, (cand_eq B).2.2.1, (cand_eq B).2.2.2.1, (cand_eq B).2.2.2.2, lane2_at] at e
  exact e

/-! ## A candidate's operands -/

/-- A candidate's attention rows, from the blocks. -/
theorem cA_at (k : Fin 768) : cA (cand B n) (ix2 q k)
    = if h : q.val < 16 then B.attnG (ix3 0 k (⟨16 * n.val + q.val, by omega⟩ : Fin 128)) else B.attnM (ix4 0 n k (⟨q.val - 16, by omega⟩ : Fin 128)) := by
  match n with
  | 0 => rw [(cand_eq B).1]; pointwise [cA, cand0, vAttn, Blocks.rows, k0_pay5]
  | 1 => rw [(cand_eq B).2.1]; pointwise [cA, cand1, vAttn, Blocks.rows, k0_pay5]
  | 2 => rw [(cand_eq B).2.2.1]; pointwise [cA, cand2, vAttn, Blocks.rows, k0_pay5]
  | 3 => rw [(cand_eq B).2.2.2.1]; pointwise [cA, cand3, vAttn, Blocks.rows, k0_pay5]
  | 4 => rw [(cand_eq B).2.2.2.2]; pointwise [cA, cand4, vAttn, Blocks.rows, k0_pay5]

/-- A candidate's global tokens, from the block. -/
theorem gl_at (r : Fin 16) (k : Fin 768) : (cand B n).gl (ix4 0 0 r k) = B.glob (ix4 0 n r k) := by
  match n with
  | 0 => rw [(cand_eq B).1]; pointwise [cand0]
  | 1 => rw [(cand_eq B).2.1]; pointwise [cand1]
  | 2 => rw [(cand_eq B).2.2.1]; pointwise [cand2]
  | 3 => rw [(cand_eq B).2.2.2.1]; pointwise [cand3]
  | 4 => rw [(cand_eq B).2.2.2.2]; pointwise [cand4]

end Cert.KernelIdeal.Outputs

end
-- ==== Proof.Spec.lean ====
/- One row of the block, in extended reals: the two quantised projections, the layer norm and the activation
   between them, as the reference writes them; and the arithmetic facts that make the kernel's spelling of the
   same row (a reciprocal scale, a reciprocal root, a greatest magnitude taken chunk by chunk) equal to it. -/
module

public import Idealize.ShloMosaic.PureOps.Ideal

@[expose] public section

noncomputable section

open Idealize.ShloMosaic

namespace Cert.Spec

/-! ## The constants -/

abbrev c127 : EReal := Ideal.ofBits .f32 1123942400#32
abbrev cm127 : EReal := Ideal.ofBits .f32 3271426048#32
abbrev c768 : EReal := Ideal.ofBits .f32 1145044992#32
abbrev cEps : EReal := Ideal.ofBits .f32 925353388#32
abbrev cHalf : EReal := Ideal.ofBits .f32 1056964608#32
abbrev cRootHalf : EReal := Ideal.ofBits .f32 1060439283#32
abbrev cBot : EReal := Ideal.ofBits .f32 4286578688#32

theorem c127_eq : c127 = ((127 : ℝ) : EReal) := by simp [Ideal.ofBits, Ideal.ieee, -EReal.coe_mul]; norm_num
theorem cm127_eq : cm127 = ((-127 : ℝ) : EReal) := by simp [Ideal.ofBits, Ideal.ieee, -EReal.coe_mul]; norm_num
theorem c768_eq : c768 = ((768 : ℝ) : EReal) := by simp [Ideal.ofBits, Ideal.ieee, -EReal.coe_mul]; norm_num
theorem cEps_pos : ∃ e : ℝ, 0 < e ∧ cEps = (e : EReal) := by
  refine ⟨_, ?_, by simp [Ideal.ofBits, Ideal.ieee, -EReal.coe_mul]; rfl⟩
  positivity
theorem cBot_eq : cBot = ⊥ := by simp [Ideal.ofBits, Ideal.ieee]

/-! ## A row -/

variable {n k : ℕ}

/-- A magnitude. -/
abbrev mag (x : EReal) : EReal := FloatOps.absf (F := Ideal) (φ := .f32) x
/-- The greatest magnitude. -/
def amax (v : Fin n → EReal) : EReal := Finset.fold max cBot (fun x => mag (v x)) Finset.univ
/-- The scale of a greatest magnitude. -/
def scaleOf (a : EReal) : EReal := if a = 0 then 1 else Ideal.div a c127
/-- A number rounded and clipped. -/
def clip (x : EReal) : EReal := min c127 (max cm127 (Ideal.liftRound Ideal.roundHalfEven x))
/-- A number's code. -/
def code (x : EReal) : BitVec 8 := FloatOps.fptosi (F := Ideal) (φ := .f32) 8 (clip x)
/-- The number a code stands for. -/
abbrev val (c : BitVec 8) : EReal := FloatOps.sitofp (F := Ideal) .bf16 c
/-- A mean over 768. -/
def mean (v : Fin 768 → EReal) : EReal := Ideal.div (∑ x, v x) c768
/-- The activation. -/
def gelu (x : EReal) : EReal := cHalf * x * (1 + FloatOps.erf (F := Ideal) (φ := .f32) (x * cRootHalf))

/-- What a row is computed from. -/
structure Row where
  /-- the attention row -/
  a : Fin 768 → EReal
  /-- the residual row -/
  h0 : Fin 768 → EReal
  /-- the output projection's codes -/
  wo : Fin 768 → Fin 768 → BitVec 8
  /-- its column scales -/
  so : Fin 768 → EReal
  /-- the layer norm's gain -/
  g : Fin 768 → EReal
  /-- the layer norm's shift -/
  b : Fin 768 → EReal
  /-- the first feed-forward projection's codes -/
  w1 : Fin 768 → Fin 3072 → BitVec 8
  /-- its column scales -/
  s1 : Fin 3072 → EReal
  /-- the second feed-forward projection's codes -/
  w2 : Fin 3072 → Fin 768 → BitVec 8
  /-- its column scales -/
  s2 : Fin 768 → EReal

namespace Row

variable (R : Row)

/-- The attention row's scale. -/
def sa : EReal := scaleOf (amax R.a)
/-- The attention row's codes. -/
def ca (j : Fin 768) : BitVec 8 := code (Ideal.div (R.a j) R.sa)
/-- The row after the output projection. -/
def h (j : Fin 768) : EReal := R.h0 j + (∑ i, val (R.ca i) * val (R.wo i j)) * R.sa * R.so j
/-- That row less its mean. -/
def d (j : Fin 768) : EReal := R.h j - mean R.h
/-- Its layer norm. -/
def ln (j : Fin 768) : EReal := Ideal.div (R.d j) (Ideal.sqrt (mean (fun x => R.d x * R.d x) + cEps)) * R.g j + R.b j
/-- The layer norm's scale. -/
def sn : EReal := scaleOf (amax R.ln)
/-- The layer norm's codes. -/
def cn (j : Fin 768) : BitVec 8 := code (Ideal.div (R.ln j) R.sn)
/-- The activation of the first feed-forward projection. -/
def u (j : Fin 3072) : EReal := gelu ((∑ i, val (R.cn i) * val (R.w1 i j)) * R.sn * R.s1 j)
/-- The activation's scale. -/
def su : EReal := scaleOf (amax R.u)
/-- The activation's codes. -/
def cu (j : Fin 3072) : BitVec 8 := code (Ideal.div (R.u j) R.su)
/-- The row leaving the block. -/
def y (j : Fin 768) : EReal := R.h j + (∑ i, val (R.cu i) * val (R.w2 i j)) * R.su * R.s2 j

end Row

/-! ## The arithmetic facts -/

theorem mag_nonneg (x : EReal) : 0 ≤ mag x := by
  show 0 ≤ max x (-x)
  rcases le_total 0 x with h | h
  · exact le_max_of_le_left h
  · exact le_max_of_le_right (EReal.neg_nonneg.mpr h)

theorem amax_le {v : Fin n → EReal} {c : EReal} : amax v ≤ c ↔ ∀ x, mag (v x) ≤ c := by
  unfold amax
  rw [Finset.fold_max_le, cBot_eq]
  simp

theorem amax_nonneg (v : Fin (n + 1) → EReal) : 0 ≤ amax v :=
  (mag_nonneg (v 0)).trans (amax_le.mp le_rfl 0)

theorem scaleOf_ne {a : EReal} (h : 0 ≤ a) : scaleOf a ≠ 0 := by
  unfold scaleOf
  split_ifs with h0
  · exact one_ne_zero
  · rw [Ideal.div, c127_eq, if_neg (by norm_num)]
    have : (0 : EReal) < a := lt_of_le_of_ne h (Ne.symm h0)
    exact (EReal.mul_pos this (by rw [← EReal.coe_inv]; exact_mod_cast (by norm_num : (0 : ℝ) < 127⁻¹))).ne'

theorem Row.sa_ne (R : Row) : R.sa ≠ 0 := scaleOf_ne (amax_nonneg _)
theorem Row.sn_ne (R : Row) : R.sn ≠ 0 := scaleOf_ne (amax_nonneg _)
theorem Row.su_ne (R : Row) : R.su ≠ 0 := scaleOf_ne (amax_nonneg _)

/-- Multiplying by the reciprocal of a scale divides by it. -/
theorem mul_recip {s : EReal} (h : s ≠ 0) (v : EReal) : v * Ideal.div 1 s = Ideal.div v s := by
  rw [Ideal.div, Ideal.div, if_neg h, if_neg h, one_mul]

theorem mean_sq_nonneg (d : Fin 768 → EReal) : 0 ≤ mean (fun x => d x * d x) := by
  unfold mean
  rw [Ideal.div, c768_eq, if_neg (by norm_num)]
  refine EReal.mul_nonneg (Finset.sum_nonneg fun x _ => ?_) (by rw [← EReal.coe_inv]; exact_mod_cast (by norm_num : (0 : ℝ) ≤ 768⁻¹))
  rcases le_total 0 (d x) with h | h
  · exact EReal.mul_nonneg h h
  · rw [← neg_mul_neg]
    exact EReal.mul_nonneg (EReal.neg_nonneg.mpr h) (EReal.neg_nonneg.mpr h)

/-- Multiplying by the reciprocal root of a variance divides by its root. -/
theorem mul_rsqrt {v : EReal} (h : 0 ≤ v) (x : EReal) : x * Ideal.rsqrt (v + cEps) = Ideal.div x (Ideal.sqrt (v + cEps)) := by
  obtain ⟨e, he, hc⟩ := cEps_pos
  rw [hc]
  induction v with
  | bot => simp at h
  | top => simp [Ideal.div]
  | coe r =>
    have hr : 0 ≤ r := by exact_mod_cast h
    have hp : 0 < r + e := by linarith
    rw [← EReal.coe_add, Ideal.rsqrt_coe, Ideal.sqrt_coe, if_neg (not_lt.mpr hp.le), if_neg (not_lt.mpr hp.le), if_neg hp.ne', Ideal.div,
      if_neg (by exact_mod_cast (Real.sqrt_pos.mpr hp).ne'), EReal.coe_inv]

/-- A clipped number is an integer from −127 to 127. -/
theorem clip_int (x : EReal) : ∃ z : ℤ, -127 ≤ z ∧ z ≤ 127 ∧ clip x = ((z : ℝ) : EReal) := by
  unfold clip
  rw [c127_eq, cm127_eq]
  induction x with
  | bot => exact ⟨-127, by norm_num, by norm_num, by show min _ (max _ ⊥) = _; rw [max_eq_left bot_le, min_eq_right (EReal.coe_le_coe_iff.mpr (by norm_num))]; norm_num⟩
  | top => exact ⟨127, by norm_num, by norm_num, by show min _ (max _ ⊤) = _; rw [max_eq_right le_top, min_eq_left le_top]; norm_num⟩
  | coe r =>
    refine ⟨min 127 (max (-127) (Ideal.roundHalfEven r)), by omega, by omega, ?_⟩
    show min _ (max _ (((Ideal.roundHalfEven r : ℤ) : ℝ) : EReal)) = _
    rw [← EReal.coe_strictMono.monotone.map_max, ← EReal.coe_strictMono.monotone.map_min]
    norm_num

/-- A code stands for the clipped number it was made from. -/
theorem val_code (x : EReal) : val (code x) = clip x := by
  obtain ⟨z, h1, h2, e⟩ := clip_int x
  unfold code val
  rw [e]
  show (((Ideal.fptosi 8 ((z : ℝ) : EReal)).toInt : ℝ) : EReal) = _
  have : Ideal.fptosi 8 ((z : ℝ) : EReal) = BitVec.ofInt 8 z := by
    show BitVec.ofInt 8 (max _ (min _ (if 0 ≤ (z : ℝ) then ⌊(z : ℝ)⌋ else ⌈(z : ℝ)⌉))) = _
    rw [Int.floor_intCast, Int.ceil_intCast, ite_self]
    congr 1
    omega
  rw [this, BitVec.toInt_ofInt]
  congr 2
  simp [Int.bmod]
  omega

/-- The greatest magnitude of 3072 numbers, taken from zero over six chunks of 512. -/
theorem amax_chunks (v : Fin 3072 → EReal) (w0 w1 w2 w3 w4 w5 : Fin 512 → EReal)
    (h0 : ∀ x, w0 x = v ⟨0 + x.val, by omega⟩) (h1 : ∀ x, w1 x = v ⟨512 + x.val, by omega⟩) (h2 : ∀ x, w2 x = v ⟨1024 + x.val, by omega⟩)
    (h3 : ∀ x, w3 x = v ⟨1536 + x.val, by omega⟩) (h4 : ∀ x, w4 x = v ⟨2048 + x.val, by omega⟩) (h5 : ∀ x, w5 x = v ⟨2560 + x.val, by omega⟩) :
    max (max (max (max (max (max 0 (amax w0)) (amax w1)) (amax w2)) (amax w3)) (amax w4)) (amax w5) = amax v := by
  refine eq_of_forall_ge_iff fun c => ?_
  simp only [max_le_iff, amax_le, h0, h1, h2, h3, h4, h5]
  constructor
  · rintro ⟨⟨⟨⟨⟨⟨-, a0⟩, a1⟩, a2⟩, a3⟩, a4⟩, a5⟩ x
    have hx := x.isLt
    rcases Nat.lt_or_ge x.val 512 with l | g0
    · simpa using a0 ⟨x.val, l⟩
    rcases Nat.lt_or_ge x.val 1024 with l | g1
    · simpa [Nat.add_sub_cancel' g0] using a1 ⟨x.val - 512, by omega⟩
    rcases Nat.lt_or_ge x.val 1536 with l | g2
    · simpa [Nat.add_sub_cancel' g1] using a2 ⟨x.val - 1024, by omega⟩
    rcases Nat.lt_or_ge x.val 2048 with l | g3
    · simpa [Nat.add_sub_cancel' g2] using a3 ⟨x.val - 1536, by omega⟩
    rcases Nat.lt_or_ge x.val 2560 with l | g4
    · simpa [Nat.add_sub_cancel' g3] using a4 ⟨x.val - 2048, by omega⟩
    · simpa [Nat.add_sub_cancel' g4] using a5 ⟨x.val - 2560, by omega⟩
  · exact fun h => ⟨⟨⟨⟨⟨⟨(mag_nonneg _).trans (h ⟨0, by omega⟩), fun x => h _⟩, fun x => h _⟩, fun x => h _⟩, fun x => h _⟩, fun x => h _⟩, fun x => h _⟩

end Cert.Spec

end
-- ==== Proof.Rows.lean ====
/- One row of one candidate's block arithmetic, read at an index: each stage of `Proof/Vocab.lean` in the entries
   of what it is computed from, and then the whole chain, which is the row of `Proof/Spec.lean`. -/
module

public import proofs.«01_k».proof.Proof.Vocab
public import proofs.«01_k».proof.Proof.Spec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Rows

open Cert.KernelIdeal Cert.KernelIdeal.Gen Cert.KernelIdeal.Vocab Cert.Spec

variable (q : Fin 144)

/-! ## The stages at an index -/

theorem vMax_at (v : FVec Ideal S144x768 .f32) : vMax v (ix2 q 0) = amax fun x => v (ix2 q x) := by
  unfold amax
  pointwise [vMax]
theorem vMax512_at (v : FVec Ideal S144x512 .f32) : vMax512 v (ix2 q 0) = amax fun x => v (ix2 q x) := by
  unfold amax
  pointwise [vMax512]
theorem vScale_at (a : FVec Ideal S144x1 .f32) : vScale a (ix2 q 0) = scaleOf (a (ix2 q 0)) := by
  unfold scaleOf
  pointwise [vScale, lit]
theorem vClip_at (v : FVec Ideal S144x768 .f32) (s : FVec Ideal S144x1 .f32) (k : Fin 768) :
    vClip v s (ix2 q k) = clip (v (ix2 q k) * Ideal.div 1 (s (ix2 q 0))) := by
  unfold clip
  pointwise [vClip, lit, vInv]
theorem vClip512_at (v : FVec Ideal S144x512 .f32) (s : FVec Ideal S144x1 .f32) (k : Fin 512) :
    vClip512 (shapeCast S144x512 v shapeCasts_S144x512_S144x512) s (ix2 q k) = clip (v (ix2 q k) * Ideal.div 1 (s (ix2 q 0))) := by
  unfold clip
  pointwise [vClip512, lit, vInv]
theorem vH_at (h0 r : FVec Ideal S144x768 .f32) (s : FVec Ideal S144x1 .f32) (w : Vec Ideal S768x768 .bf16) (so : Vec Ideal S1x768 .f32) (k : Fin 768) :
    vH h0 r s w so (ix2 q k) = h0 (ix2 q k) + (∑ x, r (ix2 q x) * w (ix2 x k)) * s (ix2 q 0) * so (ix2 0 k) := by
  pointwise [vH, colWise, rowWise]
theorem vMean_at (v : FVec Ideal S144x768 .f32) : vMean v (ix2 q 0) = mean fun x => v (ix2 q x) := by
  unfold mean
  pointwise [vMean, lit]
theorem vCentre_at (v : FVec Ideal S144x768 .f32) (k : Fin 768) : vCentre v (ix2 q k) = v (ix2 q k) - vMean v (ix2 q 0) := by
  pointwise [vCentre, colWise]
theorem vNorm_at (d : FVec Ideal S144x768 .f32) (g b : Vec Ideal S1x768 .f32) (k : Fin 768) :
    vNorm d g b (ix2 q k) = d (ix2 q k) * Ideal.rsqrt (vMean (mulf d d) (ix2 q 0) + cEps) * g (ix2 0 k) + b (ix2 0 k) := by
  pointwise [vNorm, colWise, rowWise, lit]
theorem vPre_at (r : FVec Ideal S144x768 .f32) (s : FVec Ideal S144x1 .f32) (w : Vec Ideal S768x512 .bf16) (sf : Vec Ideal S1x512 .f32) (k : Fin 512) :
    vPre r s w sf (ix2 q k) = (∑ x, r (ix2 q x) * w (ix2 x k)) * s (ix2 q 0) * sf (ix2 0 k) := by
  pointwise [vPre]
theorem vGelu_at (v : FVec Ideal S144x512 .f32) (k : Fin 512) : vGelu v (ix2 q k) = gelu (v (ix2 q k)) := by
  unfold gelu
  pointwise [vGelu, lit]
theorem vY_at (h : FVec Ideal S144x768 .f32) (codes : Vec Ideal S144x3072 .bf16) (s : FVec Ideal S144x1 .f32) (w : Vec Ideal S3072x768 .bf16) (sf : Vec Ideal S1x768 .f32) (k : Fin 768) :
    vY h codes s w sf (ix2 q k) = h (ix2 q k) + (∑ x, codes (ix2 q x) * w (ix2 x k)) * s (ix2 q 0) * sf (ix2 0 k) := by
  pointwise [vY, colWise, rowWise]
theorem vResid_at (gl : Vec Ideal S1x1x16x768 .bf16) (mq : Vec Ideal S1x128x768 .f32) (k : Fin 768) :
    vResid gl mq (ix2 q k) = if h : q.val < 16 then gl (ix4 0 0 ⟨q.val, h⟩ k) else mq (ix3 0 ⟨q.val - 16, by omega⟩ k) := by
  pointwise [vResid]
theorem vAttn_at (g : FVec Ideal S16x768 .f32) (a : Vec Ideal S1x768x128 .f32) (k : Fin 768) :
    vAttn g a (ix2 q k) = if h : q.val < 16 then g (ix2 ⟨q.val, h⟩ k) else a (ix3 0 k ⟨q.val - 16, by omega⟩) := by
  pointwise [vAttn]

/-- The three lanes of the scales' transposed block. -/
theorem vLanes_at (a b c : FVec Ideal S144x1 .f32) :
    vLanes a b c (ix2 0 q) = a (ix2 q 0) ∧ vLanes a b c (ix2 1 q) = b (ix2 q 0) ∧ vLanes a b c (ix2 2 q) = c (ix2 q 0) := by
  refine ⟨?_, ?_, ?_⟩
  · pointwise [vLanes]
  · pointwise [vLanes]
    rfl
  · pointwise [vLanes]
    rfl

/-! ## The chunks -/

/-- A chunk's columns of the first feed-forward projection's weight. -/
theorem ld_w (w : Vec Ideal S768x3072 .bf16) (o : ℕ) (i : ∀ a, (![0, o] : Fin 2 → ℕ) a + S768x512.size a ≤ S768x3072.size a) (x : Fin 768) (k : Fin 512) (h : o + k.val < 3072) :
    View.ld w (Rect.unit (s := S768x3072) ![0, o] S768x512.size i) (ix2 x k) = w (ix2 x ⟨o + k.val, h⟩) := by
  refine congrArg w (funext fun a => Fin.ext ?_)
  fin_cases a <;> simp
/-- A chunk's columns of its scales. -/
theorem ld_s (w : Vec Ideal S1x3072 .f32) (o : ℕ) (i : ∀ a, (![0, o] : Fin 2 → ℕ) a + S1x512.size a ≤ S1x3072.size a) (k : Fin 512) (h : o + k.val < 3072) :
    View.ld w (Rect.unit (s := S1x3072) ![0, o] S1x512.size i) (ix2 0 k) = w (ix2 0 ⟨o + k.val, h⟩) := by
  refine congrArg w (funext fun a => Fin.ext ?_)
  fin_cases a <;> simp

/-- The glued codes at a column are their chunk's. -/
theorem glue_at (w0 w1 w2 w3 w4 w5 : FVec Ideal S144x512 .f32) (f : Fin 3072 → EReal)
    (h0 : ∀ x : Fin 512, w0 (ix2 q x) = f ⟨0 + x.val, by omega⟩) (h1 : ∀ x : Fin 512, w1 (ix2 q x) = f ⟨512 + x.val, by omega⟩)
    (h2 : ∀ x : Fin 512, w2 (ix2 q x) = f ⟨1024 + x.val, by omega⟩) (h3 : ∀ x : Fin 512, w3 (ix2 q x) = f ⟨1536 + x.val, by omega⟩)
    (h4 : ∀ x : Fin 512, w4 (ix2 q x) = f ⟨2048 + x.val, by omega⟩) (h5 : ∀ x : Fin 512, w5 (ix2 q x) = f ⟨2560 + x.val, by omega⟩) (k : Fin 3072) :
    glue (F := Ideal) (shapeCast S144x512 (truncf .bf16 w0 bitsLt_bf16_f32) shapeCasts_S144x512_S144x512) (shapeCast S144x512 (truncf .bf16 w1 bitsLt_bf16_f32) shapeCasts_S144x512_S144x512)
      (shapeCast S144x512 (truncf .bf16 w2 bitsLt_bf16_f32) shapeCasts_S144x512_S144x512) (shapeCast S144x512 (truncf .bf16 w3 bitsLt_bf16_f32) shapeCasts_S144x512_S144x512)
      (shapeCast S144x512 (truncf .bf16 w4 bitsLt_bf16_f32) shapeCasts_S144x512_S144x512) (shapeCast S144x512 (truncf .bf16 w5 bitsLt_bf16_f32) shapeCasts_S144x512_S144x512) (ix2 q k) = f k := by
  have hk := k.isLt
  have e : ∀ (w : FVec Ideal S144x512 .f32) (x : Fin 512), shapeCast S144x512 (truncf (F := Ideal) .bf16 w bitsLt_bf16_f32) shapeCasts_S144x512_S144x512 (ix2 q x) = w (ix2 q x) := by
    intro w x
    pointwise
  show (if k.val < 512 then _ else if k.val < 1024 then _ else if k.val < 1536 then _ else if k.val < 2048 then _ else if k.val < 2560 then _ else _ : Vec Ideal S144x512 .bf16)
    (ix2 q ⟨k.val % 512, Nat.mod_lt _ (by decide)⟩) = f k
  split_ifs
  · exact (e _ _).trans ((h0 _).trans (congrArg f (Fin.ext (by show 0 + k.val % 512 = _; omega))))
  · exact (e _ _).trans ((h1 _).trans (congrArg f (Fin.ext (by show 512 + k.val % 512 = _; omega))))
  · exact (e _ _).trans ((h2 _).trans (congrArg f (Fin.ext (by show 1024 + k.val % 512 = _; omega))))
  · exact (e _ _).trans ((h3 _).trans (congrArg f (Fin.ext (by show 1536 + k.val % 512 = _; omega))))
  · exact (e _ _).trans ((h4 _).trans (congrArg f (Fin.ext (by show 2048 + k.val % 512 = _; omega))))
  · exact (e _ _).trans ((h5 _).trans (congrArg f (Fin.ext (by show 2560 + k.val % 512 = _; omega))))

/-! ## The chain -/

/-- The blocks and the candidate's row `q` hold what the row `R` is computed from. -/
structure Match (B : Blocks Ideal) (C : Cand Ideal) (q : Fin 144) (R : Row) : Prop where
  a : ∀ k, cA C (ix2 q k) = R.a k
  h0 : ∀ k, vResid C.gl B.merged (ix2 q k) = R.h0 k
  wo : ∀ i j, B.wo (ix2 i j) = val (R.wo i j)
  so : ∀ j, B.so (ix2 0 j) = R.so j
  g : ∀ j, B.gain (ix2 0 j) = R.g j
  b : ∀ j, B.shift (ix2 0 j) = R.b j
  w1 : ∀ i j, B.w1 (ix2 i j) = val (R.w1 i j)
  s1 : ∀ j, B.s1 (ix2 0 j) = R.s1 j
  w2 : ∀ i j, B.w2 (ix2 i j) = val (R.w2 i j)
  s2 : ∀ j, B.s2 (ix2 0 j) = R.s2 j

variable {q} {B : Blocks Ideal} {C : Cand Ideal} {R : Row} (M : Match B C q R)
include M

theorem cS0_at : cS0 C (ix2 q 0) = R.sa := by
  unfold cS0 Row.sa
  rw [vScale_at, vMax_at]
  simp only [M.a]
theorem cR0_at (k : Fin 768) : cR0 C (ix2 q k) = clip (Ideal.div (R.a k) R.sa) := by
  unfold cR0
  rw [vClip_at, cS0_at M, M.a, mul_recip R.sa_ne]
theorem cH_at (k : Fin 768) : cH B C (ix2 q k) = R.h k := by
  unfold cH Row.h
  rw [vH_at, cS0_at M, M.h0, M.so]
  simp only [cR0_at M, M.wo, Row.ca, val_code]
theorem cC_at (k : Fin 768) : vCentre (cH B C) (ix2 q k) = R.d k := by
  unfold Row.d
  rw [vCentre_at, vMean_at]
  simp only [cH_at M]
theorem cN_at (k : Fin 768) : cN B C (ix2 q k) = R.ln k := by
  unfold cN Row.ln
  rw [vNorm_at, vMean_at, cC_at M, M.g, M.b, ← mul_rsqrt (mean_sq_nonneg _)]
  have e : ∀ x, mulf (vCentre (cH B C)) (vCentre (cH B C)) (ix2 q x) = R.d x * R.d x := fun x => congrArg₂ (· * ·) (cC_at M x) (cC_at M x)
  simp only [e]
theorem cS1_at : cS1 B C (ix2 q 0) = R.sn := by
  unfold cS1 Row.sn
  rw [vScale_at, vMax_at]
  simp only [cN_at M]
theorem cR1_at (k : Fin 768) : cR1 B C (ix2 q k) = clip (Ideal.div (R.ln k) R.sn) := by
  unfold cR1
  rw [vClip_at, cS1_at M, cN_at M, mul_recip R.sn_ne]

/-- One chunk of the activation. -/
theorem chunk_at (o : ℕ) (i : ∀ a, (![0, o] : Fin 2 → ℕ) a + S768x512.size a ≤ S768x3072.size a) (i' : ∀ a, (![0, o] : Fin 2 → ℕ) a + S1x512.size a ≤ S1x3072.size a)
    (k : Fin 512) (h : o + k.val < 3072) :
    vGelu (vPre (cR1 B C) (cS1 B C) (View.ld B.w1 (Rect.unit (s := S768x3072) ![0, o] S768x512.size i)) (View.ld B.s1 (Rect.unit (s := S1x3072) ![0, o] S1x512.size i'))) (ix2 q k)
      = R.u ⟨o + k.val, h⟩ := by
  unfold Row.u
  rw [vGelu_at, vPre_at, cS1_at M, ld_s B.s1 o i' k h, M.s1]
  simp only [ld_w B.w1 o i _ k h, cR1_at M, M.w1, Row.cn, val_code]
theorem cU0_at (k : Fin 512) : cU0 B C (ix2 q k) = R.u ⟨0 + k.val, by omega⟩ := chunk_at M 0 _ _ k _
theorem cU1_at (k : Fin 512) : cU1 B C (ix2 q k) = R.u ⟨512 + k.val, by omega⟩ := chunk_at M 512 _ _ k _
theorem cU2_at (k : Fin 512) : cU2 B C (ix2 q k) = R.u ⟨1024 + k.val, by omega⟩ := chunk_at M 1024 _ _ k _
theorem cU3_at (k : Fin 512) : cU3 B C (ix2 q k) = R.u ⟨1536 + k.val, by omega⟩ := chunk_at M 1536 _ _ k _
theorem cU4_at (k : Fin 512) : cU4 B C (ix2 q k) = R.u ⟨2048 + k.val, by omega⟩ := chunk_at M 2048 _ _ k _
theorem cU5_at (k : Fin 512) : cU5 B C (ix2 q k) = R.u ⟨2560 + k.val, by omega⟩ := chunk_at M 2560 _ _ k _

theorem cS2_at : cS2 B C (ix2 q 0) = R.su := by
  unfold cS2 Row.su
  rw [vScale_at]
  refine congrArg scaleOf (Eq.trans ?_ (amax_chunks R.u _ _ _ _ _ _ (cU0_at M) (cU1_at M) (cU2_at M) (cU3_at M) (cU4_at M) (cU5_at M)))
  simp only [← vMax512_at]
  pointwise [lit]

theorem clip512_at (v : FVec Ideal S144x512 .f32) (k : Fin 512) (j : Fin 3072) (h : v (ix2 q k) = R.u j) :
    vClip512 (shapeCast S144x512 v shapeCasts_S144x512_S144x512) (cS2 B C) (ix2 q k) = clip (Ideal.div (R.u j) R.su) := by
  rw [vClip512_at, cS2_at M, h, mul_recip R.su_ne]
theorem cR2_0_at (k : Fin 512) : cR2_0 B C (ix2 q k) = clip (Ideal.div (R.u ⟨0 + k.val, by omega⟩) R.su) := clip512_at M _ k _ (cU0_at M k)
theorem cR2_1_at (k : Fin 512) : cR2_1 B C (ix2 q k) = clip (Ideal.div (R.u ⟨512 + k.val, by omega⟩) R.su) := clip512_at M _ k _ (cU1_at M k)
theorem cR2_2_at (k : Fin 512) : cR2_2 B C (ix2 q k) = clip (Ideal.div (R.u ⟨1024 + k.val, by omega⟩) R.su) := clip512_at M _ k _ (cU2_at M k)
theorem cR2_3_at (k : Fin 512) : cR2_3 B C (ix2 q k) = clip (Ideal.div (R.u ⟨1536 + k.val, by omega⟩) R.su) := clip512_at M _ k _ (cU3_at M k)
theorem cR2_4_at (k : Fin 512) : cR2_4 B C (ix2 q k) = clip (Ideal.div (R.u ⟨2048 + k.val, by omega⟩) R.su) := clip512_at M _ k _ (cU4_at M k)
theorem cR2_5_at (k : Fin 512) : cR2_5 B C (ix2 q k) = clip (Ideal.div (R.u ⟨2560 + k.val, by omega⟩) R.su) := clip512_at M _ k _ (cU5_at M k)

theorem cCodes_at (k : Fin 3072) : cCodes B C (ix2 q k) = clip (Ideal.div (R.u k) R.su) :=
  glue_at q _ _ _ _ _ _ (fun k => clip (Ideal.div (R.u k) R.su)) (cR2_0_at M) (cR2_1_at M) (cR2_2_at M) (cR2_3_at M) (cR2_4_at M) (cR2_5_at M) k
theorem cY_at (k : Fin 768) : cY B C (ix2 q k) = R.y k := by
  unfold cY Row.y
  rw [vY_at, cH_at M, cS2_at M, M.s2]
  simp only [cCodes_at M, M.w2, Row.cu, val_code]

theorem cL_at : cL B C (ix2 0 q) = R.sa ∧ cL B C (ix2 1 q) = R.sn ∧ cL B C (ix2 2 q) = R.su := by
  have h := vLanes_at q (cS0 C) (cS1 B C) (cS2 B C)
  rw [cS0_at M, cS1_at M, cS2_at M] at h
  exact h

end Cert.KernelIdeal.Rows

end
-- ==== Proof.RefStages.lean ====
/- The reference's block arithmetic as named stages, each payload of its body a composition of them, and each
   stage read at an index: what one entry of the stage is, in the entries of what it is computed from. -/
module

public import proofs.«01_k».proof.Proof.Gen.ReferenceIdeal.Frame
public import Idealize.ShloMosaic.Lib.Pipeline.ValueKit

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen

section stages
variable {F : FTy → Type} [FloatOps F]

/-- A literal on every row. -/
abbrev lit (s : Shape) (w : BitVec 32) : FVec F s .f32 := broadcast s (Scalar.ofBits .f32 w : F .f32)

/-- The greatest magnitude of each row of 768. -/
def sMax (v : FVec F S6x5x144x768 .f32) : FVec F S6x5x144x1 .f32 :=
  shapeCast S6x5x144x1 (multiReduction .maximumf [3] S6x5x144 (absf v) 0xFF800000#32 reduces_S6x5x144x768_S6x5x144 (.inl rfl) rfl) shapeCasts_S6x5x144_S6x5x144x1

/-- The greatest magnitude of each row of 3072. -/
def sMax3072 (v : FVec F S6x5x144x3072 .f32) : FVec F S6x5x144x1 .f32 :=
  shapeCast S6x5x144x1 (multiReduction .maximumf [3] S6x5x144 (absf v) 0xFF800000#32 reduces_S6x5x144x3072_S6x5x144 (.inl rfl) rfl) shapeCasts_S6x5x144_S6x5x144x1

/-- The scale of rows whose greatest magnitudes are `a`. -/
def sScale (a : FVec F S6x5x144x1 .f32) : FVec F S6x5x144x1 .f32 :=
  select (cmpf .oeq a (lit S6x5x144x1 0x00000000#32)) (lit S6x5x144x1 0x3F800000#32) (divf a (lit S6x5x144x1 0x42FE0000#32))

/-- A column spread over 768 columns. -/
abbrev spread (s : FVec F S6x5x144x1 .f32) : FVec F S6x5x144x768 .f32 := broadcastTo S6x5x144x768 s broadcasts_S6x5x144x1_S6x5x144x768
/-- A column spread over 3072 columns. -/
abbrev spread3072 (s : FVec F S6x5x144x1 .f32) : FVec F S6x5x144x3072 .f32 := broadcastTo S6x5x144x3072 s broadcasts_S6x5x144x1_S6x5x144x3072
/-- A row spread over the rows. -/
abbrev along (g : Vec F S768 .f32) : FVec F S6x5x144x768 .f32 :=
  broadcastTo S6x5x144x768 (shapeCast S1x1x1x768 g shapeCasts_S768_S1x1x1x768) broadcasts_S1x1x1x768_S6x5x144x768
/-- A row of 3072 spread over the rows. -/
abbrev along3072 (g : Vec F S3072 .f32) : FVec F S6x5x144x3072 .f32 :=
  broadcastTo S6x5x144x3072 (shapeCast S1x1x1x3072 g shapeCasts_S3072_S1x1x1x3072) broadcasts_S1x1x1x3072_S6x5x144x3072

/-- Rows rounded and clipped at a scale. -/
def sClip (v : FVec F S6x5x144x768 .f32) (s : FVec F S6x5x144x1 .f32) : FVec F S6x5x144x768 .f32 :=
  minimumf (lit S6x5x144x768 0x42FE0000#32) (maximumf (lit S6x5x144x768 0xC2FE0000#32) (roundeven (divf v (spread s))))
/-- Rows of 3072 rounded and clipped at a scale. -/
def sClip3072 (v : FVec F S6x5x144x3072 .f32) (s : FVec F S6x5x144x1 .f32) : FVec F S6x5x144x3072 .f32 :=
  minimumf (lit S6x5x144x3072 0x42FE0000#32) (maximumf (lit S6x5x144x3072 0xC2FE0000#32) (roundeven (divf v (spread3072 s))))

/-- Codes as rows. -/
def sFlat (c : IVec S6x5x144x768 8) : FVec F S4320x768 .bf16 := sitofp .bf16 (shapeCast S4320x768 c shapeCasts_S6x5x144x768_S4320x768)
/-- Codes of 3072 as rows. -/
def sFlat3072 (c : IVec S6x5x144x3072 8) : FVec F S4320x3072 .bf16 := sitofp .bf16 (shapeCast S4320x3072 c shapeCasts_S6x5x144x3072_S4320x3072)
/-- Rows as blocks. -/
def sBlocks (v : FVec F S4320x768 .f32) : FVec F S6x5x144x768 .f32 := shapeCast S6x5x144x768 v shapeCasts_S4320x768_S6x5x144x768
/-- Rows of 3072 as blocks. -/
def sBlocks3072 (v : FVec F S4320x3072 .f32) : FVec F S6x5x144x3072 .f32 := shapeCast S6x5x144x3072 v shapeCasts_S4320x3072_S6x5x144x3072

/-- The output projection's products. -/
def sDotO (x : FVec F S4320x768 .bf16) (w : Vec F S768x768 .i8) : FVec F S4320x768 .f32 :=
  matmul dot_S4320x768_S768x768_S4320x768_1_0_0_1_n_n none x (sitofp .bf16 (shapeCast S768x768 w shapeCasts_S768x768_S768x768)) (constant S4320x768 .f32 0x00000000#32)
/-- The first feed-forward projection's products. -/
def sDot1 (x : FVec F S4320x768 .bf16) (w : Vec F S768x3072 .i8) : FVec F S4320x3072 .f32 :=
  matmul dot_S4320x768_S768x3072_S4320x3072_1_0_0_1_n_n none x (sitofp .bf16 w) (constant S4320x3072 .f32 0x00000000#32)
/-- The second feed-forward projection's products. -/
def sDot2 (x : FVec F S4320x3072 .bf16) (w : Vec F S3072x768 .i8) : FVec F S4320x768 .f32 :=
  matmul dot_S4320x3072_S3072x768_S4320x768_1_0_0_1_n_n none x (sitofp .bf16 w) (constant S4320x768 .f32 0x00000000#32)

/-- Products scaled by row and by column. -/
def sScaled (v : FVec F S6x5x144x768 .f32) (s : FVec F S6x5x144x1 .f32) (g : Vec F S768 .f32) : FVec F S6x5x144x768 .f32 := mulf (mulf v (spread s)) (along g)
/-- Products of 3072 scaled by row and by column. -/
def sScaled3072 (v : FVec F S6x5x144x3072 .f32) (s : FVec F S6x5x144x1 .f32) (g : Vec F S3072 .f32) : FVec F S6x5x144x3072 .f32 := mulf (mulf v (spread3072 s)) (along3072 g)

/-- The activation. -/
def sGelu (v : FVec F S6x5x144x3072 .f32) : FVec F S6x5x144x3072 .f32 :=
  mulf (mulf (lit S6x5x144x3072 0x3F000000#32) v) (addf (lit S6x5x144x3072 0x3F800000#32) (erf (mulf v (lit S6x5x144x3072 0x3F3504F3#32))))

/-- A row's mean. -/
def sMean (v : FVec F S6x5x144x768 .f32) : FVec F S6x5x144x1 .f32 :=
  divf (shapeCast S6x5x144x1 (multiReduction .add [3] S6x5x144 v 0x00000000#32 reduces_S6x5x144x768_S6x5x144 (.inl rfl) rfl) shapeCasts_S6x5x144_S6x5x144x1) (lit S6x5x144x1 0x44400000#32)
/-- Rows less their means. -/
def sCentre (v : FVec F S6x5x144x768 .f32) : FVec F S6x5x144x768 .f32 := subf v (spread (sMean v))
/-- The layer norm of rows already centred. -/
def sNorm (d : FVec F S6x5x144x768 .f32) (g b : Vec F S768 .f32) : FVec F S6x5x144x768 .f32 :=
  addf (mulf (divf d (spread (sqrt (addf (sMean (mulf d d)) (lit S6x5x144x1 0x3727C5AC#32))))) (along g)) (along b)

theorem pay7_eq (A : Vec F S6x5x144x768 .f32) : k0_pay7 A = sScale (sMax A) := rfl
theorem pay8_eq (A : Vec F S6x5x144x768 .f32) : k0_pay8 A = fptosi 8 (sClip A (k0_pay7 A)) := rfl
theorem pay9_eq (A : Vec F S6x5x144x768 .f32) (w : Vec F S768x768 .i8) (g : Vec F S768 .f32) :
    k0_pay9 A w g = sScaled (sBlocks (sDotO (sFlat (k0_pay8 A)) w)) (k0_pay7 A) g := rfl
theorem pay11_eq (a h : FVec F S6x5x144x768 .f32) (g b : Vec F S768 .f32) : k0_pay11 a h g b = sNorm (sCentre (k0_pay10 a h)) g b := rfl
theorem pay12_eq (a h : FVec F S6x5x144x768 .f32) (g b : Vec F S768 .f32) : k0_pay12 a h g b = sScale (sMax (k0_pay11 a h g b)) := rfl
theorem pay13_eq (a h : FVec F S6x5x144x768 .f32) (g b : Vec F S768 .f32) : k0_pay13 a h g b = fptosi 8 (sClip (k0_pay11 a h g b) (k0_pay12 a h g b)) := rfl
theorem pay14_eq (s : FVec F S6x5x144x1 .f32) (c : IVec S6x5x144x768 8) (w : Vec F S768x3072 .i8) (g : Vec F S3072 .f32) :
    k0_pay14 s c w g = sGelu (sScaled3072 (sBlocks3072 (sDot1 (sFlat c) w)) s g) := rfl
theorem pay15_eq (s : FVec F S6x5x144x1 .f32) (c : IVec S6x5x144x768 8) (w : Vec F S768x3072 .i8) (g : Vec F S3072 .f32) :
    k0_pay15 s c w g = sScale (sMax3072 (k0_pay14 s c w g)) := rfl
theorem pay16_eq (s : FVec F S6x5x144x1 .f32) (c : IVec S6x5x144x768 8) (w : Vec F S768x3072 .i8) (g : Vec F S3072 .f32) :
    k0_pay16 s c w g = fptosi 8 (sClip3072 (k0_pay14 s c w g) (k0_pay15 s c w g)) := rfl
theorem pay17_eq (s : FVec F S6x5x144x1 .f32) (c : IVec S6x5x144x768 8) (w : Vec F S768x3072 .i8) (g : Vec F S3072 .f32) (w2 : Vec F S3072x768 .i8) :
    k0_pay17 s c w g w2 = mulf (sBlocks (sDot2 (sFlat3072 (k0_pay16 s c w g)) w2)) (spread (k0_pay15 s c w g)) := rfl

end stages

section at_index
variable (b : Fin 6) (c : Fin 5) (q : Fin 144)

theorem sMax_at (v : FVec Ideal S6x5x144x768 .f32) :
    sMax v (ix4 b c q 0) = Finset.fold max (Ideal.ofBits .f32 4286578688#32) (fun x => FloatOps.absf (F := Ideal) (φ := .f32) (v (ix4 b c q x))) Finset.univ := by
  pointwise [sMax]
theorem sMax3072_at (v : FVec Ideal S6x5x144x3072 .f32) :
    sMax3072 v (ix4 b c q 0) = Finset.fold max (Ideal.ofBits .f32 4286578688#32) (fun x => FloatOps.absf (F := Ideal) (φ := .f32) (v (ix4 b c q x))) Finset.univ := by
  pointwise [sMax3072]
theorem sScale_at (a : FVec Ideal S6x5x144x1 .f32) :
    sScale a (ix4 b c q 0) = if a (ix4 b c q 0) = 0 then 1 else Ideal.div (a (ix4 b c q 0)) (Ideal.ofBits .f32 1123942400#32) := by
  pointwise [sScale, lit]
theorem sClip_at (v : FVec Ideal S6x5x144x768 .f32) (s : FVec Ideal S6x5x144x1 .f32) (k : Fin 768) :
    sClip v s (ix4 b c q k) = min (Ideal.ofBits .f32 1123942400#32) (max (Ideal.ofBits .f32 3271426048#32)
      (Ideal.liftRound Ideal.roundHalfEven (Ideal.div (v (ix4 b c q k)) (s (ix4 b c q 0))))) := by
  pointwise [sClip, lit, spread]
theorem sClip3072_at (v : FVec Ideal S6x5x144x3072 .f32) (s : FVec Ideal S6x5x144x1 .f32) (k : Fin 3072) :
    sClip3072 v s (ix4 b c q k) = min (Ideal.ofBits .f32 1123942400#32) (max (Ideal.ofBits .f32 3271426048#32)
      (Ideal.liftRound Ideal.roundHalfEven (Ideal.div (v (ix4 b c q k)) (s (ix4 b c q 0))))) := by
  pointwise [sClip3072, lit, spread3072]
/-- The row of the flat operand a block's row is. -/
def flat (b : Fin 6) (c : Fin 5) (q : Fin 144) : Fin 4320 := ⟨b.val * 720 + c.val * 144 + q.val, by omega⟩
theorem ix4_congr {n0 n1 n2 n3 : ℕ} {a a' : Fin n0} {b b' : Fin n1} {c c' : Fin n2} (d : Fin n3) (h0 : a = a') (h1 : b = b') (h2 : c = c') :
    ix4 a b c d = ix4 a' b' c' d := by subst h0 h1 h2; rfl
theorem sFlat_at (v : IVec S6x5x144x768 8) (k : Fin 768) :
    sFlat (F := Ideal) v (ix2 (flat b c q) k) = FloatOps.sitofp (F := Ideal) .bf16 (v (ix4 b c q k)) := by
  pointwise [sFlat]
  exact congrArg (fun i => FloatOps.sitofp (F := Ideal) .bf16 (v i))
    (ix4_congr k (Fin.ext (by show (b.val * 720 + c.val * 144 + q.val) / 720 = _; omega)) (Fin.ext (by show (b.val * 720 + c.val * 144 + q.val) / 144 % 5 = _; omega))
      (Fin.ext (by show (b.val * 720 + c.val * 144 + q.val) % 144 = _; omega)))
theorem sFlat3072_at (v : IVec S6x5x144x3072 8) (k : Fin 3072) :
    sFlat3072 (F := Ideal) v (ix2 (flat b c q) k) = FloatOps.sitofp (F := Ideal) .bf16 (v (ix4 b c q k)) := by
  pointwise [sFlat3072]
  exact congrArg (fun i => FloatOps.sitofp (F := Ideal) .bf16 (v i))
    (ix4_congr k (Fin.ext (by show (b.val * 720 + c.val * 144 + q.val) / 720 = _; omega)) (Fin.ext (by show (b.val * 720 + c.val * 144 + q.val) / 144 % 5 = _; omega))
      (Fin.ext (by show (b.val * 720 + c.val * 144 + q.val) % 144 = _; omega)))
theorem sBlocks_at (v : FVec Ideal S4320x768 .f32) (k : Fin 768) :
    sBlocks v (ix4 b c q k) = v (ix2 (flat b c q) k) := by
  pointwise [sBlocks, flat]
theorem sBlocks3072_at (v : FVec Ideal S4320x3072 .f32) (k : Fin 3072) :
    sBlocks3072 v (ix4 b c q k) = v (ix2 (flat b c q) k) := by
  pointwise [sBlocks3072, flat]
theorem sDotO_at (x : FVec Ideal S4320x768 .bf16) (w : Vec Ideal S768x768 .i8) (r : Fin 4320) (k : Fin 768) :
    sDotO x w (ix2 r k) = ∑ j, x (ix2 r j) * FloatOps.sitofp (F := Ideal) .bf16 (w (ix2 j k)) := by
  pointwise [sDotO]
theorem sDot1_at (x : FVec Ideal S4320x768 .bf16) (w : Vec Ideal S768x3072 .i8) (r : Fin 4320) (k : Fin 3072) :
    sDot1 x w (ix2 r k) = ∑ j, x (ix2 r j) * FloatOps.sitofp (F := Ideal) .bf16 (w (ix2 j k)) := by
  pointwise [sDot1]
theorem sDot2_at (x : FVec Ideal S4320x3072 .bf16) (w : Vec Ideal S3072x768 .i8) (r : Fin 4320) (k : Fin 768) :
    sDot2 x w (ix2 r k) = ∑ j, x (ix2 r j) * FloatOps.sitofp (F := Ideal) .bf16 (w (ix2 j k)) := by
  pointwise [sDot2]
theorem sScaled_at (v : FVec Ideal S6x5x144x768 .f32) (s : FVec Ideal S6x5x144x1 .f32) (g : Vec Ideal S768 .f32) (k : Fin 768) :
    sScaled v s g (ix4 b c q k) = v (ix4 b c q k) * s (ix4 b c q 0) * g (ix1 k) := by
  pointwise [sScaled, spread, along]
theorem sScaled3072_at (v : FVec Ideal S6x5x144x3072 .f32) (s : FVec Ideal S6x5x144x1 .f32) (g : Vec Ideal S3072 .f32) (k : Fin 3072) :
    sScaled3072 v s g (ix4 b c q k) = v (ix4 b c q k) * s (ix4 b c q 0) * g (ix1 k) := by
  pointwise [sScaled3072, spread3072, along3072]
theorem sGelu_at (v : FVec Ideal S6x5x144x3072 .f32) (k : Fin 3072) :
    sGelu v (ix4 b c q k) = Ideal.ofBits .f32 1056964608#32 * v (ix4 b c q k)
      * (Ideal.ofBits .f32 1065353216#32 + FloatOps.erf (F := Ideal) (φ := .f32) (v (ix4 b c q k) * Ideal.ofBits .f32 1060439283#32)) := by
  pointwise [sGelu, lit]
theorem sMean_at (v : FVec Ideal S6x5x144x768 .f32) :
    sMean v (ix4 b c q 0) = Ideal.div (∑ x, v (ix4 b c q x)) (Ideal.ofBits .f32 1145044992#32) := by
  pointwise [sMean, lit]
theorem sCentre_at (v : FVec Ideal S6x5x144x768 .f32) (k : Fin 768) :
    sCentre v (ix4 b c q k) = v (ix4 b c q k) - sMean v (ix4 b c q 0) := by
  pointwise [sCentre, spread]
theorem sNorm_at (d : FVec Ideal S6x5x144x768 .f32) (g s : Vec Ideal S768 .f32) (k : Fin 768) :
    sNorm d g s (ix4 b c q k) = Ideal.div (d (ix4 b c q k)) (Ideal.sqrt (sMean (mulf d d) (ix4 b c q 0) + Ideal.ofBits .f32 925353388#32)) * g (ix1 k) + s (ix1 k) := by
  pointwise [sNorm, lit, spread, along]
theorem sRows_at (v : FVec Ideal S6x5x144x768 .f32) (s : FVec Ideal S6x5x144x1 .f32) (k : Fin 768) :
    mulf v (spread s) (ix4 b c q k) = v (ix4 b c q k) * s (ix4 b c q 0) := by
  pointwise [spread]
theorem pay1_at (h v g : FVec Ideal S6x5x144x768 .f32) (k : Fin 768) :
    k0_pay1 (F := Ideal) h v g (ix4 b c q k) = h (ix4 b c q k) + v (ix4 b c q k) * g (ix4 b c q k) := by
  pointwise [k0_pay1]
theorem pay18_at (g : Vec Ideal S768 .f32) (k : Fin 768) : k0_pay18 (F := Ideal) g (ix4 b c q k) = g (ix1 k) := by
  pointwise [k0_pay18]
end at_index

end Cert.ReferenceIdeal.Stages

end
-- ==== Proof.RefRows.lean ====
/- One row of the reference's block, read at an index: its payloads' entries are the row of `Proof/Spec.lean`. -/
module

public import proofs.«01_k».proof.Proof.RefStages
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Stages Cert.Spec

/-- What the reference is computed from. -/
structure Args where
  /-- the attention rows -/
  A : Vec Ideal S6x5x144x768 .f32
  /-- the global tokens -/
  glob : Vec Ideal S6x5x16x768 .bf16
  /-- the merged sequence -/
  merged : Vec Ideal S6x256x768 .f32
  /-- the output projection's codes -/
  wo : Vec Ideal S768x768 .i8
  /-- its column scales -/
  so : Vec Ideal S768 .f32
  /-- the layer norm's gain -/
  g : Vec Ideal S768 .f32
  /-- the layer norm's shift -/
  b : Vec Ideal S768 .f32
  /-- the first feed-forward projection's codes -/
  w1 : Vec Ideal S768x3072 .i8
  /-- its column scales -/
  s1 : Vec Ideal S3072 .f32
  /-- the second feed-forward projection's codes -/
  w2 : Vec Ideal S3072x768 .i8
  /-- its column scales -/
  s2 : Vec Ideal S768 .f32

variable (P : Args) (b : Fin 6) (c : Fin 5) (q : Fin 144)

/-- The residual row. -/
def Args.resid (k : Fin 768) : EReal :=
  if h : q.val < 16 then P.glob (ix4 b c ⟨q.val, h⟩ k) else P.merged (ix3 b ⟨128 + (q.val - 16), by omega⟩ k)

/-- Row `q` of candidate `c` of batch `b`. -/
def Args.row : Row where
  a k := P.A (ix4 b c q k)
  h0 := P.resid b c q
  wo i j := P.wo (ix2 i j)
  so j := P.so (ix1 j)
  g j := P.g (ix1 j)
  b j := P.b (ix1 j)
  w1 i j := P.w1 (ix2 i j)
  s1 j := P.s1 (ix1 j)
  w2 i j := P.w2 (ix2 i j)
  s2 j := P.s2 (ix1 j)

/-! ## The payloads, over the arguments -/

def Args.sa : FVec Ideal S6x5x144x1 .f32 := k0_pay7 (F := Ideal) P.A
def Args.ca : IVec S6x5x144x768 8 := k0_pay8 (F := Ideal) P.A
def Args.x0 : FVec Ideal S6x5x144x768 .f32 := k0_pay6 (F := Ideal) P.glob P.merged
def Args.o : FVec Ideal S6x5x144x768 .f32 := k0_pay9 (F := Ideal) P.A P.wo P.so
def Args.h : FVec Ideal S6x5x144x768 .f32 := k0_pay10 (F := Ideal) P.x0 P.o
def Args.ln : FVec Ideal S6x5x144x768 .f32 := k0_pay11 (F := Ideal) P.x0 P.o P.g P.b
def Args.sn : FVec Ideal S6x5x144x1 .f32 := k0_pay12 (F := Ideal) P.x0 P.o P.g P.b
def Args.cn : IVec S6x5x144x768 8 := k0_pay13 (F := Ideal) P.x0 P.o P.g P.b
def Args.u : FVec Ideal S6x5x144x3072 .f32 := k0_pay14 (F := Ideal) P.sn P.cn P.w1 P.s1
def Args.su : FVec Ideal S6x5x144x1 .f32 := k0_pay15 (F := Ideal) P.sn P.cn P.w1 P.s1
def Args.cu : IVec S6x5x144x3072 8 := k0_pay16 (F := Ideal) P.sn P.cn P.w1 P.s1
def Args.y : FVec Ideal S6x5x144x768 .bf16 := k0_pay1 (F := Ideal) P.h (k0_pay17 (F := Ideal) P.sn P.cn P.w1 P.s1 P.w2) (k0_pay18 (F := Ideal) P.s2)

theorem sa_at : P.sa (ix4 b c q 0) = (P.row b c q).sa := by
  unfold Args.sa Row.sa
  rw [pay7_eq, sScale_at, sMax_at]
  rfl
theorem ca_at (k : Fin 768) : P.ca (ix4 b c q k) = (P.row b c q).ca k := by
  unfold Args.ca
  rw [pay8_eq]
  show FloatOps.fptosi (F := Ideal) 8 (sClip P.A P.sa (ix4 b c q k)) = _
  rw [sClip_at, sa_at]
  rfl
theorem x0_at (k : Fin 768) : P.x0 (ix4 b c q k) = (P.row b c q).h0 k := by
  show _ = P.resid b c q k
  unfold Args.x0 Args.resid
  pointwise [k0_pay6]
theorem o_at (k : Fin 768) : P.o (ix4 b c q k) = (∑ i, val ((P.row b c q).ca i) * val ((P.row b c q).wo i k)) * (P.row b c q).sa * (P.row b c q).so k := by
  unfold Args.o
  rw [pay9_eq, sScaled_at, sBlocks_at, sDotO_at]
  simp only [sFlat_at]
  show (∑ x, val (P.ca (ix4 b c q x)) * _) * P.sa (ix4 b c q 0) * _ = _
  simp only [sa_at, ca_at]
  rfl
theorem h_at (k : Fin 768) : P.h (ix4 b c q k) = (P.row b c q).h k := by
  show P.x0 (ix4 b c q k) + P.o (ix4 b c q k) = _
  rw [x0_at, o_at]
  rfl
theorem d_at (k : Fin 768) : sCentre P.h (ix4 b c q k) = (P.row b c q).d k := by
  rw [sCentre_at, sMean_at]
  simp only [h_at]
  rfl
theorem ln_at (k : Fin 768) : P.ln (ix4 b c q k) = (P.row b c q).ln k := by
  unfold Args.ln
  rw [pay11_eq]
  show sNorm (sCentre P.h) P.g P.b (ix4 b c q k) = _
  rw [sNorm_at, sMean_at, d_at]
  have e : ∀ x, mulf (sCentre P.h) (sCentre P.h) (ix4 b c q x) = (P.row b c q).d x * (P.row b c q).d x :=
    fun x => congrArg₂ (· * ·) (d_at P b c q x) (d_at P b c q x)
  simp only [e]
  rfl
theorem sn_at : P.sn (ix4 b c q 0) = (P.row b c q).sn := by
  unfold Args.sn
  rw [pay12_eq]
  show sScale (sMax P.ln) (ix4 b c q 0) = _
  rw [sScale_at, sMax_at]
  simp only [ln_at]
  rfl
theorem cn_at (k : Fin 768) : P.cn (ix4 b c q k) = (P.row b c q).cn k := by
  unfold Args.cn
  rw [pay13_eq]
  show FloatOps.fptosi (F := Ideal) 8 (sClip P.ln P.sn (ix4 b c q k)) = _
  rw [sClip_at, sn_at, ln_at]
  rfl
theorem u_at (k : Fin 3072) : P.u (ix4 b c q k) = (P.row b c q).u k := by
  unfold Args.u
  rw [pay14_eq, sGelu_at, sScaled3072_at, sBlocks3072_at, sDot1_at]
  simp only [sFlat_at, sn_at, cn_at]
  unfold Row.u gelu
  rw [show (1 : EReal) = Ideal.ofBits .f32 1065353216#32 from by simp [Ideal.ofBits, Ideal.ieee, -EReal.coe_mul]; norm_num]
  rfl
theorem su_at : P.su (ix4 b c q 0) = (P.row b c q).su := by
  unfold Args.su
  rw [pay15_eq]
  show sScale (sMax3072 P.u) (ix4 b c q 0) = _
  rw [sScale_at, sMax3072_at]
  simp only [u_at]
  rfl
theorem cu_at (k : Fin 3072) : P.cu (ix4 b c q k) = (P.row b c q).cu k := by
  unfold Args.cu
  rw [pay16_eq]
  show FloatOps.fptosi (F := Ideal) 8 (sClip3072 P.u P.su (ix4 b c q k)) = _
  rw [sClip3072_at, su_at, u_at]
  rfl
theorem y_at (k : Fin 768) : P.y (ix4 b c q k) = (P.row b c q).y k := by
  unfold Args.y
  rw [pay17_eq, pay1_at, pay18_at, sRows_at, sBlocks_at, sDot2_at, h_at]
  simp only [sFlat3072_at]
  have e : k0_pay15 (F := Ideal) P.sn P.cn P.w1 P.s1 (ix4 b c q 0) = (P.row b c q).su := su_at P b c q
  have e' : ∀ x, k0_pay16 (F := Ideal) P.sn P.cn P.w1 P.s1 (ix4 b c q x) = (P.row b c q).cu x := fun x => cu_at P b c q x
  rw [e]
  simp only [e']
  rfl

end Cert.ReferenceIdeal.Rows

end
-- ==== Proof.KernelResults.lean ====
/- The kernel's results, at an index: each entry is read off the row of `Proof/Spec.lean` that its batch, candidate and
   place name, computed from the arrays the kernel was launched with. -/
module

public import proofs.«01_k».proof.Proof.Operands
public import proofs.«01_k».proof.Proof.Outputs
public import proofs.«01_k».proof.Proof.Rows
public import proofs.«01_k».proof.Proof.RefRows
public import proofs.«01_k».proof.Proof.Gen.KernelIdeal.Value

@[expose] public section

set_option maxRecDepth 16384

noncomputable section

open Idealize.ShloMosaic Idealize.ShloMosaic.TcCoe Idealize.SL.Sem

namespace Cert.KernelIdeal.Results

open Cert.KernelIdeal Cert.KernelIdeal.Gen Cert.KernelIdeal.Vocab Cert.KernelIdeal.Cases Cert.KernelIdeal.Rows Cert.KernelIdeal.Outputs Cert.KernelIdeal.Operands Cert.KernelIdeal.Value Cert.Spec
open Cert.ReferenceIdeal.Rows (Args)

variable (m : (ℓ : Loc nD τ sig) → Buf (Elt Ideal) ℓ) (c : Dev nD)

/-- What the results are computed from: the arrays the kernel was launched with. -/
def args : Args where
  A := m ((c : Thread nD τ).loc main_arg0)
  merged := m ((c : Thread nD τ).loc main_arg1)
  glob := m ((c : Thread nD τ).loc main_arg2)
  g := m ((c : Thread nD τ).loc main_arg3)
  b := m ((c : Thread nD τ).loc main_arg4)
  wo := fun j => m ((c : Thread nD τ).loc main_arg5) (ix3 (⟨(j 0 : Fin 768).val / 96, by have : (j 0 : Fin 768).val < 768 := (j 0 : Fin 768).isLt; omega⟩ : Fin 8) (⟨(j 0 : Fin 768).val % 96, by omega⟩ : Fin 96) (j 1 : Fin 768))
  so := m ((c : Thread nD τ).loc main_arg6)
  w1 := m ((c : Thread nD τ).loc main_arg7)
  s1 := m ((c : Thread nD τ).loc main_arg8)
  w2 := m ((c : Thread nD τ).loc main_arg9)
  s2 := m ((c : Thread nD τ).loc main_arg10)

/-- The blocks of a point of the grid. -/
def pointBlocks (t : Fin cfg0.N) : Blocks Ideal := blocks m c t (k0_pay2 (iblk m c 3 t)) (k0_pay3 (iblk m c 5 t)) (k0_pay4 (iblk m c 7 t))

theorem wo_row (t : Fin cfg0.N) (i j : Fin 768) : (k0_pay2 (F := Ideal) (iblk m c 3 t) : Vec Ideal S768x768 .bf16) (ix2 i j) = val ((args m c).wo (ix2 i j)) := by
  refine Eq.trans (b := val ((iblk m c 3 t : Vec Ideal S768x768 .i8) (ix2 i j))) ?_ (congrArg val (wo_at m c t i j))
  generalize (iblk m c 3 t : Vec Ideal S768x768 .i8) = X
  pointwise [k0_pay2]
theorem w1_row (t : Fin cfg0.N) (i : Fin 768) (j : Fin 3072) : (k0_pay3 (F := Ideal) (iblk m c 5 t) : Vec Ideal S768x3072 .bf16) (ix2 i j) = val ((args m c).w1 (ix2 i j)) := by
  refine Eq.trans (b := val ((iblk m c 5 t : Vec Ideal S768x3072 .i8) (ix2 i j))) ?_ (congrArg val (w1_at m c t i j))
  generalize (iblk m c 5 t : Vec Ideal S768x3072 .i8) = X
  pointwise [k0_pay3]
theorem w2_row (t : Fin cfg0.N) (i : Fin 3072) (j : Fin 768) : (k0_pay4 (F := Ideal) (iblk m c 7 t) : Vec Ideal S3072x768 .bf16) (ix2 i j) = val ((args m c).w2 (ix2 i j)) := by
  refine Eq.trans (b := val ((iblk m c 7 t : Vec Ideal S3072x768 .i8) (ix2 i j))) ?_ (congrArg val (w2_at m c t i j))
  generalize (iblk m c 7 t : Vec Ideal S3072x768 .i8) = X
  pointwise [k0_pay4]

theorem a_row (t : Fin cfg0.N) (n : Fin 5) (q : Fin 144) (k : Fin 768) : cA (cand (pointBlocks m c t) n) (ix2 q k) = (args m c).A (ix4 (batch t) n q k) := by
  rw [cA_at]
  split_ifs with h
  · exact attnG_at m c t n k ⟨q.val, h⟩
  · refine (attnM_at m c t n k ⟨q.val - 16, by omega⟩).trans ?_
    have e : (⟨16 + (q.val - 16), by omega⟩ : Fin 144) = q := Fin.ext (by show 16 + (q.val - 16) = q.val; omega)
    exact congrArg (fun x => m ((c : Thread nD τ).loc main_arg0) (ix4 (batch t) n x k)) e

theorem resid_row (t : Fin cfg0.N) (n : Fin 5) (q : Fin 144) (k : Fin 768) :
    vResid (cand (pointBlocks m c t) n).gl (pointBlocks m c t).merged (ix2 q k) = (args m c).resid (batch t) n q k := by
  rw [vResid_at]
  unfold Cert.ReferenceIdeal.Rows.Args.resid
  split_ifs with h
  · exact (gl_at _ n ⟨q.val, h⟩ k).trans (glob_at m c t n ⟨q.val, h⟩ k)
  · exact merged_at m c t ⟨q.val - 16, by omega⟩ k

/-- A candidate's row, in a point's blocks, is the row of the arrays. -/
theorem match_at (t : Fin cfg0.N) (n : Fin 5) (q : Fin 144) : Match (pointBlocks m c t) (cand (pointBlocks m c t) n) q ((args m c).row (batch t) n q) :=
  ⟨a_row m c t n q, resid_row m c t n q, wo_row m c t, so_at m c t, gain_at m c t, shift_at m c t, w1_row m c t, s1_at m c t, w2_row m c t, s2_at m c t⟩

/-- What a point leaves, at the fold the arrays are read from. -/
theorem fold_at (p : ℕ) (b : Fin 6) (e : p = b.val) (h : 0 + p < cfg0.N) :
    Pipeline.accAt (fun n h => stAt0 m c n h junk0) (stAt0 m c) 0 p h = leaves (pointBlocks m c b) := by
  subst e
  rw [← outsAt0_sweep m c b.val b.isLt]
  exact every m c b

/-- A chunk's clipped activation, at a column of the whole. -/
theorem chunks_at {B : Blocks Ideal} {C : Cand Ideal} {q : Fin 144} {R : Row} (M : Match B C q R) (k : Fin 3072) :
    cR2 B C (chunk k) (ix2 q (within k)) = clip (Ideal.div (R.u k) R.su) := by
  have key : ∀ (j : Fin 6) (w : Fin 512) (k : Fin 3072), k.val = 512 * j.val + w.val → cR2 B C j (ix2 q w) = clip (Ideal.div (R.u k) R.su) := by
    intro j w k e
    match j with
    | 0 => exact (cR2_0_at M w).trans (congrArg (fun x => clip (Ideal.div (R.u x) R.su)) (Fin.ext e.symm))
    | 1 => exact (cR2_1_at M w).trans (congrArg (fun x => clip (Ideal.div (R.u x) R.su)) (Fin.ext e.symm))
    | 2 => exact (cR2_2_at M w).trans (congrArg (fun x => clip (Ideal.div (R.u x) R.su)) (Fin.ext e.symm))
    | 3 => exact (cR2_3_at M w).trans (congrArg (fun x => clip (Ideal.div (R.u x) R.su)) (Fin.ext e.symm))
    | 4 => exact (cR2_4_at M w).trans (congrArg (fun x => clip (Ideal.div (R.u x) R.su)) (Fin.ext e.symm))
    | 5 => exact (cR2_5_at M w).trans (congrArg (fun x => clip (Ideal.div (R.u x) R.su)) (Fin.ext e.symm))
  exact key (chunk k) (within k) k (Nat.div_add_mod k.val 512).symm

variable (b : Fin 6) (n : Fin 5) (q : Fin 144)

/-- The point that holds an entry of a wide array is the entry's batch. -/
theorem point4 (N : ℕ) (k : Fin N) : 1 * (b.val / 1 - 0) + 1 * (n.val / 5 - 0) + 1 * (q.val / 144 - 0) + 1 * (k.val / N - 0) = b.val := by
  have h1 : n.val / 5 = 0 := Nat.div_eq_of_lt n.isLt
  have h2 : q.val / 144 = 0 := Nat.div_eq_of_lt q.isLt
  have h3 : k.val / N = 0 := Nat.div_eq_of_lt k.isLt
  omega

/-- The point that holds a scale is its batch. -/
theorem point3 : 1 * (b.val / 1 - 0) + 1 * (n.val / 5 - 0) + 1 * (q.val / 144 - 0) = b.val := by omega

theorem G12_at (k : Fin 768) : G12 m c (ix4 b n q k) = oY (pointBlocks m c b) (ix4 0 n q k) := by
  have e : pt12Of (ix4 b n q k) = b.val := point4 b n q 768 k
  have l : loc12Of (ix4 b n q k) = ix4 0 n q k := by
    funext a
    match a with
    | 0 => exact Fin.ext (Nat.mod_one _)
    | 1 => exact Fin.ext (Nat.mod_eq_of_lt n.isLt)
    | 2 => exact Fin.ext (Nat.mod_eq_of_lt q.isLt)
    | 3 => exact Fin.ext (Nat.mod_eq_of_lt k.isLt)
  refine (dif_pos (show pt12Of (ix4 b n q k) < cfg0.N from e.trans_lt b.isLt)).trans ?_
  rw [fold_at m c _ b e, l, leaves]
theorem G13_at (k : Fin 768) : G13 m c (ix4 b n q k) = oA (pointBlocks m c b) (ix4 0 n q k) := by
  have e : pt13Of (ix4 b n q k) = b.val := point4 b n q 768 k
  have l : loc13Of (ix4 b n q k) = ix4 0 n q k := by
    funext a
    match a with
    | 0 => exact Fin.ext (Nat.mod_one _)
    | 1 => exact Fin.ext (Nat.mod_eq_of_lt n.isLt)
    | 2 => exact Fin.ext (Nat.mod_eq_of_lt q.isLt)
    | 3 => exact Fin.ext (Nat.mod_eq_of_lt k.isLt)
  refine (dif_pos (show pt13Of (ix4 b n q k) < cfg0.N from e.trans_lt b.isLt)).trans ?_
  rw [fold_at m c _ b e, l, leaves]
theorem G14_at (k : Fin 768) : G14 m c (ix4 b n q k) = oC0 (pointBlocks m c b) (ix4 0 n q k) := by
  have e : pt14Of (ix4 b n q k) = b.val := point4 b n q 768 k
  have l : loc14Of (ix4 b n q k) = ix4 0 n q k := by
    funext a
    match a with
    | 0 => exact Fin.ext (Nat.mod_one _)
    | 1 => exact Fin.ext (Nat.mod_eq_of_lt n.isLt)
    | 2 => exact Fin.ext (Nat.mod_eq_of_lt q.isLt)
    | 3 => exact Fin.ext (Nat.mod_eq_of_lt k.isLt)
  refine (dif_pos (show pt14Of (ix4 b n q k) < cfg0.N from e.trans_lt b.isLt)).trans ?_
  rw [fold_at m c _ b e, l, leaves]
theorem G16_at (k : Fin 768) : G16 m c (ix4 b n q k) = oC1 (pointBlocks m c b) (ix4 0 n q k) := by
  have e : pt16Of (ix4 b n q k) = b.val := point4 b n q 768 k
  have l : loc16Of (ix4 b n q k) = ix4 0 n q k := by
    funext a
    match a with
    | 0 => exact Fin.ext (Nat.mod_one _)
    | 1 => exact Fin.ext (Nat.mod_eq_of_lt n.isLt)
    | 2 => exact Fin.ext (Nat.mod_eq_of_lt q.isLt)
    | 3 => exact Fin.ext (Nat.mod_eq_of_lt k.isLt)
  refine (dif_pos (show pt16Of (ix4 b n q k) < cfg0.N from e.trans_lt b.isLt)).trans ?_
  rw [fold_at m c _ b e, l, leaves]
theorem G18_at (k : Fin 3072) : G18 m c (ix4 b n q k) = oC2 (pointBlocks m c b) (ix4 0 n q k) := by
  have e : pt18Of (ix4 b n q k) = b.val := point4 b n q 3072 k
  have l : loc18Of (ix4 b n q k) = ix4 0 n q k := by
    funext a
    match a with
    | 0 => exact Fin.ext (Nat.mod_one _)
    | 1 => exact Fin.ext (Nat.mod_eq_of_lt n.isLt)
    | 2 => exact Fin.ext (Nat.mod_eq_of_lt q.isLt)
    | 3 => exact Fin.ext (Nat.mod_eq_of_lt k.isLt)
  refine (dif_pos (show pt18Of (ix4 b n q k) < cfg0.N from e.trans_lt b.isLt)).trans ?_
  rw [fold_at m c _ b e, l, leaves]
theorem G15_at : G15 m c (ix3 b n q) = oS0 (pointBlocks m c b) (ix3 0 n q) := by
  have e : pt15Of (ix3 b n q) = b.val := point3 b n q
  have l : loc15Of (ix3 b n q) = ix3 0 n q := by
    funext a
    match a with
    | 0 => exact Fin.ext (Nat.mod_one _)
    | 1 => exact Fin.ext (Nat.mod_eq_of_lt n.isLt)
    | 2 => exact Fin.ext (Nat.mod_eq_of_lt q.isLt)
  refine (dif_pos (show pt15Of (ix3 b n q) < cfg0.N from e.trans_lt b.isLt)).trans ?_
  rw [fold_at m c _ b e, l, leaves]
theorem G17_at : G17 m c (ix3 b n q) = oS1 (pointBlocks m c b) (ix3 0 n q) := by
  have e : pt17Of (ix3 b n q) = b.val := point3 b n q
  have l : loc17Of (ix3 b n q) = ix3 0 n q := by
    funext a
    match a with
    | 0 => exact Fin.ext (Nat.mod_one _)
    | 1 => exact Fin.ext (Nat.mod_eq_of_lt n.isLt)
    | 2 => exact Fin.ext (Nat.mod_eq_of_lt q.isLt)
  refine (dif_pos (show pt17Of (ix3 b n q) < cfg0.N from e.trans_lt b.isLt)).trans ?_
  rw [fold_at m c _ b e, l, leaves]
theorem G19_at : G19 m c (ix3 b n q) = oS2 (pointBlocks m c b) (ix3 0 n q) := by
  have e : pt19Of (ix3 b n q) = b.val := point3 b n q
  have l : loc19Of (ix3 b n q) = ix3 0 n q := by
    funext a
    match a with
    | 0 => exact Fin.ext (Nat.mod_one _)
    | 1 => exact Fin.ext (Nat.mod_eq_of_lt n.isLt)
    | 2 => exact Fin.ext (Nat.mod_eq_of_lt q.isLt)
  refine (dif_pos (show pt19Of (ix3 b n q) < cfg0.N from e.trans_lt b.isLt)).trans ?_
  rw [fold_at m c _ b e, l, leaves]

/-! ## The results -/

theorem y_at (k : Fin 768) : G12 m c (ix4 b n q k) = ((args m c).row b n q).y k := by
  rw [G12_at, oY_at]
  exact cY_at (match_at m c b n q) k
theorem a_at (k : Fin 768) : G13 m c (ix4 b n q k) = (args m c).A (ix4 b n q k) := by
  rw [G13_at, oA_at]
  exact a_row m c b n q k
theorem ca_at (k : Fin 768) : G14 m c (ix4 b n q k) = ((args m c).row b n q).ca k := by
  rw [G14_at, oC0_at]
  exact congrArg (FloatOps.fptosi (F := Ideal) (φ := .f32) 8) (cR0_at (match_at m c b n q) k)
theorem sa_at : G15 m c (ix3 b n q) = ((args m c).row b n q).sa := by
  rw [G15_at, oS0_at]
  exact (cL_at (match_at m c b n q)).1
theorem cn_at (k : Fin 768) : G16 m c (ix4 b n q k) = ((args m c).row b n q).cn k := by
  rw [G16_at, oC1_at]
  exact congrArg (FloatOps.fptosi (F := Ideal) (φ := .f32) 8) (cR1_at (match_at m c b n q) k)
theorem sn_at : G17 m c (ix3 b n q) = ((args m c).row b n q).sn := by
  rw [G17_at, oS1_at]
  exact (cL_at (match_at m c b n q)).2.1
theorem cu_at (k : Fin 3072) : G18 m c (ix4 b n q k) = ((args m c).row b n q).cu k := by
  rw [G18_at, oC2_at]
  exact congrArg (FloatOps.fptosi (F := Ideal) (φ := .f32) 8) (chunks_at (match_at m c b n q) k)
theorem su_at : G19 m c (ix3 b n q) = ((args m c).row b n q).su := by
  rw [G19_at, oS2_at]
  exact (cL_at (match_at m c b n q)).2.2

end Cert.KernelIdeal.Results

end
-- ==== Proof.ReferenceResults.lean ====
/- The reference's results: its arrays after the run are its payloads over the arrays it was launched with. -/
module

public import proofs.«01_k».proof.Proof.RefRows
public import proofs.«01_k».proof.Proof.Gen.ReferenceIdeal.Value

@[expose] public section

set_option maxRecDepth 16384

noncomputable section

open Idealize.ShloMosaic Idealize.ShloMosaic.TcCoe Idealize.SL.Sem

namespace Cert.ReferenceIdeal.Results

open Cert.ReferenceIdeal Cert.ReferenceIdeal.Gen Cert.ReferenceIdeal.Rows

variable (m : (ℓ : Loc nD τ sig) → Buf (Elt Ideal) ℓ) (c : Dev nD)

/-- What the results are computed from: the arrays the reference was launched with. -/
def args : Args where
  A := m ((c : Thread nD τ).loc main_arg0)
  merged := m ((c : Thread nD τ).loc main_arg1)
  glob := m ((c : Thread nD τ).loc main_arg2)
  g := m ((c : Thread nD τ).loc main_arg3)
  b := m ((c : Thread nD τ).loc main_arg4)
  wo := fun j => m ((c : Thread nD τ).loc main_arg5) (ix3 (⟨(j 0 : Fin 768).val / 96, by have : (j 0 : Fin 768).val < 768 := (j 0 : Fin 768).isLt; omega⟩ : Fin 8) (⟨(j 0 : Fin 768).val % 96, by omega⟩ : Fin 96) (j 1 : Fin 768))
  so := m ((c : Thread nD τ).loc main_arg6)
  w1 := m ((c : Thread nD τ).loc main_arg7)
  s1 := m ((c : Thread nD τ).loc main_arg8)
  w2 := m ((c : Thread nD τ).loc main_arg9)
  s2 := m ((c : Thread nD τ).loc main_arg10)

/-- The windows' index maps. -/
theorem idx0 : win0_0.index t0_0 = ![0, 0, 0, 0] ∧ win0_1.index t0_0 = ![0, 0, 0] ∧ win0_2.index t0_0 = ![0, 0, 0, 0] ∧ win0_3.index t0_0 = ![0] ∧ win0_4.index t0_0 = ![0] ∧ win0_5.index t0_0 = ![0, 0]
  ∧ win0_6.index t0_0 = ![0] ∧ win0_7.index t0_0 = ![0, 0] ∧ win0_8.index t0_0 = ![0] ∧ win0_9.index t0_0 = ![0, 0] ∧ win0_10.index t0_0 = ![0] := by decide +kernel

theorem x0 : (iblk m c 0 t0_0 : Vec Ideal S6x5x144x768 .f32) = (args m c).A := by funext y; blk_ext [iblk, V, idx0, args]
theorem x1 : (iblk m c 1 t0_0 : Vec Ideal S6x256x768 .f32) = (args m c).merged := by funext y; blk_ext [iblk, V, idx0, args]
theorem x2 : (iblk m c 2 t0_0 : Vec Ideal S6x5x16x768 .bf16) = (args m c).glob := by funext y; blk_ext [iblk, V, idx0, args]
theorem x3 : (iblk m c 3 t0_0 : Vec Ideal S768 .f32) = (args m c).g := by funext y; blk_ext [iblk, V, idx0, args]
theorem x4 : (iblk m c 4 t0_0 : Vec Ideal S768 .f32) = (args m c).b := by funext y; blk_ext [iblk, V, idx0, args]
theorem x5 : (iblk m c 5 t0_0 : Vec Ideal S768x768 .i8) = (args m c).wo := by
  funext y
  blk_simp [iblk, args]
  entry_read
  pointwise
  blk_ext [idx0]
theorem x6 : (iblk m c 6 t0_0 : Vec Ideal S768 .f32) = (args m c).so := by funext y; blk_ext [iblk, V, idx0, args]
theorem x7 : (iblk m c 7 t0_0 : Vec Ideal S768x3072 .i8) = (args m c).w1 := by funext y; blk_ext [iblk, V, idx0, args]
theorem x8 : (iblk m c 8 t0_0 : Vec Ideal S3072 .f32) = (args m c).s1 := by funext y; blk_ext [iblk, V, idx0, args]
theorem x9 : (iblk m c 9 t0_0 : Vec Ideal S3072x768 .i8) = (args m c).w2 := by funext y; blk_ext [iblk, V, idx0, args]
theorem x10 : (iblk m c 10 t0_0 : Vec Ideal S768 .f32) = (args m c).s2 := by funext y; blk_ext [iblk, V, idx0, args]

/-! ## The body's values over the arguments -/

theorem full0 (X : Vec Ideal S6x5x144x768 .f32) : View.ld X r0_0 = X := View.ld_unit_lit _ X (by decide)
theorem full1 (X : Vec Ideal S6x5x16x768 .bf16) : View.ld X r0_1 = X := View.ld_unit_lit _ X (by decide)
theorem full2 (X : Vec Ideal S6x256x768 .f32) : View.ld X r0_2 = X := View.ld_unit_lit _ X (by decide)
theorem full3 (X : Vec Ideal S768x768 .i8) : View.ld X r0_3 = X := View.ld_unit_lit _ X (by decide)
theorem full4 (X : Vec Ideal S768 .f32) : View.ld X r0_4 = X := View.ld_unit_lit _ X (by decide)

variable (P : Args)

theorem val_x0 : k0_pay19 (F := Ideal) P.A P.merged P.glob P.g P.b P.wo P.so P.w1 P.s1 P.w2 P.s2 = P.x0 := by
  unfold k0_pay19 Args.x0
  rw [full1, full2]
theorem val_o : k0_pay20 (F := Ideal) P.A P.merged P.glob P.g P.b P.wo P.so P.w1 P.s1 P.w2 P.s2 = P.o := by
  unfold k0_pay20 Args.o
  rw [full0, full3, full4]
theorem val_sn : k0_pay21 (F := Ideal) P.A P.merged P.glob P.g P.b P.wo P.so P.w1 P.s1 P.w2 P.s2 = P.sn := by
  unfold k0_pay21 Args.sn
  rw [full4, full4, val_x0, val_o]
theorem val_cn : k0_pay22 (F := Ideal) P.A P.merged P.glob P.g P.b P.wo P.so P.w1 P.s1 P.w2 P.s2 = P.cn := by
  unfold k0_pay22 Args.cn
  rw [full4, full4, val_x0, val_o]

/-! ## The arrays after the run -/

theorem y_eq : (dats m 0 c).arrAt 11 cfg0.N = (args m c).y := by
  refine (dats m 0 c).arrAt_eq_of_after_last 11 t0_0 (by decide +kernel) _ fun j => ?_
  blk_simp
  rw [after0_11]
  frame_out
  rw [x0 m c, x1 m c, x2 m c, x3 m c, x4 m c, x5 m c, x6 m c, x7 m c, x8 m c, x9 m c, x10 m c]
  generalize args m c = P
  rw [val_x0, val_o, val_sn, val_cn]
  unfold Args.y Args.h
  rfl

theorem a_eq : (dats m 0 c).arrAt 12 cfg0.N = k0_pay2 (args m c).A := by
  refine (dats m 0 c).arrAt_eq_of_after_last 12 t0_0 (by decide +kernel) _ fun j => ?_
  blk_simp
  rw [after0_12]
  frame_out
  rw [x0 m c]

theorem ca_eq : (dats m 0 c).arrAt 13 cfg0.N = (args m c).ca := by
  refine (dats m 0 c).arrAt_eq_of_after_last 13 t0_0 (by decide +kernel) _ fun j => ?_
  blk_simp
  rw [after0_13]
  frame_out
  rw [x0 m c]
  unfold Args.ca
  rfl

theorem sa_eq : (dats m 0 c).arrAt 14 cfg0.N = k0_pay3 (args m c).sa := by
  refine (dats m 0 c).arrAt_eq_of_after_last 14 t0_0 (by decide +kernel) _ fun j => ?_
  blk_simp
  rw [after0_14]
  frame_out
  rw [x0 m c]
  unfold Args.sa
  rfl

theorem cn_eq : (dats m 0 c).arrAt 15 cfg0.N = (args m c).cn := by
  refine (dats m 0 c).arrAt_eq_of_after_last 15 t0_0 (by decide +kernel) _ fun j => ?_
  blk_simp
  rw [after0_15]
  frame_out
  rw [x0 m c, x1 m c, x2 m c, x3 m c, x4 m c, x5 m c, x6 m c, x7 m c, x8 m c, x9 m c, x10 m c]
  generalize args m c = P
  rw [val_cn]

theorem sn_eq : (dats m 0 c).arrAt 16 cfg0.N = k0_pay4 (args m c).sn := by
  refine (dats m 0 c).arrAt_eq_of_after_last 16 t0_0 (by decide +kernel) _ fun j => ?_
  blk_simp
  rw [after0_16]
  frame_out
  rw [x0 m c, x1 m c, x2 m c, x3 m c, x4 m c, x5 m c, x6 m c, x7 m c, x8 m c, x9 m c, x10 m c]
  generalize args m c = P
  rw [val_sn]

theorem cu_eq : (dats m 0 c).arrAt 17 cfg0.N = (args m c).cu := by
  refine (dats m 0 c).arrAt_eq_of_after_last 17 t0_0 (by decide +kernel) _ fun j => ?_
  blk_simp
  rw [after0_17]
  frame_out
  rw [x0 m c, x1 m c, x2 m c, x3 m c, x4 m c, x5 m c, x6 m c, x7 m c, x8 m c, x9 m c, x10 m c]
  generalize args m c = P
  rw [val_sn, val_cn]
  unfold Args.cu
  rfl

theorem su_eq : (dats m 0 c).arrAt 18 cfg0.N = k0_pay5 (args m c).su := by
  refine (dats m 0 c).arrAt_eq_of_after_last 18 t0_0 (by decide +kernel) _ fun j => ?_
  blk_simp
  rw [after0_18]
  frame_out
  rw [x0 m c, x1 m c, x2 m c, x3 m c, x4 m c, x5 m c, x6 m c, x7 m c, x8 m c, x9 m c, x10 m c]
  generalize args m c = P
  rw [val_sn, val_cn]
  unfold Args.su
  rfl

/-! ## The results -/

variable (b : Fin 6) (n : Fin 5) (q : Fin 144)

theorem pay3_at (v : FVec Ideal S6x5x144x1 .f32) : k0_pay3 (F := Ideal) v (ix3 b n q) = v (ix4 b n q 0) := by pointwise [k0_pay3]
theorem pay4_at (v : FVec Ideal S6x5x144x1 .f32) : k0_pay4 (F := Ideal) v (ix3 b n q) = v (ix4 b n q 0) := by pointwise [k0_pay4]
theorem pay5_at (v : FVec Ideal S6x5x144x1 .f32) : k0_pay5 (F := Ideal) v (ix3 b n q) = v (ix4 b n q 0) := by pointwise [k0_pay5]
theorem pay2_at (v : FVec Ideal S6x5x144x768 .f32) (k : Fin 768) : k0_pay2 (F := Ideal) v (ix4 b n q k) = v (ix4 b n q k) := by pointwise [k0_pay2]

theorem y_at (k : Fin 768) : (dats m 0 c).arrAt 11 cfg0.N (ix4 b n q k) = ((args m c).row b n q).y k := by
  rw [y_eq]; exact Rows.y_at _ b n q k
theorem a_at (k : Fin 768) : (dats m 0 c).arrAt 12 cfg0.N (ix4 b n q k) = (args m c).A (ix4 b n q k) := by
  rw [a_eq]; exact pay2_at b n q _ k
theorem ca_at (k : Fin 768) : (dats m 0 c).arrAt 13 cfg0.N (ix4 b n q k) = ((args m c).row b n q).ca k := by
  rw [ca_eq]; exact Rows.ca_at _ b n q k
theorem sa_at : (dats m 0 c).arrAt 14 cfg0.N (ix3 b n q) = ((args m c).row b n q).sa := by
  rw [sa_eq]; exact (pay3_at b n q _).trans (Rows.sa_at _ b n q)
theorem cn_at (k : Fin 768) : (dats m 0 c).arrAt 15 cfg0.N (ix4 b n q k) = ((args m c).row b n q).cn k := by
  rw [cn_eq]; exact Rows.cn_at _ b n q k
theorem sn_at : (dats m 0 c).arrAt 16 cfg0.N (ix3 b n q) = ((args m c).row b n q).sn := by
  rw [sn_eq]; exact (pay4_at b n q _).trans (Rows.sn_at _ b n q)
theorem cu_at (k : Fin 3072) : (dats m 0 c).arrAt 17 cfg0.N (ix4 b n q k) = ((args m c).row b n q).cu k := by
  rw [cu_eq]; exact Rows.cu_at _ b n q k
theorem su_at : (dats m 0 c).arrAt 18 cfg0.N (ix3 b n q) = ((args m c).row b n q).su := by
  rw [su_eq]; exact (pay5_at b n q _).trans (Rows.su_at _ b n q)

end Cert.ReferenceIdeal.Results

end
-- ==== Proof.Agree.lean ====
/- The kernel's results are the reference's: both are read off the same rows, computed from equal arrays. -/
module

public import proofs.«01_k».proof.Proof.KernelResults
public import proofs.«01_k».proof.Proof.ReferenceResults

@[expose] public section

set_option maxRecDepth 16384

noncomputable section

open Idealize.ShloMosaic Idealize.ShloMosaic.TcCoe Idealize.SL.Sem

namespace Cert.Agree

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (E : ReferenceIdeal.Results.args m' c = KernelIdeal.Results.args m c)
include E

theorem y_eq : (ReferenceIdeal.Gen.dats m' 0 c).arrAt 11 ReferenceIdeal.cfg0.N = KernelIdeal.Value.G12 m c := by
  funext (i : KernelIdeal.S6x5x144x768.Idx)
  obtain ⟨b, n, q, k, rfl⟩ : ∃ b n q k, i = ix4 b n q k := ⟨i 0, i 1, i 2, i 3, by funext a; fin_cases a <;> rfl⟩
  rw [ReferenceIdeal.Results.y_at, KernelIdeal.Results.y_at, E]
theorem a_eq : (ReferenceIdeal.Gen.dats m' 0 c).arrAt 12 ReferenceIdeal.cfg0.N = KernelIdeal.Value.G13 m c := by
  funext (i : KernelIdeal.S6x5x144x768.Idx)
  obtain ⟨b, n, q, k, rfl⟩ : ∃ b n q k, i = ix4 b n q k := ⟨i 0, i 1, i 2, i 3, by funext a; fin_cases a <;> rfl⟩
  rw [ReferenceIdeal.Results.a_at, KernelIdeal.Results.a_at, E]
theorem ca_eq : (ReferenceIdeal.Gen.dats m' 0 c).arrAt 13 ReferenceIdeal.cfg0.N = KernelIdeal.Value.G14 m c := by
  funext (i : KernelIdeal.S6x5x144x768.Idx)
  obtain ⟨b, n, q, k, rfl⟩ : ∃ b n q k, i = ix4 b n q k := ⟨i 0, i 1, i 2, i 3, by funext a; fin_cases a <;> rfl⟩
  rw [ReferenceIdeal.Results.ca_at, KernelIdeal.Results.ca_at, E]
theorem sa_eq : (ReferenceIdeal.Gen.dats m' 0 c).arrAt 14 ReferenceIdeal.cfg0.N = KernelIdeal.Value.G15 m c := by
  funext (i : KernelIdeal.S6x5x144.Idx)
  obtain ⟨b, n, q, rfl⟩ : ∃ b n q, i = ix3 b n q := ⟨i 0, i 1, i 2, by funext a; fin_cases a <;> rfl⟩
  rw [ReferenceIdeal.Results.sa_at, KernelIdeal.Results.sa_at, E]
theorem cn_eq : (ReferenceIdeal.Gen.dats m' 0 c).arrAt 15 ReferenceIdeal.cfg0.N = KernelIdeal.Value.G16 m c := by
  funext (i : KernelIdeal.S6x5x144x768.Idx)
  obtain ⟨b, n, q, k, rfl⟩ : ∃ b n q k, i = ix4 b n q k := ⟨i 0, i 1, i 2, i 3, by funext a; fin_cases a <;> rfl⟩
  rw [ReferenceIdeal.Results.cn_at, KernelIdeal.Results.cn_at, E]
theorem sn_eq : (ReferenceIdeal.Gen.dats m' 0 c).arrAt 16 ReferenceIdeal.cfg0.N = KernelIdeal.Value.G17 m c := by
  funext (i : KernelIdeal.S6x5x144.Idx)
  obtain ⟨b, n, q, rfl⟩ : ∃ b n q, i = ix3 b n q := ⟨i 0, i 1, i 2, by funext a; fin_cases a <;> rfl⟩
  rw [ReferenceIdeal.Results.sn_at, KernelIdeal.Results.sn_at, E]
theorem cu_eq : (ReferenceIdeal.Gen.dats m' 0 c).arrAt 17 ReferenceIdeal.cfg0.N = KernelIdeal.Value.G18 m c := by
  funext (i : KernelIdeal.S6x5x144x3072.Idx)
  obtain ⟨b, n, q, k, rfl⟩ : ∃ b n q k, i = ix4 b n q k := ⟨i 0, i 1, i 2, i 3, by funext a; fin_cases a <;> rfl⟩
  rw [ReferenceIdeal.Results.cu_at, KernelIdeal.Results.cu_at, E]
theorem su_eq : (ReferenceIdeal.Gen.dats m' 0 c).arrAt 18 ReferenceIdeal.cfg0.N = KernelIdeal.Value.G19 m c := by
  funext (i : KernelIdeal.S6x5x144.Idx)
  obtain ⟨b, n, q, rfl⟩ : ∃ b n q, i = ix3 b n q := ⟨i 0, i 1, i 2, by funext a; fin_cases a <;> rfl⟩
  rw [ReferenceIdeal.Results.su_at, KernelIdeal.Results.su_at, E]

end Cert.Agree

end
-- ==== Proof.TokenSpec.lean ====
/- A normalised token in extended reals: its layer norm, the scale and the codes taken of it, as the reference
   writes them, and the kernel's spelling of the same (a reciprocal root, a reciprocal scale) equal to it. -/
module

public import proofs.«01_k».proof.Proof.Spec

@[expose] public section

noncomputable section

open Idealize.ShloMosaic

namespace Cert.TokenSpec

open Cert.Spec

variable (v g b : Fin 768 → EReal) (j : Fin 768)

/-- The token's layer norm. -/
def ln : EReal := Ideal.div (v j - mean v) (Ideal.sqrt (mean (fun x => (v x - mean v) * (v x - mean v)) + cEps)) * g j + b j
/-- The layer norm's scale. -/
def sc : EReal := scaleOf (amax (ln v g b))
/-- The layer norm rounded and clipped at its scale. -/
def cl : EReal := clip (Ideal.div (ln v g b j) (sc v g b))
/-- The layer norm's codes. -/
def cd : BitVec 8 := FloatOps.fptosi (F := Ideal) (φ := .f32) 8 (cl v g b j)

/-- The layer norm with a reciprocal root. -/
theorem ln_recip : (v j - mean v) * Ideal.rsqrt (mean (fun x => (v x - mean v) * (v x - mean v)) + cEps) * g j + b j = ln v g b j := by
  unfold ln
  rw [mul_rsqrt (mean_sq_nonneg fun x => v x - mean v)]

/-- The rounding at a reciprocal scale. -/
theorem cl_recip : clip (ln v g b j * Ideal.div 1 (sc v g b)) = cl v g b j := by
  unfold cl
  rw [mul_recip (s := sc v g b) (scaleOf_ne (amax_nonneg _))]

end Cert.TokenSpec

end
-- ==== Proof.TokenStages.lean ====
/- The token normalisation's arithmetic on one 768x128 tile, a token to a column: its stages named, the payloads of
   the kernel's body as compositions of them, and each stage at an index. -/
module

public import proofs.«01_k».proof.Proof.TokenSpec
public import proofs.«01_k».proof.Proof.Gen.TokensIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.TokensIdeal.Stages

open Cert.TokensIdeal Cert.TokensIdeal.Gen Cert.Spec Cert.TokenSpec

section stages
variable {F : FTy → Type} [FloatOps F]

/-- A literal on every entry. -/
abbrev lit (s : Shape) (w : BitVec 32) : FVec F s .f32 := broadcast s (Scalar.ofBits .f32 w : F .f32)

/-- A row spread down the columns. -/
abbrev down (s : FVec F S1x128 .f32) : FVec F S768x128 .f32 := broadcastTo S768x128 s broadcasts_S1x128_S768x128

/-- Each column's mean. -/
def tMean (v : FVec F S768x128 .f32) : FVec F S1x128 .f32 :=
  divf (shapeCast S1x128 (multiReduction .add [0] S128 v 0x00000000#32 reduces_S768x128_S128 (.inl rfl) rfl) shapeCasts_S128_S1x128) (lit S1x128 0x44400000#32)

/-- Columns less their means. -/
def tCentre (v : FVec F S768x128 .f32) : FVec F S768x128 .f32 := subf v (down (tMean v))

/-- The layer norm of columns already centred. -/
def tNorm (d g b : FVec F S768x128 .f32) : FVec F S768x128 .f32 :=
  addf (mulf (mulf d (down (rsqrt (addf (tMean (mulf d d)) (lit S1x128 0x3727C5AC#32))))) g) b

/-- A tile as it is stored. -/
abbrev same (v : Vec F S768x128 .f32) : FVec F S768x128 .f32 := shapeCast S768x128 v shapeCasts_S768x128_S768x128

/-- The layer norm of each column. -/
def tLn (v : FVec F S768x128 .f32) (g b : Vec F S768x128 .f32) : FVec F S768x128 .f32 := tNorm (tCentre v) (same g) (same b)

/-- The greatest magnitude of each column. -/
def tMax (v : FVec F S768x128 .f32) : FVec F S1x128 .f32 :=
  shapeCast S1x128 (multiReduction .maximumf [0] S128 (absf v) 0xFF800000#32 reduces_S768x128_S128 (.inl rfl) rfl) shapeCasts_S128_S1x128

/-- The scale of columns whose greatest magnitudes are `a`. -/
def tScale (a : FVec F S1x128 .f32) : FVec F S1x128 .f32 :=
  select (cmpf .oeq a (lit S1x128 0x00000000#32)) (lit S1x128 0x3F800000#32) (divf a (lit S1x128 0x42FE0000#32))

/-- Columns rounded and clipped at a scale. -/
def tClip (v : FVec F S768x128 .f32) (s : FVec F S1x128 .f32) : FVec F S768x128 .f32 :=
  minimumf (lit S768x128 0x42FE0000#32) (maximumf (lit S768x128 0xC2FE0000#32) (roundeven (mulf v (down (divf (lit S1x128 0x3F800000#32) s)))))

/-- The scales of a tile's layer norms. -/
def tS (v : FVec F S768x128 .f32) (g b : Vec F S768x128 .f32) : FVec F S1x128 .f32 := tScale (tMax (tLn v g b))

/-- A tile's layer norms rounded and clipped. -/
def tC (v : FVec F S768x128 .f32) (g b : Vec F S768x128 .f32) : FVec F S768x128 .f32 := tClip (tLn v g b) (tS v g b)

/-- A tile's codes, a token to a row. -/
def tRows (v : FVec F S768x128 .f32) (g b : Vec F S768x128 .f32) : IVec S128x768 8 :=
  fptosi 8 (transpose S128x768 [1, 0] (tC v g b) transposes_S768x128_p1_0_S128x768)

variable (v : FVec F S768x128 .f32) (g b : Vec F S768x128 .f32)

theorem pay9_eq : k0_pay9 v g b = tLn v g b := rfl
theorem pay10_eq : k0_pay10 v g b = tS v g b := rfl
theorem pay11_eq : k0_pay11 v g b = tC v g b := rfl
theorem pay22_eq : k0_pay22 v (k0_pay19 g) (k0_pay20 b) (k0_pay21 v) = tLn v g b := rfl
theorem pay23_eq : k0_pay23 v (k0_pay19 g) (k0_pay20 b) (k0_pay21 v) = tS v g b := rfl
theorem pay24_eq : k0_pay24 v (k0_pay19 g) (k0_pay20 b) (k0_pay21 v) = tC v g b := rfl
theorem pay30_eq : k0_pay30 v g b = tLn v g b := rfl
theorem pay31_eq : k0_pay31 v g b = tMax (tLn v g b) := rfl
theorem pay32_eq : k0_pay32 (k0_pay31 v g b) (FloatOps.ofBits .f32 0#32) = tS v g b := rfl
theorem pay33_eq : k0_pay33 (k0_pay30 v g b) (k0_pay31 v g b) (FloatOps.ofBits .f32 0#32) = tC v g b := rfl

/-- The first tile's codes. -/
theorem codes0_eq : k0_pay14 (k0_pay11 v g b) = shapeCast S1x128x768 (tRows v g b) shapeCasts_S128x768_S1x128x768 := rfl
/-- The second tile's codes. -/
theorem codes1_eq : k0_pay28 (k0_pay27 v (k0_pay19 g) (k0_pay20 b) (k0_pay21 v)) = shapeCast S1x128x768 (tRows v g b) shapeCasts_S128x768_S1x128x768 := rfl

/-- The global tokens' codes: the tile's first eighty columns. -/
def gCodes (c : FVec F S768x128 .f32) : IVec S1x5x16x768 8 :=
  shapeCast S1x5x16x768 (shapeCast S5x16x768 (fptosi 8 (extractStridedSlice S80x768 ![0, 0] (transpose S128x768 [1, 0] c transposes_S768x128_p1_0_S128x768) slices_S128x768_o0_0_S80x768))
    shapeCasts_S80x768_S5x16x768) shapeCasts_S5x16x768_S1x5x16x768
theorem codesG_eq : k0_pay36 (k0_pay30 v g b) (k0_pay31 v g b) (FloatOps.ofBits .f32 0#32) = gCodes (tC v g b) := rfl
/-- The first two candidates' scales. -/
theorem scales0_eq : k0_pay37 (k0_pay31 v g b) (FloatOps.ofBits .f32 0#32)
    = shapeCast S1x1x16 (extractStridedSlice S1x16 ![0, 0] (tS v g b) slices_S1x128_o0_0_S1x16) shapeCasts_S1x16_S1x1x16 := rfl
theorem scales1_eq : k0_pay38 (k0_pay31 v g b) (FloatOps.ofBits .f32 0#32)
    = shapeCast S1x1x16 (extractStridedSlice S1x16 ![0, 16] (tS v g b) slices_S1x128_o0_16_S1x16) shapeCasts_S1x16_S1x1x16 := rfl

end stages

section at_index

/-- A column of a tile. -/
abbrev col (v : Vec Ideal S768x128 .f32) (q : Fin 128) : Fin 768 → EReal := fun x => v (ix2 x q)

variable (v : FVec Ideal S768x128 .f32) (g b : Vec Ideal S768x128 .f32) (q : Fin 128) (k : Fin 768)

theorem tMean_at : tMean v (ix2 0 q) = mean (col v q) := by
  unfold mean
  pointwise [tMean, lit]
theorem tCentre_at : tCentre v (ix2 k q) = v (ix2 k q) - tMean v (ix2 0 q) := by
  pointwise [tCentre, down]
theorem tNorm_at (d g b : FVec Ideal S768x128 .f32) : tNorm d g b (ix2 k q) = d (ix2 k q) * Ideal.rsqrt (tMean (mulf d d) (ix2 0 q) + cEps) * g (ix2 k q) + b (ix2 k q) := by
  pointwise [tNorm, down, lit]
theorem same_at : same v (ix2 k q) = v (ix2 k q) := by pointwise [same]
theorem tMax_at : tMax v (ix2 0 q) = amax (col v q) := by
  unfold amax
  pointwise [tMax]
theorem tScale_at (a : FVec Ideal S1x128 .f32) : tScale a (ix2 0 q) = scaleOf (a (ix2 0 q)) := by
  unfold scaleOf
  pointwise [tScale, lit]
theorem tClip_at (s : FVec Ideal S1x128 .f32) : tClip v s (ix2 k q) = clip (v (ix2 k q) * Ideal.div 1 (s (ix2 0 q))) := by
  unfold clip
  pointwise [tClip, lit, down]
theorem tLn_at : tLn v g b (ix2 k q) = ln (col v q) (col g q) (col b q) k := by
  have d : ∀ k, tCentre v (ix2 k q) = col v q k - mean (col v q) := fun k => by rw [tCentre_at, tMean_at]
  have e : col (mulf (tCentre v) (tCentre v)) q = fun x => (col v q x - mean (col v q)) * (col v q x - mean (col v q)) :=
    funext fun x => congrArg₂ (· * ·) (d x) (d x)
  unfold tLn
  rw [tNorm_at, tMean_at, e, d, same_at, same_at]
  exact ln_recip (col v q) (col g q) (col b q) k
theorem tS_at : tS v g b (ix2 0 q) = sc (col v q) (col g q) (col b q) := by
  unfold tS sc
  rw [tScale_at, tMax_at]
  exact congrArg (fun r => scaleOf (amax r)) (funext fun x => tLn_at v g b q x)
theorem tC_at : tC v g b (ix2 k q) = cl (col v q) (col g q) (col b q) k := by
  unfold tC
  rw [tClip_at, tLn_at, tS_at]
  exact cl_recip _ _ _ _
theorem tRows_at : tRows v g b (ix2 q k) = cd (col v q) (col g q) (col b q) k := by
  have e : tRows v g b (ix2 q k) = FloatOps.fptosi (F := Ideal) (φ := .f32) 8 (tC v g b (ix2 k q)) := by
    unfold tRows
    generalize tC v g b = c
    pointwise
  rw [e, tC_at]
  rfl
/-- The number of a global token among a batch's eighty. -/
abbrev place (n : Fin 5) (r : Fin 16) : Fin 128 := ⟨n.val * 16 + r.val, by omega⟩
theorem gCodes_at (n : Fin 5) (r : Fin 16) : gCodes (tC v g b) (ix4 0 n r k) = cd (col v (place n r)) (col g (place n r)) (col b (place n r)) k := by
  have e : gCodes (tC v g b) (ix4 0 n r k) = FloatOps.fptosi (F := Ideal) (φ := .f32) 8 (tC v g b (ix2 k (place n r))) := by
    generalize tC v g b = c
    pointwise [gCodes, place]
  rw [e, tC_at]
  rfl

end at_index

end Cert.TokensIdeal.Stages

end
-- ==== Proof.TokenBlocks.lean ====
/- What a point of the token normalisation's grid leaves: its five output blocks over its operand blocks, and each
   block at an index, its stores' pieces put together. -/
module

public import proofs.«01_k».proof.Proof.TokenStages
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.TokensIdeal.Blocks

open Cert.TokensIdeal Cert.TokensIdeal.Gen Cert.TokensIdeal.Stages Cert.Spec Cert.TokenSpec

section blocks
variable (F : FTy → Type) [FloatOps F]

/-- A point's operand blocks. -/
structure Ops where
  /-- the global tokens -/
  glob : Vec F S1x5x16x768 .bf16
  /-- the gain, along each column -/
  gain : Vec F S768x128 .f32
  /-- the shift, along each column -/
  shift : Vec F S768x128 .f32
  /-- the merged sequence, a token to a column -/
  seq : Vec F S1x768x256 .f32

variable {F}
variable (O : Ops F)

/-- The two tiles of the merged sequence. -/
def tile : Fin 2 → FVec F S768x128 .f32
  | 0 => k0_pay5 (View.ld O.seq (Rect.unit ![0, 0, 0] ![1, 768, 128] inb_S1x768x256_S1x768x128_0_0_0))
  | 1 => k0_pay6 (View.ld O.seq (Rect.unit ![0, 0, 128] ![1, 768, 128] inb_S1x768x256_S1x768x128_0_0_128))

/-- The tile of the global tokens. -/
def gTile : FVec F S768x128 .f32 := k0_pay7 O.glob

/-- A tile's tokens, a token to a row. -/
def tRaw (v : FVec F S768x128 .f32) : FVec F S128x768 .bf16 :=
  truncf .bf16 (transpose S128x768 [1, 0] v transposes_S768x128_p1_0_S128x768) bitsLt_bf16_f32

/-- Two tiles' rows, stored one under the other. -/
abbrev halves {e : EltTy} (f : Fin 2 → Vec F S128x768 e) : Vec F S1x256x768 e :=
  View.canon (Val := Elt F) (s := S1x256x768) (e := e)
    [⟨Rect.unit ![0, 128, 0] S1x128x768.size inb_S1x256x768_S1x128x768_0_128_0, shapeCast S1x128x768 (f 1) shapeCasts_S128x768_S1x128x768⟩,
     ⟨Rect.unit ![0, 0, 0] S1x128x768.size inb_S1x256x768_S1x128x768_0_0_0, shapeCast S1x128x768 (f 0) shapeCasts_S128x768_S1x128x768⟩]

/-- The merged sequence's block. -/
def oM : Vec F S1x256x768 .bf16 := halves (e := .bf16) fun h => tRaw (tile O h)
/-- The merged sequence's codes' block. -/
def oC : Vec F S1x256x768 .i8 := halves (e := .i8) fun h => tRows (tile O h) O.gain O.shift
/-- The global tokens' codes' block. -/
def oZ : Vec F S1x5x16x768 .i8 := gCodes (tC (gTile O) O.gain O.shift)

/-- Sixteen of a row of scales. -/
def lane (s : FVec F S1x128 .f32) : Fin 5 → FVec F S1x16 .f32
  | 0 => extractStridedSlice S1x16 ![0, 0] s slices_S1x128_o0_0_S1x16
  | 1 => extractStridedSlice S1x16 ![0, 16] s slices_S1x128_o0_16_S1x16
  | 2 => extractStridedSlice S1x16 ![0, 32] s slices_S1x128_o0_32_S1x16
  | 3 => extractStridedSlice S1x16 ![0, 48] s slices_S1x128_o0_48_S1x16
  | 4 => extractStridedSlice S1x16 ![0, 64] s slices_S1x128_o0_64_S1x16

/-- Five candidates' scales, stored one under the other. -/
abbrev fives (f : Fin 5 → Vec F S1x16 .f32) : Vec F S1x5x16 .f32 :=
  View.canon (Val := Elt F) (s := S1x5x16) (e := .f32)
    [⟨Rect.unit ![0, 4, 0] S1x1x16.size inb_S1x5x16_S1x1x16_0_4_0, shapeCast S1x1x16 (f 4) shapeCasts_S1x16_S1x1x16⟩,
     ⟨Rect.unit ![0, 3, 0] S1x1x16.size inb_S1x5x16_S1x1x16_0_3_0, shapeCast S1x1x16 (f 3) shapeCasts_S1x16_S1x1x16⟩,
     ⟨Rect.unit ![0, 2, 0] S1x1x16.size inb_S1x5x16_S1x1x16_0_2_0, shapeCast S1x1x16 (f 2) shapeCasts_S1x16_S1x1x16⟩,
     ⟨Rect.unit ![0, 1, 0] S1x1x16.size inb_S1x5x16_S1x1x16_0_1_0, shapeCast S1x1x16 (f 1) shapeCasts_S1x16_S1x1x16⟩,
     ⟨Rect.unit ![0, 0, 0] S1x1x16.size inb_S1x5x16_S1x1x16_0_0_0, shapeCast S1x1x16 (f 0) shapeCasts_S1x16_S1x1x16⟩]

/-- The global tokens' scales' block. -/
def oZs : Vec F S1x5x16 .f32 := fives fun n => lane (tS (gTile O) O.gain O.shift) n

/-- A tile's row of scales set at one batch, the other batches' kept. -/
def setRow (i : BitVec 32) (s : FVec F S1x128 .f32) (old : Vec F S6x128 .f32) : FVec F S6x128 .f32 := k0_pay15 i s old
theorem setRow_eq (i : BitVec 32) (s : FVec F S1x128 .f32) (old : Vec F S6x128 .f32) : k0_pay29 i s old = setRow i s old := rfl

/-- The scales' block with one batch's row set over an earlier block, whatever was stored before. -/
abbrev rowSet (i : BitVec 32) (old : Vec F S6x256 .f32) (L : List (View.Piece (Elt F) S6x256 .f32)) : Vec F S6x256 .f32 :=
  View.canon (Val := Elt F) (s := S6x256) (e := .f32)
    (⟨Rect.unit ![0, 128] S6x128.size inb_S6x256_S6x128_0_128, setRow i (tS (tile O 1) O.gain O.shift) (View.ld old (Rect.unit ![0, 128] S6x128.size inb_S6x256_S6x128_0_128))⟩
     :: ⟨Rect.unit ![0, 0] S6x128.size inb_S6x256_S6x128_0_0, setRow i (tS (tile O 0) O.gain O.shift) (View.ld old (Rect.unit ![0, 0] S6x128.size inb_S6x256_S6x128_0_0))⟩ :: L)

/-- The scales' block after the first point. -/
def sFirst (i : BitVec 32) : Vec F S6x256 .f32 := rowSet O i k0_pay4 [⟨Rect.unit ![0, 0] S6x256.size inb_S6x256_S6x256_0_0, k0_pay4⟩]
/-- The scales' block after a later point. -/
def sLater (i : BitVec 32) (old : Vec F S6x256 .f32) : Vec F S6x256 .f32 := rowSet O i old []

/-! ## The pieces at their elements -/

/-- The tile of a token. -/
def half (q : Fin 256) : Fin 2 := ⟨q.val / 128, by omega⟩
/-- A token's column in its tile. -/
def within (q : Fin 256) : Fin 128 := ⟨q.val % 128, by omega⟩

/-- One tile's rows of a block, at the piece's elements. -/
theorem halves_emb {e : EltTy} (h : Fin 2) (o : ℕ) (ho : o = 128 * h.val) (f : Fin 2 → Vec F S128x768 e) (i : ∀ a, (![0, o, 0] : Fin 3 → ℕ) a + S1x128x768.size a ≤ S1x256x768.size a) (x : S1x128x768.Idx) :
    shapeCast S1x128x768 (f h) shapeCasts_S128x768_S1x128x768 x
      = (fun y : S1x256x768.Idx => f (half (y 1)) (ix2 (within (y 1)) (y 2))) ((Rect.unit (s := S1x256x768) ![0, o, 0] S1x128x768.size i).emb x) := by
  have x1 : (x 1 : ℕ) < 128 := (x 1).isLt
  have e1 : (((Rect.unit (s := S1x256x768) ![0, o, 0] S1x128x768.size i).emb x 1 : Fin _) : ℕ) = o + (x 1 : ℕ) :=
    ValueKit.rect_emb_unit_val (s := S1x256x768) ![0, o, 0] S1x128x768.size i x 1
  have eh : half ((Rect.unit (s := S1x256x768) ![0, o, 0] S1x128x768.size i).emb x 1) = h := Fin.ext (by show _ / 128 = _; rw [e1]; omega)
  have ew : within ((Rect.unit (s := S1x256x768) ![0, o, 0] S1x128x768.size i).emb x 1) = x 1 := Fin.ext (by show _ % 128 = _; rw [e1]; omega)
  have e2 : ((Rect.unit (s := S1x256x768) ![0, o, 0] S1x128x768.size i).emb x) 2 = x 2 :=
    Fin.ext ((ValueKit.rect_emb_unit_val (s := S1x256x768) ![0, o, 0] S1x128x768.size i x 2).trans (Nat.zero_add _))
  simp only [eh, ew, e2]
  pointwise

/-- Two tiles' rows tile a block. -/
theorem halves_at {e : EltTy} (f : Fin 2 → Vec F S128x768 e) (q : Fin 256) (k : Fin 768) : halves f (ix3 0 q k) = f (half q) (ix2 (within q) k) :=
  View.canon_append_of_piecesOf (fun y : S1x256x768.Idx => f (half (y 1)) (ix2 (within (y 1)) (y 2))) [] [_, _]
    ⟨halves_emb 1 128 rfl f inb_S1x256x768_S1x128x768_0_128_0, halves_emb 0 0 rfl f inb_S1x256x768_S1x128x768_0_0_0, trivial⟩ _
    (View.cover_of_tiledL (s := S1x256x768) _ (![1, 128, 768] : Fin 3 → ℕ) (by sl_kernel_rfl) _)

/-- One candidate's scales, at the piece's elements. -/
theorem fives_emb (n : Fin 5) (f : Fin 5 → Vec F S1x16 .f32) (i : ∀ a, (![0, n.val, 0] : Fin 3 → ℕ) a + S1x1x16.size a ≤ S1x5x16.size a) (x : S1x1x16.Idx) :
    shapeCast S1x1x16 (f n) shapeCasts_S1x16_S1x1x16 x
      = (fun y : S1x5x16.Idx => f (y 1) (ix2 0 (y 2))) ((Rect.unit (s := S1x5x16) ![0, n.val, 0] S1x1x16.size i).emb x) := by
  have v1 : (((Rect.unit (s := S1x5x16) ![0, n.val, 0] S1x1x16.size i).emb x 1 : Fin _) : ℕ) = n.val + (x 1 : ℕ) :=
    ValueKit.rect_emb_unit_val (s := S1x5x16) ![0, n.val, 0] S1x1x16.size i x 1
  have x1 : (x 1 : ℕ) < 1 := (x 1).isLt
  have e1 : ((Rect.unit (s := S1x5x16) ![0, n.val, 0] S1x1x16.size i).emb x) 1 = n := Fin.ext (v1.trans (by omega))
  have e2 : ((Rect.unit (s := S1x5x16) ![0, n.val, 0] S1x1x16.size i).emb x) 2 = x 2 :=
    Fin.ext ((ValueKit.rect_emb_unit_val (s := S1x5x16) ![0, n.val, 0] S1x1x16.size i x 2).trans (Nat.zero_add _))
  simp only [e1, e2]
  pointwise

/-- Five candidates' scales tile a block. -/
theorem fives_at (f : Fin 5 → Vec F S1x16 .f32) (n : Fin 5) (q : Fin 16) : fives f (ix3 0 n q) = f n (ix2 0 q) :=
  View.canon_append_of_piecesOf (Val := Elt F) (e := .f32) (fun y : S1x5x16.Idx => f (y 1) (ix2 0 (y 2))) [] [_, _, _, _, _]
    ⟨fives_emb 4 f inb_S1x5x16_S1x1x16_0_4_0, fives_emb 3 f inb_S1x5x16_S1x1x16_0_3_0, fives_emb 2 f inb_S1x5x16_S1x1x16_0_2_0, fives_emb 1 f inb_S1x5x16_S1x1x16_0_1_0, fives_emb 0 f inb_S1x5x16_S1x1x16_0_0_0, trivial⟩ _
    (View.cover_of_tiledL (s := S1x5x16) _ (![1, 1, 16] : Fin 3 → ℕ) (by sl_kernel_rfl) _)

theorem lane_at (s : FVec F S1x128 .f32) (n : Fin 5) (q : Fin 16) : lane s n (ix2 0 q) = s (ix2 0 (place n q)) := by
  match n with
  | 0 => pointwise [lane, place]
  | 1 => pointwise [lane, place]
  | 2 => pointwise [lane, place]
  | 3 => pointwise [lane, place]
  | 4 => pointwise [lane, place]

end blocks

section at_index
variable (O : Ops Ideal)

/-- A token of the block. -/
def Ops.mrow (q : Fin 256) : Fin 768 → EReal := fun x => O.seq (ix3 0 x q)
/-- A global token of the block. -/
def Ops.grow (n : Fin 5) (r : Fin 16) : Fin 768 → EReal := fun x => O.glob (ix4 0 n r x)

theorem tile0_at (w : Fin 128) (k : Fin 768) : tile O 0 (ix2 k w) = O.seq (ix3 0 k (⟨w.val, by omega⟩ : Fin 256)) := by pointwise [tile, k0_pay5]
theorem tile1_at (w : Fin 128) (k : Fin 768) : tile O 1 (ix2 k w) = O.seq (ix3 0 k (⟨128 + w.val, by omega⟩ : Fin 256)) := by pointwise [tile, k0_pay6]
theorem tile_at (q : Fin 256) (k : Fin 768) : tile O (half q) (ix2 k (within q)) = O.seq (ix3 0 k q) := by
  have key : ∀ (h : Fin 2) (w : Fin 128) (e : q.val = 128 * h.val + w.val), tile O h (ix2 k w) = O.seq (ix3 0 k q) := by
    intro h w e
    match h with
    | 0 => exact (tile0_at O w k).trans (congrArg (fun x => O.seq (ix3 0 k x)) (Fin.ext (show w.val = q.val by simpa using e.symm)))
    | 1 => exact (tile1_at O w k).trans (congrArg (fun x => O.seq (ix3 0 k x)) (Fin.ext (show 128 + w.val = q.val by simpa using e.symm)))
  exact key (half q) (within q) (Nat.div_add_mod q.val 128).symm
theorem gTile_at (n : Fin 5) (r : Fin 16) (k : Fin 768) : gTile O (ix2 k (place n r)) = O.grow n r k := by
  unfold Ops.grow
  pointwise [gTile, k0_pay7, place]
  exact dif_pos (by omega)
theorem tRaw_at (v : FVec Ideal S768x128 .f32) (r : Fin 128) (k : Fin 768) : tRaw v (ix2 r k) = v (ix2 k r) := by pointwise [tRaw]

theorem mcol (q : Fin 256) : col (tile O (half q)) (within q) = O.mrow q := funext fun k => tile_at O q k
theorem gcol (n : Fin 5) (r : Fin 16) : col (gTile O) (place n r) = O.grow n r := funext fun k => gTile_at O n r k

/-! ## The blocks at an index -/

theorem oM_at (q : Fin 256) (k : Fin 768) : oM O (ix3 0 q k) = O.mrow q k := by
  unfold oM
  rw [halves_at]
  exact (tRaw_at _ _ _).trans (tile_at O q k)
theorem oC_at (q : Fin 256) (k : Fin 768) : oC O (ix3 0 q k) = cd (O.mrow q) (col O.gain (within q)) (col O.shift (within q)) k := by
  unfold oC
  rw [halves_at]
  exact (tRows_at _ _ _ _ _).trans (by rw [mcol])
theorem oZ_at (n : Fin 5) (r : Fin 16) (k : Fin 768) : oZ O (ix4 0 n r k) = cd (O.grow n r) (col O.gain (place n r)) (col O.shift (place n r)) k := by
  unfold oZ
  rw [gCodes_at, gcol]
theorem oZs_at (n : Fin 5) (r : Fin 16) : oZs O (ix3 0 n r) = sc (O.grow n r) (col O.gain (place n r)) (col O.shift (place n r)) := by
  unfold oZs
  rw [fives_at, lane_at, tS_at, gcol]

/-- Two batches' numbers are equal words when they are equal. -/
theorem same_batch : ∀ r i : Fin 6, IntOp.cmpi CmpIPredicate.eq (BitVec.ofNat 32 r.val) (BitVec.ofNat 32 i.val) = if r = i then 1#1 else 0#1 := by decide

/-- The row set is the batch's. -/
theorem setRow_at (i : Fin 6) (s : FVec Ideal S1x128 .f32) (old : Vec Ideal S6x128 .f32) (r : Fin 6) (w : Fin 128) :
    setRow (BitVec.ofNat 32 i.val) s old (ix2 r w) = if r = i then s (ix2 0 w) else old (ix2 r w) := by
  pointwise [setRow, k0_pay15]
  rw [same_batch]
  split_ifs <;> rfl

/-- The scales' block with a batch's row set, at an index. -/
def rowOf (i : Fin 6) (old : Vec Ideal S6x256 .f32) (r : Fin 6) (q : Fin 256) : EReal :=
  if r = i then tS (tile O (half q)) O.gain O.shift (ix2 0 (within q)) else old (ix2 r q)

/-- One tile's row set, at a token of the tile. -/
theorem row_set (i : Fin 6) (old : Vec Ideal S6x256 .f32) (X : Vec Ideal S6x128 .f32) (h : Fin 2) (r : Fin 6) (w : Fin 128) (q : Fin 256) (eh : half q = h) (ew : within q = w)
    (eo : X (ix2 r w) = old (ix2 r q)) : setRow (BitVec.ofNat 32 i.val) (tS (tile O h) O.gain O.shift) X (ix2 r w) = rowOf O i old r q := by
  unfold rowOf
  rw [setRow_at, eh, ew, eo]

/-- One tile's columns of the block, at the piece's elements. -/
theorem row_emb (i : Fin 6) (old : Vec Ideal S6x256 .f32) (h : Fin 2) (o : ℕ) (ho : o = 128 * h.val)
    (j : ∀ a, (![0, o] : Fin 2 → ℕ) a + S6x128.size a ≤ S6x256.size a) (x : S6x128.Idx) :
    setRow (BitVec.ofNat 32 i.val) (tS (tile O h) O.gain O.shift) (View.ld old (Rect.unit (s := S6x256) ![0, o] S6x128.size j)) x
      = (fun y : S6x256.Idx => rowOf O i old (y 0) (y 1)) ((Rect.unit (s := S6x256) ![0, o] S6x128.size j).emb x) := by
  have x1 : (x 1 : ℕ) < 128 := (x 1).isLt
  have e0 : ((Rect.unit (s := S6x256) ![0, o] S6x128.size j).emb x) 0 = x 0 :=
    Fin.ext ((ValueKit.rect_emb_unit_val (s := S6x256) ![0, o] S6x128.size j x 0).trans (Nat.zero_add _))
  have e1 : (((Rect.unit (s := S6x256) ![0, o] S6x128.size j).emb x 1 : Fin _) : ℕ) = o + (x 1 : ℕ) :=
    ValueKit.rect_emb_unit_val (s := S6x256) ![0, o] S6x128.size j x 1
  have eh : half ((Rect.unit (s := S6x256) ![0, o] S6x128.size j).emb x 1) = h := Fin.ext (by show _ / 128 = _; rw [e1]; omega)
  have ew : within ((Rect.unit (s := S6x256) ![0, o] S6x128.size j).emb x 1) = x 1 := Fin.ext (by show _ % 128 = _; rw [e1]; omega)
  have ex : x = ix2 (x 0) (x 1) := by funext a; fin_cases a <;> rfl
  have ey : (Rect.unit (s := S6x256) ![0, o] S6x128.size j).emb x = ix2 (x 0 : Fin 6) ((Rect.unit (s := S6x256) ![0, o] S6x128.size j).emb x 1 : Fin 256) := by
    funext a
    match a with
    | 0 => exact e0
    | 1 => rfl
  have eo : View.ld old (Rect.unit (s := S6x256) ![0, o] S6x128.size j) (ix2 (x 0 : Fin 6) (x 1 : Fin 128)) = old (ix2 (x 0 : Fin 6) ((Rect.unit (s := S6x256) ![0, o] S6x128.size j).emb x 1 : Fin 256)) :=
    (congrArg (View.ld old (Rect.unit (s := S6x256) ![0, o] S6x128.size j)) ex).symm.trans (congrArg old ey)
  refine (congrArg (setRow (BitVec.ofNat 32 i.val) (tS (tile O h) O.gain O.shift) (View.ld old (Rect.unit (s := S6x256) ![0, o] S6x128.size j))) ex).trans
    ((row_set O i old (View.ld old (Rect.unit (s := S6x256) ![0, o] S6x128.size j)) h (x 0) (x 1) ((Rect.unit (s := S6x256) ![0, o] S6x128.size j).emb x 1) eh ew eo).trans ?_)
  exact congrArg (fun r : Fin 6 => rowOf O i old r ((Rect.unit (s := S6x256) ![0, o] S6x128.size j).emb x 1 : Fin 256)) e0.symm

/-- Two tiles' columns tile the block. -/
theorem rowSet_at (i : Fin 6) (old : Vec Ideal S6x256 .f32) (L : List (View.Piece (Elt Ideal) S6x256 .f32)) (r : Fin 6) (q : Fin 256) :
    rowSet O (BitVec.ofNat 32 i.val) old L (ix2 r q) = if r = i then sc (O.mrow q) (col O.gain (within q)) (col O.shift (within q)) else old (ix2 r q) := by
  refine (View.canon_append_of_piecesOf (Val := Elt Ideal) (e := .f32) (fun y : S6x256.Idx => rowOf O i old (y 0) (y 1)) L [_, _]
    ⟨row_emb O i old 1 128 rfl inb_S6x256_S6x128_0_128, row_emb O i old 0 0 rfl inb_S6x256_S6x128_0_0, trivial⟩ _
    (View.cover_of_tiledL (s := S6x256) _ (![6, 128] : Fin 2 → ℕ) (by sl_kernel_rfl) _)).trans ?_
  show rowOf O i old r q = _
  unfold rowOf
  rw [tS_at, mcol]

end at_index

end Cert.TokensIdeal.Blocks

end
-- ==== Proof.TokenCases.lean ====
/- What a point of the token normalisation's grid leaves, by case, as the blocks of `Proof/TokenBlocks.lean`. -/
module

public import proofs.«01_k».proof.Proof.TokenBlocks
public import Idealize.ShloMosaic.Lib.Pipeline.ValueKit
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.TokensIdeal.Cases

open Cert.TokensIdeal Cert.TokensIdeal.Gen Cert.TokensIdeal.Stages Cert.TokensIdeal.Blocks

variable {F : FTy → Type} [FloatOps F]
variable (m : (ℓ : Loc nD τ sig) → Buf (Elt F) ℓ)

/-- A point's operand blocks. -/
def ops (c : Dev nD) (t : Fin cfg0.N) : Ops F where
  glob := iblk m c 0 t
  gain := iblk m c 1 t
  shift := iblk m c 2 t
  seq := iblk m c 3 t

/-- A later point sets its batch's row over what the point before it left. -/
theorem later (c : Dev nD) (t : Fin cfg0.N) (h0 : ¬ (t.val % 6 = 0)) :
    outsAt0 m c t.val t.isLt = (oM (ops m c t), oZ (ops m c t), oZs (ops m c t), oC (ops m c t),
      sLater (ops m c t) (BitVec.ofNat 32 (grid0.coords t 0).val) (outsAt0 m c (t.val - 1) (by have := t.isLt; omega)).2.2.2.2) := by
  rw [outsAt0_B m c t h0]
  generalize (outsAt0 m c (t.val - 1) _) = W
  frame_open
  simp (disch := decide) only [↓ View.readCov_skip, ↓ View.readCov_cons_toLoadRect, ↓ View.readCov_fill]
  frame_out
  rfl

/-- The first point sets its batch's row over zeros. -/
theorem first (c : Dev nD) (t : Fin cfg0.N) (h0 : t.val % 6 = 0) :
    outsAt0 m c t.val t.isLt = (oM (ops m c t), oZ (ops m c t), oZs (ops m c t), oC (ops m c t), sFirst (ops m c t) (BitVec.ofNat 32 (grid0.coords t 0).val)) := by
  rw [outsAt0_A m c t h0]
  frame_open
  simp (disch := decide) only [↓ View.readCov_skip, ↓ View.readCov_cons_toLoadRect, ↓ View.readCov_fill]
  frame_out
  rfl

end Cert.TokensIdeal.Cases

end
-- ==== Proof.TokenReference.lean ====
/- The token normalisation's reference: its stages named and read at an index, and its results, which are the tokens
   of `Proof/TokenSpec.lean` in the arrays it was launched with. -/
module

public import proofs.«01_k».proof.Proof.TokenSpec
public import proofs.«01_k».proof.Proof.Gen.TokensReferenceIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.TokensReferenceIdeal.Results

open Cert.TokensReferenceIdeal Cert.TokensReferenceIdeal.Gen Cert.Spec Cert.TokenSpec

section stages
variable {F : FTy → Type} [FloatOps F]

/-- A literal on every entry. -/
abbrev lit (s : Shape) (w : BitVec 32) : FVec F s .f32 := broadcast s (Scalar.ofBits .f32 w : F .f32)

/-! ## The merged sequence -/

/-- A column spread over the entries of a row. -/
abbrev mSpread (s : FVec F S6x256x1 .f32) : FVec F S6x256x768 .f32 := broadcastTo S6x256x768 s broadcasts_S6x256x1_S6x256x768
/-- A row spread over the rows. -/
abbrev mAlong (g : Vec F S768 .f32) : FVec F S6x256x768 .f32 := broadcastTo S6x256x768 (shapeCast S1x1x768 g shapeCasts_S768_S1x1x768) broadcasts_S1x1x768_S6x256x768
/-- Each row's mean. -/
def mMean (v : FVec F S6x256x768 .f32) : FVec F S6x256x1 .f32 :=
  divf (shapeCast S6x256x1 (multiReduction .add [2] S6x256 v 0x00000000#32 reduces_S6x256x768_S6x256 (.inl rfl) rfl) shapeCasts_S6x256_S6x256x1) (lit S6x256x1 0x44400000#32)
/-- Rows less their means. -/
def mCentre (v : FVec F S6x256x768 .f32) : FVec F S6x256x768 .f32 := subf v (mSpread (mMean v))
/-- The layer norm of rows already centred. -/
def mNorm (d : FVec F S6x256x768 .f32) (g b : Vec F S768 .f32) : FVec F S6x256x768 .f32 :=
  addf (mulf (divf d (mSpread (sqrt (addf (mMean (mulf d d)) (lit S6x256x1 0x3727C5AC#32))))) (mAlong g)) (mAlong b)
/-- The layer norm of rows. -/
def mLn (v : FVec F S6x256x768 .f32) (g b : Vec F S768 .f32) : FVec F S6x256x768 .f32 := mNorm (mCentre v) g b
/-- The greatest magnitude of each row. -/
def mMax (v : FVec F S6x256x768 .f32) : FVec F S6x256x1 .f32 :=
  shapeCast S6x256x1 (multiReduction .maximumf [2] S6x256 (absf v) 0xFF800000#32 reduces_S6x256x768_S6x256 (.inl rfl) rfl) shapeCasts_S6x256_S6x256x1
/-- The scale of rows whose greatest magnitudes are `a`. -/
def mScale (a : FVec F S6x256x1 .f32) : FVec F S6x256x1 .f32 :=
  select (cmpf .oeq a (lit S6x256x1 0x00000000#32)) (lit S6x256x1 0x3F800000#32) (divf a (lit S6x256x1 0x42FE0000#32))
/-- Rows rounded and clipped at a scale. -/
def mClip (v : FVec F S6x256x768 .f32) (s : FVec F S6x256x1 .f32) : FVec F S6x256x768 .f32 :=
  minimumf (lit S6x256x768 0x42FE0000#32) (maximumf (lit S6x256x768 0xC2FE0000#32) (roundeven (divf v (mSpread s))))
/-- The scales of the layer norms. -/
def mS (v : FVec F S6x256x768 .f32) (g b : Vec F S768 .f32) : FVec F S6x256x1 .f32 := mScale (mMax (mLn v g b))
/-- The layer norms rounded and clipped. -/
def mC (v : FVec F S6x256x768 .f32) (g b : Vec F S768 .f32) : FVec F S6x256x768 .f32 := mClip (mLn v g b) (mS v g b)

/-! ## The global tokens -/

/-- A column spread over the entries of a row. -/
abbrev gSpread (s : FVec F S6x5x16x1 .f32) : FVec F S6x5x16x768 .f32 := broadcastTo S6x5x16x768 s broadcasts_S6x5x16x1_S6x5x16x768
/-- A row spread over the rows. -/
abbrev gAlong (g : Vec F S768 .f32) : FVec F S6x5x16x768 .f32 := broadcastTo S6x5x16x768 (shapeCast S1x1x1x768 g shapeCasts_S768_S1x1x1x768) broadcasts_S1x1x1x768_S6x5x16x768
/-- Each row's mean. -/
def gMean (v : FVec F S6x5x16x768 .f32) : FVec F S6x5x16x1 .f32 :=
  divf (shapeCast S6x5x16x1 (multiReduction .add [3] S6x5x16 v 0x00000000#32 reduces_S6x5x16x768_S6x5x16 (.inl rfl) rfl) shapeCasts_S6x5x16_S6x5x16x1) (lit S6x5x16x1 0x44400000#32)
/-- Rows less their means. -/
def gCentre (v : FVec F S6x5x16x768 .f32) : FVec F S6x5x16x768 .f32 := subf v (gSpread (gMean v))
/-- The layer norm of rows already centred. -/
def gNorm (d : FVec F S6x5x16x768 .f32) (g b : Vec F S768 .f32) : FVec F S6x5x16x768 .f32 :=
  addf (mulf (divf d (gSpread (sqrt (addf (gMean (mulf d d)) (lit S6x5x16x1 0x3727C5AC#32))))) (gAlong g)) (gAlong b)
/-- The layer norm of rows. -/
def gLn (v : FVec F S6x5x16x768 .f32) (g b : Vec F S768 .f32) : FVec F S6x5x16x768 .f32 := gNorm (gCentre v) g b
/-- The greatest magnitude of each row. -/
def gMax (v : FVec F S6x5x16x768 .f32) : FVec F S6x5x16x1 .f32 :=
  shapeCast S6x5x16x1 (multiReduction .maximumf [3] S6x5x16 (absf v) 0xFF800000#32 reduces_S6x5x16x768_S6x5x16 (.inl rfl) rfl) shapeCasts_S6x5x16_S6x5x16x1
/-- The scale of rows whose greatest magnitudes are `a`. -/
def gScale (a : FVec F S6x5x16x1 .f32) : FVec F S6x5x16x1 .f32 :=
  select (cmpf .oeq a (lit S6x5x16x1 0x00000000#32)) (lit S6x5x16x1 0x3F800000#32) (divf a (lit S6x5x16x1 0x42FE0000#32))
/-- Rows rounded and clipped at a scale. -/
def gClip (v : FVec F S6x5x16x768 .f32) (s : FVec F S6x5x16x1 .f32) : FVec F S6x5x16x768 .f32 :=
  minimumf (lit S6x5x16x768 0x42FE0000#32) (maximumf (lit S6x5x16x768 0xC2FE0000#32) (roundeven (divf v (gSpread s))))
/-- The scales of the layer norms. -/
def gS (v : FVec F S6x5x16x768 .f32) (g b : Vec F S768 .f32) : FVec F S6x5x16x1 .f32 := gScale (gMax (gLn v g b))
/-- The layer norms rounded and clipped. -/
def gC (v : FVec F S6x5x16x768 .f32) (g b : Vec F S768 .f32) : FVec F S6x5x16x768 .f32 := gClip (gLn v g b) (gS v g b)

variable (v : Vec F S6x256x768 .f32) (w : Vec F S6x5x16x768 .bf16) (g s : Vec F S768 .f32)

theorem pay8_eq : k0_pay8 v g s = mLn v g s := rfl
theorem pay9_eq : k0_pay9 v g s = mS v g s := rfl
theorem pay10_eq : k0_pay10 v g s = fptosi 8 (mC v g s) := rfl
theorem pay3_eq : k0_pay3 w g s = gLn (extf .f32 w bitsLt_bf16_f32) g s := rfl
theorem pay4_eq : k0_pay4 w g s = gS (extf .f32 w bitsLt_bf16_f32) g s := rfl
theorem pay7_eq : k0_pay7 (k0_pay5 w g s) (FloatOps.ofBits .f32 0x42FE0000#32) k0_pay6 = fptosi 8 (gC (extf .f32 w bitsLt_bf16_f32) g s) := rfl

end stages

/-! ## The stages at an index -/

section
variable (v : FVec Ideal S6x256x768 .f32) (g s : Vec Ideal S768 .f32) (b : Fin 6) (q : Fin 256) (k : Fin 768)

theorem mMean_at : mMean v (ix3 b q 0) = mean fun x => v (ix3 b q x) := by
  unfold mean
  pointwise [mMean, lit]
theorem mCentre_at : mCentre v (ix3 b q k) = v (ix3 b q k) - mMean v (ix3 b q 0) := by
  pointwise [mCentre, mSpread]
theorem mNorm_at (d : FVec Ideal S6x256x768 .f32) : mNorm d g s (ix3 b q k) = Ideal.div (d (ix3 b q k)) (Ideal.sqrt (mMean (mulf d d) (ix3 b q 0) + cEps)) * g (ix1 k) + s (ix1 k) := by
  pointwise [mNorm, mSpread, mAlong, lit]
theorem mMax_at : mMax v (ix3 b q 0) = amax fun x => v (ix3 b q x) := by
  unfold amax
  pointwise [mMax]
theorem mScale_at (a : FVec Ideal S6x256x1 .f32) : mScale a (ix3 b q 0) = scaleOf (a (ix3 b q 0)) := by
  unfold scaleOf
  pointwise [mScale, lit]
theorem mClip_at (a : FVec Ideal S6x256x1 .f32) : mClip v a (ix3 b q k) = clip (Ideal.div (v (ix3 b q k)) (a (ix3 b q 0))) := by
  unfold clip
  pointwise [mClip, mSpread, lit]
theorem mLn_at : mLn v g s (ix3 b q k) = ln (fun x => v (ix3 b q x)) (fun x => g (ix1 x)) (fun x => s (ix1 x)) k := by
  have d : ∀ k, mCentre v (ix3 b q k) = v (ix3 b q k) - mean (fun x => v (ix3 b q x)) := fun k => by rw [mCentre_at, mMean_at]
  have e : (fun x => mulf (mCentre v) (mCentre v) (ix3 b q x)) = fun x => (v (ix3 b q x) - mean (fun x => v (ix3 b q x))) * (v (ix3 b q x) - mean (fun x => v (ix3 b q x))) :=
    funext fun x => congrArg₂ (· * ·) (d x) (d x)
  unfold mLn ln
  rw [mNorm_at, mMean_at, e, d]
theorem mS_at : mS v g s (ix3 b q 0) = sc (fun x => v (ix3 b q x)) (fun x => g (ix1 x)) (fun x => s (ix1 x)) := by
  unfold mS sc
  rw [mScale_at, mMax_at]
  exact congrArg (fun r => scaleOf (amax r)) (funext fun x => mLn_at v g s b q x)
theorem mC_at : mC v g s (ix3 b q k) = cl (fun x => v (ix3 b q x)) (fun x => g (ix1 x)) (fun x => s (ix1 x)) k := by
  unfold mC cl
  rw [mClip_at, mLn_at, mS_at]

end

section
variable (v : FVec Ideal S6x5x16x768 .f32) (g s : Vec Ideal S768 .f32) (b : Fin 6) (n : Fin 5) (q : Fin 16) (k : Fin 768)

theorem gMean_at : gMean v (ix4 b n q 0) = mean fun x => v (ix4 b n q x) := by
  unfold mean
  pointwise [gMean, lit]
theorem gCentre_at : gCentre v (ix4 b n q k) = v (ix4 b n q k) - gMean v (ix4 b n q 0) := by
  pointwise [gCentre, gSpread]
theorem gNorm_at (d : FVec Ideal S6x5x16x768 .f32) : gNorm d g s (ix4 b n q k) = Ideal.div (d (ix4 b n q k)) (Ideal.sqrt (gMean (mulf d d) (ix4 b n q 0) + cEps)) * g (ix1 k) + s (ix1 k) := by
  pointwise [gNorm, gSpread, gAlong, lit]
theorem gMax_at : gMax v (ix4 b n q 0) = amax fun x => v (ix4 b n q x) := by
  unfold amax
  pointwise [gMax]
theorem gScale_at (a : FVec Ideal S6x5x16x1 .f32) : gScale a (ix4 b n q 0) = scaleOf (a (ix4 b n q 0)) := by
  unfold scaleOf
  pointwise [gScale, lit]
theorem gClip_at (a : FVec Ideal S6x5x16x1 .f32) : gClip v a (ix4 b n q k) = clip (Ideal.div (v (ix4 b n q k)) (a (ix4 b n q 0))) := by
  unfold clip
  pointwise [gClip, gSpread, lit]
theorem gLn_at : gLn v g s (ix4 b n q k) = ln (fun x => v (ix4 b n q x)) (fun x => g (ix1 x)) (fun x => s (ix1 x)) k := by
  have d : ∀ k, gCentre v (ix4 b n q k) = v (ix4 b n q k) - mean (fun x => v (ix4 b n q x)) := fun k => by rw [gCentre_at, gMean_at]
  have e : (fun x => mulf (gCentre v) (gCentre v) (ix4 b n q x)) = fun x => (v (ix4 b n q x) - mean (fun x => v (ix4 b n q x))) * (v (ix4 b n q x) - mean (fun x => v (ix4 b n q x))) :=
    funext fun x => congrArg₂ (· * ·) (d x) (d x)
  unfold gLn ln
  rw [gNorm_at, gMean_at, e, d]
theorem gS_at : gS v g s (ix4 b n q 0) = sc (fun x => v (ix4 b n q x)) (fun x => g (ix1 x)) (fun x => s (ix1 x)) := by
  unfold gS sc
  rw [gScale_at, gMax_at]
  exact congrArg (fun r => scaleOf (amax r)) (funext fun x => gLn_at v g s b n q x)
theorem gC_at : gC v g s (ix4 b n q k) = cl (fun x => v (ix4 b n q x)) (fun x => g (ix1 x)) (fun x => s (ix1 x)) k := by
  unfold gC cl
  rw [gClip_at, gLn_at, gS_at]

end

/-! ## The results -/

/-- What the results are computed from. -/
structure Args where
  /-- the merged sequence -/
  merged : Vec Ideal S6x256x768 .f32
  /-- the global tokens -/
  glob : Vec Ideal S6x5x16x768 .bf16
  /-- the layer norm's gain -/
  g : Vec Ideal S768 .f32
  /-- the layer norm's shift -/
  b : Vec Ideal S768 .f32

namespace Args
variable (P : Args)
/-- A token of the merged sequence. -/
def mrow (b : Fin 6) (q : Fin 256) : Fin 768 → EReal := fun k => P.merged (ix3 b q k)
/-- A global token. -/
def grow (b : Fin 6) (n : Fin 5) (q : Fin 16) : Fin 768 → EReal := fun k => P.glob (ix4 b n q k)
/-- The gain. -/
def gain : Fin 768 → EReal := fun k => P.g (ix1 k)
/-- The shift. -/
def shift : Fin 768 → EReal := fun k => P.b (ix1 k)
end Args

variable (m : (ℓ : Loc nD τ sig) → Buf (Elt Ideal) ℓ) (c : Dev nD)

/-- The arrays the reference was launched with. -/
def args : Args where
  merged := m ((c : Thread nD τ).loc main_arg0)
  glob := m ((c : Thread nD τ).loc main_arg1)
  g := m ((c : Thread nD τ).loc main_arg2)
  b := m ((c : Thread nD τ).loc main_arg3)

/-- The windows' index maps. -/
theorem idx0 : win0_0.index t0_0 = ![0, 0, 0] ∧ win0_1.index t0_0 = ![0, 0, 0, 0] ∧ win0_2.index t0_0 = ![0] ∧ win0_3.index t0_0 = ![0] := by decide +kernel

theorem x0 : (iblk m c 0 t0_0 : Vec Ideal S6x256x768 .f32) = (args m c).merged := by funext y; blk_ext [iblk, V, idx0, args]
theorem x1 : (iblk m c 1 t0_0 : Vec Ideal S6x5x16x768 .bf16) = (args m c).glob := by funext y; blk_ext [iblk, V, idx0, args]
theorem x2 : (iblk m c 2 t0_0 : Vec Ideal S768 .f32) = (args m c).g := by funext y; blk_ext [iblk, V, idx0, args]
theorem x3 : (iblk m c 3 t0_0 : Vec Ideal S768 .f32) = (args m c).b := by funext y; blk_ext [iblk, V, idx0, args]

theorem merged_eq : (dats m 0 c).arrAt 4 cfg0.N = k0_pay11 (args m c).merged := by
  refine (dats m 0 c).arrAt_eq_of_after_last 4 t0_0 (by decide +kernel) _ fun j => ?_
  blk_simp
  rw [after0_4]
  frame_out
  rw [x0 m c]
theorem zg_eq : (dats m 0 c).arrAt 5 cfg0.N = k0_pay7 (k0_pay5 (args m c).glob (args m c).g (args m c).b) (FloatOps.ofBits .f32 0x42FE0000#32) k0_pay6 := by
  refine (dats m 0 c).arrAt_eq_of_after_last 5 t0_0 (by decide +kernel) _ fun j => ?_
  blk_simp
  rw [after0_5]
  frame_out
  rw [x1 m c, x2 m c, x3 m c]
theorem zgs_eq : (dats m 0 c).arrAt 6 cfg0.N = k0_pay1 (k0_pay4 (args m c).glob (args m c).g (args m c).b) := by
  refine (dats m 0 c).arrAt_eq_of_after_last 6 t0_0 (by decide +kernel) _ fun j => ?_
  blk_simp
  rw [after0_6]
  frame_out
  rw [x1 m c, x2 m c, x3 m c]
theorem zm_eq : (dats m 0 c).arrAt 7 cfg0.N = k0_pay10 (args m c).merged (args m c).g (args m c).b := by
  refine (dats m 0 c).arrAt_eq_of_after_last 7 t0_0 (by decide +kernel) _ fun j => ?_
  blk_simp
  rw [after0_7]
  frame_out
  rw [x0 m c, x2 m c, x3 m c]
theorem zms_eq : (dats m 0 c).arrAt 8 cfg0.N = k0_pay2 (k0_pay9 (args m c).merged (args m c).g (args m c).b) := by
  refine (dats m 0 c).arrAt_eq_of_after_last 8 t0_0 (by decide +kernel) _ fun j => ?_
  blk_simp
  rw [after0_8]
  frame_out
  rw [x0 m c, x2 m c, x3 m c]

section
variable (b : Fin 6) (n : Fin 5) (k : Fin 768)

theorem pay11_at (v : Vec Ideal S6x256x768 .f32) (q : Fin 256) : k0_pay11 (F := Ideal) v (ix3 b q k) = v (ix3 b q k) := by pointwise [k0_pay11]
theorem pay1_at (v : FVec Ideal S6x5x16x1 .f32) (q : Fin 16) : k0_pay1 (F := Ideal) v (ix3 b n q) = v (ix4 b n q 0) := by pointwise [k0_pay1]
theorem pay2_at (v : FVec Ideal S6x256x1 .f32) (q : Fin 256) : k0_pay2 (F := Ideal) v (ix2 b q) = v (ix3 b q 0) := by pointwise [k0_pay2]

theorem merged_at (q : Fin 256) : (dats m 0 c).arrAt 4 cfg0.N (ix3 b q k) = (args m c).mrow b q k := by
  rw [merged_eq]; exact pay11_at b k _ q
theorem zg_at (q : Fin 16) : (dats m 0 c).arrAt 5 cfg0.N (ix4 b n q k) = cd ((args m c).grow b n q) (args m c).gain (args m c).shift k := by
  rw [zg_eq, pay7_eq]
  exact congrArg (FloatOps.fptosi (F := Ideal) (φ := .f32) 8) (gC_at _ _ _ b n q k)
theorem zgs_at (q : Fin 16) : (dats m 0 c).arrAt 6 cfg0.N (ix3 b n q) = sc ((args m c).grow b n q) (args m c).gain (args m c).shift := by
  rw [zgs_eq, pay4_eq]
  exact (pay1_at b n _ q).trans (gS_at _ _ _ b n q)
theorem zm_at (q : Fin 256) : (dats m 0 c).arrAt 7 cfg0.N (ix3 b q k) = cd ((args m c).mrow b q) (args m c).gain (args m c).shift k := by
  rw [zm_eq, pay10_eq]
  exact congrArg (FloatOps.fptosi (F := Ideal) (φ := .f32) 8) (mC_at _ _ _ b q k)
theorem zms_at (q : Fin 256) : (dats m 0 c).arrAt 8 cfg0.N (ix2 b q) = sc ((args m c).mrow b q) (args m c).gain (args m c).shift := by
  rw [zms_eq, pay9_eq]
  exact (pay2_at b _ q).trans (mS_at _ _ _ b q)
end

end Cert.TokensReferenceIdeal.Results

end
-- ==== Proof.TokenOperands.lean ====
/- The token normalisation's operand blocks at an index, in the arrays it was launched with. -/
module

public import proofs.«01_k».proof.Proof.TokenCases
public import proofs.«01_k».proof.Proof.TokenReference
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.TokensIdeal.Operands

open Cert.TokensIdeal Cert.TokensIdeal.Gen Cert.TokensIdeal.Stages Cert.TokensIdeal.Blocks Cert.TokensIdeal.Cases
open Cert.TokensReferenceIdeal.Results (Args)

variable (m : (ℓ : Loc nD τ sig) → Buf (Elt Ideal) ℓ) (c : Dev nD) (t : Fin cfg0.N)

/-- What the results are computed from: the arrays the kernel was launched with. -/
def args : Args where
  merged := m ((c : Thread nD τ).loc main_arg0)
  glob := m ((c : Thread nD τ).loc main_arg1)
  g := m ((c : Thread nD τ).loc main_arg2)
  b := m ((c : Thread nD τ).loc main_arg3)

/-- The batch a point of the grid works on. -/
abbrev batch : Fin 6 := ⟨t.val, t.isLt⟩

/-- The windows' index maps. -/
theorem idx : ∀ t : Fin cfg0.N, win0_0.index t = ![t.val, 0, 0, 0] ∧ win0_1.index t = ![0, 0] ∧ win0_2.index t = ![0, 0] ∧ win0_3.index t = ![t.val, 0, 0] :=
  (by decide +kernel : ∀ t : Fin grid0.N, _)

theorem glob_at (n : Fin 5) (q : Fin 16) (k : Fin 768) :
    (iblk m c 0 t : Vec Ideal S1x5x16x768 .bf16) (ix4 0 n q k) = m ((c : Thread nD τ).loc main_arg1) (ix4 (batch t) n q k) := by
  blk_ext [iblk, V, idx t]
theorem gain_at (k : Fin 768) (q : Fin 128) : (iblk m c 1 t : Vec Ideal S768x128 .f32) (ix2 k q) = m ((c : Thread nD τ).loc main_arg2) (ix1 k) := by
  blk_simp [iblk]
  simp only [V, List.flatten_cons, List.flatten_nil, hostOps0, List.cons_append, List.nil_append, List.append_nil]
  entry_read
  pointwise
  blk_ext [idx t]
theorem shift_at (k : Fin 768) (q : Fin 128) : (iblk m c 2 t : Vec Ideal S768x128 .f32) (ix2 k q) = m ((c : Thread nD τ).loc main_arg3) (ix1 k) := by
  blk_simp [iblk]
  simp only [V, List.flatten_cons, List.flatten_nil, hostOps0, List.cons_append, List.nil_append, List.append_nil]
  entry_read
  pointwise
  blk_ext [idx t]
theorem merged_at (k : Fin 768) (q : Fin 256) : (iblk m c 3 t : Vec Ideal S1x768x256 .f32) (ix3 0 k q) = m ((c : Thread nD τ).loc main_arg0) (ix3 (batch t) q k) := by
  blk_simp [iblk]
  simp only [V, List.flatten_cons, List.flatten_nil, hostOps0, List.cons_append, List.nil_append, List.append_nil]
  entry_read
  pointwise
  blk_ext [idx t]

theorem mrow_eq (q : Fin 256) : (ops m c t).mrow q = (args m c).mrow (batch t) q := funext fun k => merged_at m c t k q
theorem grow_eq (n : Fin 5) (q : Fin 16) : (ops m c t).grow n q = (args m c).grow (batch t) n q := funext fun k => glob_at m c t n q k
theorem gain_eq (q : Fin 128) : col (ops m c t).gain q = (args m c).gain := funext fun k => gain_at m c t k q
theorem shift_eq (q : Fin 128) : col (ops m c t).shift q = (args m c).shift := funext fun k => shift_at m c t k q

end Cert.TokensIdeal.Operands

end
-- ==== Proof.TokenResults.lean ====
/- The token normalisation's results, at an index: each entry is read off the token of `Proof/TokenSpec.lean` that its
   batch and place name, computed from the arrays the kernel was launched with. -/
module

public import proofs.«01_k».proof.Proof.TokenOperands
public import proofs.«01_k».proof.Proof.Gen.TokensIdeal.Value

@[expose] public section

set_option maxRecDepth 16384

noncomputable section

open Idealize.ShloMosaic Idealize.ShloMosaic.TcCoe Idealize.SL.Sem

namespace Cert.TokensIdeal.Results

open Cert.TokensIdeal Cert.TokensIdeal.Gen Cert.TokensIdeal.Value Cert.TokensIdeal.Stages Cert.TokensIdeal.Blocks Cert.TokensIdeal.Cases Cert.TokensIdeal.Operands Cert.TokenSpec

variable (m : (ℓ : Loc nD τ sig) → Buf (Elt Ideal) ℓ) (c : Dev nD)

/-- Five things at once, one by one. -/
theorem parts {A B C D E : Type} {x : A × B × C × D × E} {p : A} {q : B} {r : C} {s : D} {u : E} (h : x = (p, q, r, s, u)) :
    x.1 = p ∧ x.2.1 = q ∧ x.2.2.1 = r ∧ x.2.2.2.1 = s ∧ x.2.2.2.2 = u := by
  subst h
  exact ⟨rfl, rfl, rfl, rfl, rfl⟩

/-- Whatever its case, a point leaves these four blocks. -/
theorem four (t : Fin cfg0.N) : (outsAt0 m c t.val t.isLt).1 = oM (ops m c t) ∧ (outsAt0 m c t.val t.isLt).2.1 = oZ (ops m c t)
    ∧ (outsAt0 m c t.val t.isLt).2.2.1 = oZs (ops m c t) ∧ (outsAt0 m c t.val t.isLt).2.2.2.1 = oC (ops m c t) := by
  by_cases h0 : t.val % 6 = 0
  · have ⟨h1, h2, h3, h4, _⟩ := parts (first m c t h0)
    exact ⟨h1, h2, h3, h4⟩
  · have ⟨h1, h2, h3, h4, _⟩ := parts (later m c t h0)
    exact ⟨h1, h2, h3, h4⟩

/-- A point's coordinate is its number. -/
theorem coord : ∀ t : Fin cfg0.N, (grid0.coords t 0).val = (batch t).val := (by decide +kernel : ∀ t : Fin grid0.N, (grid0.coords t 0).val = t.val)

/-- After a point, the rows of the batches so far hold their scales. -/
theorem rows_at (n : ℕ) (h : n < cfg0.N) (b : Fin 6) (q : Fin 256) (hb : b.val ≤ n) :
    (outsAt0 m c n h).2.2.2.2 (ix2 b q) = sc ((args m c).mrow b q) (args m c).gain (args m c).shift := by
  have row : ∀ t : Fin cfg0.N, batch t = b → sc ((ops m c t).mrow q) (col (ops m c t).gain (within q)) (col (ops m c t).shift (within q)) = sc ((args m c).mrow b q) (args m c).gain (args m c).shift := by
    intro t e
    rw [mrow_eq, gain_eq, shift_eq, e]
  induction n with
  | zero =>
    have e : b = batch ⟨0, h⟩ := Fin.ext (by show b.val = 0; omega)
    rw [show (outsAt0 m c 0 h).2.2.2.2 = _ from (parts (first m c ⟨0, h⟩ rfl)).2.2.2.2]
    unfold sFirst
    rw [coord, rowSet_at, if_pos e]
    exact row _ e.symm
  | succ n ih =>
    have h6 : n + 1 < 6 := h
    rw [show (outsAt0 m c (n + 1) h).2.2.2.2 = _ from (parts (later m c ⟨n + 1, h⟩ (by show ¬ ((n + 1) % 6 = 0); omega))).2.2.2.2]
    unfold sLater
    rw [coord, rowSet_at]
    by_cases e : b = batch ⟨n + 1, h⟩
    · rw [if_pos e]
      exact row _ e.symm
    · rw [if_neg e]
      have : b.val ≠ n + 1 := fun x => e (Fin.ext x)
      exact ih (by omega) (by omega)

/-- The output windows' index maps. -/
theorem oidx : ∀ t : Fin cfg0.N, win0_4.index t = ![t.val, 0, 0] ∧ win0_5.index t = ![t.val, 0, 0, 0] ∧ win0_6.index t = ![t.val, 0, 0] ∧ win0_7.index t = ![t.val, 0, 0] ∧ win0_8.index t = ![0, 0] :=
  (by decide +kernel : ∀ t : Fin grid0.N, _)

/-- Every point writes its blocks back. -/
theorem flush : ∀ t : Fin cfg0.N, (cfg0.win 4).flush t = true ∧ (cfg0.win 5).flush t = true ∧ (cfg0.win 6).flush t = true ∧ (cfg0.win 7).flush t = true :=
  (by decide +kernel : ∀ t : Fin grid0.N, _)

variable (b : Fin 6) (n : Fin 5) (k : Fin 768)

/-- The point that works on a batch. -/
abbrev point (b : Fin 6) : Fin cfg0.N := ⟨b.val, b.isLt⟩

theorem merged_at (q : Fin 256) : (dats m 0 c).arrAt 4 cfg0.N (ix3 b q k) = (args m c).mrow b q k := by
  have h := congrFun (blocks4 m c (point b) (flush (point b)).1) (ix3 0 q k)
  rw [flushed4, (four m c (point b)).1] at h
  have e : ((cfg0.win 4).blk (point b)).view.read (Elt Ideal) ((dats m 0 c).arrAt 4 cfg0.N) (ix3 0 q k) = (dats m 0 c).arrAt 4 cfg0.N (ix3 b q k) := by
    blk_ext [oidx (point b)]
  refine e.symm.trans (h.trans (Eq.trans (b := oM (ops m c (point b)) (ix3 0 q k)) rfl ?_))
  rw [oM_at, mrow_eq]
theorem zg_at (q : Fin 16) : (dats m 0 c).arrAt 5 cfg0.N (ix4 b n q k) = cd ((args m c).grow b n q) (args m c).gain (args m c).shift k := by
  have h := congrFun (blocks5 m c (point b) (flush (point b)).2.1) (ix4 0 n q k)
  rw [flushed5, (four m c (point b)).2.1] at h
  have e : ((cfg0.win 5).blk (point b)).view.read (Elt Ideal) ((dats m 0 c).arrAt 5 cfg0.N) (ix4 0 n q k) = (dats m 0 c).arrAt 5 cfg0.N (ix4 b n q k) := by
    blk_ext [oidx (point b)]
  refine e.symm.trans (h.trans (Eq.trans (b := oZ (ops m c (point b)) (ix4 0 n q k)) rfl ?_))
  rw [oZ_at, grow_eq, gain_eq, shift_eq]
theorem zgs_at (q : Fin 16) : (dats m 0 c).arrAt 6 cfg0.N (ix3 b n q) = sc ((args m c).grow b n q) (args m c).gain (args m c).shift := by
  have h := congrFun (blocks6 m c (point b) (flush (point b)).2.2.1) (ix3 0 n q)
  rw [flushed6, (four m c (point b)).2.2.1] at h
  have e : ((cfg0.win 6).blk (point b)).view.read (Elt Ideal) ((dats m 0 c).arrAt 6 cfg0.N) (ix3 0 n q) = (dats m 0 c).arrAt 6 cfg0.N (ix3 b n q) := by
    blk_ext [oidx (point b)]
  refine e.symm.trans (h.trans (Eq.trans (b := oZs (ops m c (point b)) (ix3 0 n q)) rfl ?_))
  rw [oZs_at, grow_eq, gain_eq, shift_eq]
theorem zm_at (q : Fin 256) : (dats m 0 c).arrAt 7 cfg0.N (ix3 b q k) = cd ((args m c).mrow b q) (args m c).gain (args m c).shift k := by
  have h := congrFun (blocks7 m c (point b) (flush (point b)).2.2.2) (ix3 0 q k)
  rw [flushed7, (four m c (point b)).2.2.2] at h
  have e : ((cfg0.win 7).blk (point b)).view.read (Elt Ideal) ((dats m 0 c).arrAt 7 cfg0.N) (ix3 0 q k) = (dats m 0 c).arrAt 7 cfg0.N (ix3 b q k) := by
    blk_ext [oidx (point b)]
  refine e.symm.trans (h.trans (Eq.trans (b := oC (ops m c (point b)) (ix3 0 q k)) rfl ?_))
  rw [oC_at, mrow_eq, gain_eq, shift_eq]

/-- The last point. -/
abbrev final : Fin cfg0.N := ⟨5, by decide⟩

/-- The scales' array is what the last point leaves. -/
theorem scales_eq : (dats m 0 c).arrAt 8 cfg0.N = (outsAt0 m c 5 final.isLt).2.2.2.2 := by
  refine (dats m 0 c).arrAt_eq_of_after_last 8 final (by decide +kernel) _ fun j => ?_
  blk_simp
  rw [after0_8]
theorem zms_at (q : Fin 256) : (dats m 0 c).arrAt 8 cfg0.N (ix2 b q) = sc ((args m c).mrow b q) (args m c).gain (args m c).shift := by
  rw [scales_eq]
  exact rows_at m c 5 final.isLt b q (by omega)

end Cert.TokensIdeal.Results

end
-- ==== Proof.TokenAgree.lean ====
/- The token normalisation's results are its reference's: both are read off the same tokens, computed from equal arrays. -/
module

public import proofs.«01_k».proof.Proof.TokenResults

@[expose] public section

set_option maxRecDepth 16384

noncomputable section

open Idealize.ShloMosaic Idealize.ShloMosaic.TcCoe Idealize.SL.Sem

namespace Cert.TokenAgree

variable (m : (ℓ : Loc TokensIdeal.nD TokensIdeal.τ TokensIdeal.sig) → Buf (Elt Ideal) ℓ)
  (m' : (ℓ : Loc TokensReferenceIdeal.nD TokensReferenceIdeal.τ TokensReferenceIdeal.sig) → Buf (Elt Ideal) ℓ) (c : Dev TokensIdeal.nD)
  (E : TokensReferenceIdeal.Results.args m' c = TokensIdeal.Operands.args m c)
include E

theorem merged_eq : (TokensReferenceIdeal.Gen.dats m' 0 c).arrAt 4 TokensReferenceIdeal.cfg0.N = (TokensIdeal.Gen.dats m 0 c).arrAt 4 TokensIdeal.cfg0.N := by
  funext (i : TokensIdeal.S6x256x768.Idx)
  obtain ⟨b, q, k, rfl⟩ : ∃ b q k, i = ix3 b q k := ⟨i 0, i 1, i 2, by funext a; fin_cases a <;> rfl⟩
  have h := TokensReferenceIdeal.Results.merged_at m' c b k q
  rw [E] at h
  exact h.trans (TokensIdeal.Results.merged_at m c b k q).symm
theorem zg_eq : (TokensReferenceIdeal.Gen.dats m' 0 c).arrAt 5 TokensReferenceIdeal.cfg0.N = (TokensIdeal.Gen.dats m 0 c).arrAt 5 TokensIdeal.cfg0.N := by
  funext (i : TokensIdeal.S6x5x16x768.Idx)
  obtain ⟨b, n, q, k, rfl⟩ : ∃ b n q k, i = ix4 b n q k := ⟨i 0, i 1, i 2, i 3, by funext a; fin_cases a <;> rfl⟩
  have h := TokensReferenceIdeal.Results.zg_at m' c b n k q
  rw [E] at h
  exact h.trans (TokensIdeal.Results.zg_at m c b n k q).symm
theorem zgs_eq : (TokensReferenceIdeal.Gen.dats m' 0 c).arrAt 6 TokensReferenceIdeal.cfg0.N = (TokensIdeal.Gen.dats m 0 c).arrAt 6 TokensIdeal.cfg0.N := by
  funext (i : TokensIdeal.S6x5x16.Idx)
  obtain ⟨b, n, q, rfl⟩ : ∃ b n q, i = ix3 b n q := ⟨i 0, i 1, i 2, by funext a; fin_cases a <;> rfl⟩
  have h := TokensReferenceIdeal.Results.zgs_at m' c b n q
  rw [E] at h
  exact h.trans (TokensIdeal.Results.zgs_at m c b n q).symm
theorem zm_eq : (TokensReferenceIdeal.Gen.dats m' 0 c).arrAt 7 TokensReferenceIdeal.cfg0.N = (TokensIdeal.Gen.dats m 0 c).arrAt 7 TokensIdeal.cfg0.N := by
  funext (i : TokensIdeal.S6x256x768.Idx)
  obtain ⟨b, q, k, rfl⟩ : ∃ b q k, i = ix3 b q k := ⟨i 0, i 1, i 2, by funext a; fin_cases a <;> rfl⟩
  have h := TokensReferenceIdeal.Results.zm_at m' c b k q
  rw [E] at h
  exact h.trans (TokensIdeal.Results.zm_at m c b k q).symm
theorem zms_eq : (TokensReferenceIdeal.Gen.dats m' 0 c).arrAt 8 TokensReferenceIdeal.cfg0.N = (TokensIdeal.Gen.dats m 0 c).arrAt 8 TokensIdeal.cfg0.N := by
  funext (i : TokensIdeal.S6x256.Idx)
  obtain ⟨b, q, rfl⟩ : ∃ b q, i = ix2 b q := ⟨i 0, i 1, by funext a; fin_cases a <;> rfl⟩
  have h := TokensReferenceIdeal.Results.zms_at m' c b q
  rw [E] at h
  exact h.trans (TokensIdeal.Results.zms_at m c b q).symm

end Cert.TokenAgree

end
-- ==== Proof.HeadSpec.lean ====
/- A token projected to one head, in extended reals: its 96 entries, their scale and their codes, as the reference
   writes them, and the kernel's spelling of the same (a reciprocal scale) equal to it. -/
module

public import proofs.«01_k».proof.Proof.Spec

@[expose] public section

noncomputable section

open Idealize.ShloMosaic

namespace Cert.HeadSpec

open Cert.Spec

/-- What a token's head is computed from. -/
@[ext] structure Head where
  /-- the token's codes -/
  z : Fin 768 → BitVec 8
  /-- the token's scale -/
  zs : EReal
  /-- the head's weights' codes, by the entry they make -/
  w : Fin 96 → Fin 768 → BitVec 8
  /-- the weights' scales -/
  ws : Fin 96 → EReal

namespace Head
variable (H : Head) (d : Fin 96)

/-- The head's entries. -/
def v : EReal := (∑ i, val (H.z i) * val (H.w d i)) * H.zs * H.ws d
/-- The entries' scale. -/
def sc : EReal := scaleOf (amax H.v)
/-- The entries rounded and clipped at their scale. -/
def cl : EReal := clip (Ideal.div (H.v d) H.sc)
/-- The entries' codes. -/
def cd : BitVec 8 := FloatOps.fptosi (F := Ideal) (φ := .f32) 8 (H.cl d)

/-- The rounding at a reciprocal scale. -/
theorem cl_recip : clip (H.v d * Ideal.div 1 H.sc) = H.cl d := by
  unfold cl
  rw [mul_recip (s := H.sc) (scaleOf_ne (amax_nonneg _))]

end Head

end Cert.HeadSpec

end
-- ==== Proof.HeadStages.lean ====
/- The projections' arithmetic for one head, a token to a column: its stages named, for the 384 columns the keys and
   the values are taken of and for the last 256 of them, which the queries are taken of, and each stage at an index. -/
module

public import proofs.«01_k».proof.Proof.HeadSpec
public import proofs.«01_k».proof.Proof.Gen.HeadsIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.HeadsIdeal.Stages

open Cert.HeadsIdeal Cert.HeadsIdeal.Gen Cert.Spec Cert.HeadSpec

section
variable {F : FTy → Type} [FloatOps F]
/-- A literal on every entry. -/
abbrev lit (s : Shape) (w : BitVec 32) : FVec F s .f32 := broadcast s (Scalar.ofBits .f32 w : F .f32)
/-- Weights' scales as they are stored. -/
abbrev same (s : Vec F S96x128 .f32) : FVec F S96x128 .f32 := shapeCast S96x128 s shapeCasts_S96x128_S96x128
end

/-! ## The keys and the values -/

section
variable {F : FTy → Type} [FloatOps F]

/-- A row spread down the columns. -/
abbrev kDown (s : FVec F S1x384 .f32) : FVec F S96x384 .f32 := broadcastTo S96x384 s broadcasts_S1x384_S96x384
/-- The head's entries: weights `w` with scales `s`, codes `z` with scales `zs`. -/
def kY (w : Vec F S96x768 .bf16) (z : Vec F S768x384 .bf16) (s : Vec F S96x128 .f32) (zs : Vec F S1x384 .f32) : FVec F S96x384 .f32 :=
  mulf (mulf (matmul dot_S96x768_S768x384_S96x384_1_0_0_1_n_n none w z (constant S96x384 .f32 0x00000000#32)) (kDown (shapeCast S1x384 zs shapeCasts_S1x384_S1x384)))
    (concatenate S96x384 1 [⟨S96x128, same s⟩, ⟨S96x128, same s⟩, ⟨S96x128, same s⟩] concatenates_S96x128_S96x128_S96x128_S96x384_d1)
/-- The greatest magnitude of each column. -/
def kMax (v : FVec F S96x384 .f32) : FVec F S1x384 .f32 :=
  shapeCast S1x384 (multiReduction .maximumf [0] S384 (absf v) 0xFF800000#32 reduces_S96x384_S384 (.inl rfl) rfl) shapeCasts_S384_S1x384
/-- The scale of columns whose greatest magnitudes are `a`. -/
def kScale (a : FVec F S1x384 .f32) : FVec F S1x384 .f32 :=
  select (cmpf .oeq a (lit S1x384 0x00000000#32)) (lit S1x384 0x3F800000#32) (divf a (lit S1x384 0x42FE0000#32))
/-- Columns rounded and clipped at a scale. -/
def kClip (v : FVec F S96x384 .f32) (s : FVec F S1x384 .f32) : FVec F S96x384 .f32 :=
  minimumf (lit S96x384 0x42FE0000#32) (maximumf (lit S96x384 0xC2FE0000#32) (roundeven (mulf v (kDown (divf (lit S1x384 0x3F800000#32) s)))))
/-- The columns' scales. -/
def kS (v : FVec F S96x384 .f32) : FVec F S1x384 .f32 := kScale (kMax v)
/-- The columns' codes, a token to a row. -/
def kRows (v : FVec F S96x384 .f32) : IVec S384x1x96 8 :=
  shapeCast S384x1x96 (fptosi 8 (transpose S384x96 [1, 0] (kClip v (kS v)) transposes_S96x384_p1_0_S384x96)) shapeCasts_S384x96_S384x1x96
/-- Eight heads' codes side by side. -/
def kCat (f : Fin 8 → IVec S384x1x96 8) : IVec S384x8x96 8 :=
  concatenate S384x8x96 1 [⟨S384x1x96, f 0⟩, ⟨S384x1x96, f 1⟩, ⟨S384x1x96, f 2⟩, ⟨S384x1x96, f 3⟩, ⟨S384x1x96, f 4⟩, ⟨S384x1x96, f 5⟩, ⟨S384x1x96, f 6⟩, ⟨S384x1x96, f 7⟩]
    concatenates_S384x1x96_S384x1x96_S384x1x96_S384x1x96_S384x1x96_S384x1x96_S384x1x96_S384x1x96_S384x8x96_d1

theorem kCat_at (f : Fin 8 → IVec S384x1x96 8) (q : Fin 384) (n : Fin 8) (d : Fin 96) : kCat f (ix3 q n d) = f n (ix3 q 0 d) := by
  match n with
  | 0 => pointwise [kCat]
  | 1 => pointwise [kCat]
  | 2 => pointwise [kCat]
  | 3 => pointwise [kCat]
  | 4 => pointwise [kCat]
  | 5 => pointwise [kCat]
  | 6 => pointwise [kCat]
  | 7 => pointwise [kCat]

end

section
variable (v : FVec Ideal S96x384 .f32) (q : Fin 384) (d : Fin 96)

theorem kY_at (w : Vec Ideal S96x768 .bf16) (z : Vec Ideal S768x384 .bf16) (s : Vec Ideal S96x128 .f32) (zs : Vec Ideal S1x384 .f32) (σ : EReal) (hs : ∀ j, s (ix2 d j) = σ) :
    kY w z s zs (ix2 d q) = (∑ i, w (ix2 d i) * z (ix2 i q)) * zs (ix2 0 q) * σ := by
  pointwise [kY, kDown]
  split_ifs <;> rw [hs]
theorem kMax_at : kMax v (ix2 0 q) = amax fun d => v (ix2 d q) := by
  unfold amax
  pointwise [kMax]
theorem kScale_at (a : FVec Ideal S1x384 .f32) : kScale a (ix2 0 q) = scaleOf (a (ix2 0 q)) := by
  unfold scaleOf
  pointwise [kScale, lit]
theorem kClip_at (s : FVec Ideal S1x384 .f32) : kClip v s (ix2 d q) = clip (v (ix2 d q) * Ideal.div 1 (s (ix2 0 q))) := by
  unfold clip
  pointwise [kClip, lit, kDown]

variable (H : Head) (h : ∀ d, v (ix2 d q) = H.v d)
include h
theorem kS_at : kS v (ix2 0 q) = H.sc := by
  unfold kS Head.sc
  rw [kScale_at, kMax_at]
  exact congrArg (fun r => scaleOf (amax r)) (funext h)
theorem kRows_at : kRows v (ix3 q 0 d) = H.cd d := by
  have e : kRows v (ix3 q 0 d) = FloatOps.fptosi (F := Ideal) (φ := .f32) 8 (kClip v (kS v) (ix2 d q)) := by
    unfold kRows
    generalize kClip v (kS v) = c
    pointwise
  rw [e, kClip_at, kS_at v q H h, h, H.cl_recip]
  rfl

end

/-! ## The queries -/

section
variable {F : FTy → Type} [FloatOps F]

/-- A row spread down the columns. -/
abbrev qDown (s : FVec F S1x256 .f32) : FVec F S96x256 .f32 := broadcastTo S96x256 s broadcasts_S1x256_S96x256
/-- The head's entries: weights `w` with scales `s`, codes `z` with scales `zs`. -/
def qY (w : Vec F S96x768 .bf16) (z : Vec F S768x256 .bf16) (s : Vec F S96x128 .f32) (zs : Vec F S1x256 .f32) : FVec F S96x256 .f32 :=
  mulf (mulf (matmul dot_S96x768_S768x256_S96x256_1_0_0_1_n_n none w z (constant S96x256 .f32 0x00000000#32)) (qDown (shapeCast S1x256 zs shapeCasts_S1x256_S1x256)))
    (concatenate S96x256 1 [⟨S96x128, same s⟩, ⟨S96x128, same s⟩] concatenates_S96x128_S96x128_S96x256_d1)
/-- The greatest magnitude of each column. -/
def qMax (v : FVec F S96x256 .f32) : FVec F S1x256 .f32 :=
  shapeCast S1x256 (multiReduction .maximumf [0] S256 (absf v) 0xFF800000#32 reduces_S96x256_S256 (.inl rfl) rfl) shapeCasts_S256_S1x256
/-- The scale of columns whose greatest magnitudes are `a`. -/
def qScale (a : FVec F S1x256 .f32) : FVec F S1x256 .f32 :=
  select (cmpf .oeq a (lit S1x256 0x00000000#32)) (lit S1x256 0x3F800000#32) (divf a (lit S1x256 0x42FE0000#32))
/-- Columns rounded and clipped at a scale. -/
def qClip (v : FVec F S96x256 .f32) (s : FVec F S1x256 .f32) : FVec F S96x256 .f32 :=
  minimumf (lit S96x256 0x42FE0000#32) (maximumf (lit S96x256 0xC2FE0000#32) (roundeven (mulf v (qDown (divf (lit S1x256 0x3F800000#32) s)))))
/-- The columns' scales. -/
def qS (v : FVec F S96x256 .f32) : FVec F S1x256 .f32 := qScale (qMax v)
/-- The columns' codes, a token to a row. -/
def qRows (v : FVec F S96x256 .f32) : IVec S256x1x96 8 :=
  shapeCast S256x1x96 (fptosi 8 (transpose S256x96 [1, 0] (qClip v (qS v)) transposes_S96x256_p1_0_S256x96)) shapeCasts_S256x96_S256x1x96
/-- Eight heads' codes side by side. -/
def qCat (f : Fin 8 → IVec S256x1x96 8) : IVec S256x8x96 8 :=
  concatenate S256x8x96 1 [⟨S256x1x96, f 0⟩, ⟨S256x1x96, f 1⟩, ⟨S256x1x96, f 2⟩, ⟨S256x1x96, f 3⟩, ⟨S256x1x96, f 4⟩, ⟨S256x1x96, f 5⟩, ⟨S256x1x96, f 6⟩, ⟨S256x1x96, f 7⟩]
    concatenates_S256x1x96_S256x1x96_S256x1x96_S256x1x96_S256x1x96_S256x1x96_S256x1x96_S256x1x96_S256x8x96_d1

theorem qCat_at (f : Fin 8 → IVec S256x1x96 8) (q : Fin 256) (n : Fin 8) (d : Fin 96) : qCat f (ix3 q n d) = f n (ix3 q 0 d) := by
  match n with
  | 0 => pointwise [qCat]
  | 1 => pointwise [qCat]
  | 2 => pointwise [qCat]
  | 3 => pointwise [qCat]
  | 4 => pointwise [qCat]
  | 5 => pointwise [qCat]
  | 6 => pointwise [qCat]
  | 7 => pointwise [qCat]

end

section
variable (v : FVec Ideal S96x256 .f32) (q : Fin 256) (d : Fin 96)

theorem qY_at (w : Vec Ideal S96x768 .bf16) (z : Vec Ideal S768x256 .bf16) (s : Vec Ideal S96x128 .f32) (zs : Vec Ideal S1x256 .f32) (σ : EReal) (hs : ∀ j, s (ix2 d j) = σ) :
    qY w z s zs (ix2 d q) = (∑ i, w (ix2 d i) * z (ix2 i q)) * zs (ix2 0 q) * σ := by
  pointwise [qY, qDown]
  split_ifs <;> rw [hs]
theorem qMax_at : qMax v (ix2 0 q) = amax fun d => v (ix2 d q) := by
  unfold amax
  pointwise [qMax]
theorem qScale_at (a : FVec Ideal S1x256 .f32) : qScale a (ix2 0 q) = scaleOf (a (ix2 0 q)) := by
  unfold scaleOf
  pointwise [qScale, lit]
theorem qClip_at (s : FVec Ideal S1x256 .f32) : qClip v s (ix2 d q) = clip (v (ix2 d q) * Ideal.div 1 (s (ix2 0 q))) := by
  unfold clip
  pointwise [qClip, lit, qDown]

variable (H : Head) (h : ∀ d, v (ix2 d q) = H.v d)
include h
theorem qS_at : qS v (ix2 0 q) = H.sc := by
  unfold qS Head.sc
  rw [qScale_at, qMax_at]
  exact congrArg (fun r => scaleOf (amax r)) (funext h)
theorem qRows_at : qRows v (ix3 q 0 d) = H.cd d := by
  have e : qRows v (ix3 q 0 d) = FloatOps.fptosi (F := Ideal) (φ := .f32) 8 (qClip v (qS v) (ix2 d q)) := by
    unfold qRows
    generalize qClip v (qS v) = c
    pointwise
  rw [e, qClip_at, qS_at v q H h, h, H.cl_recip]
  rfl

end

end Cert.HeadsIdeal.Stages

end
-- ==== Proof.HeadBlocks.lean ====
/- What a point of the projections' grid leaves: its twelve output blocks over its operand blocks, and each block at
   an index, its stores' pieces put together. -/
module

public import proofs.«01_k».proof.Proof.HeadStages
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.HeadsIdeal.Blocks

open Cert.HeadsIdeal Cert.HeadsIdeal.Gen Cert.HeadsIdeal.Stages Cert.Spec Cert.HeadSpec

section blocks
variable (F : FTy → Type) [FloatOps F]

/-- A point's operand blocks. -/
structure Ops where
  /-- the tokens' codes, a token to a column -/
  z : FVec F S768x384 .bf16
  /-- the tokens' scales -/
  zs : Vec F S1x384 .f32
  /-- the weights' codes, a row for every entry of every head -/
  w : FVec F S2304x768 .bf16
  /-- the weights' scales, along each row -/
  s : Vec F S2304x128 .f32

variable {F}
variable (O : Ops F)

theorem inbW (h : Fin 24) : ∀ a, (![96 * h.val, 0] : Fin 2 → ℕ) a + S96x768.size a ≤ S2304x768.size a := by
  intro a
  match a with
  | 0 => show 96 * h.val + 96 ≤ 2304; omega
  | 1 => show 0 + 768 ≤ 768; omega
theorem inbS (h : Fin 24) : ∀ a, (![96 * h.val, 0] : Fin 2 → ℕ) a + S96x128.size a ≤ S2304x128.size a := by
  intro a
  match a with
  | 0 => show 96 * h.val + 96 ≤ 2304; omega
  | 1 => show 0 + 128 ≤ 128; omega

/-- A head's weights. -/
def hW (h : Fin 24) : Vec F S96x768 .bf16 := View.ld O.w (Rect.unit (s := S2304x768) ![96 * h.val, 0] S96x768.size (inbW h))
/-- A head's weights' scales. -/
def hS (h : Fin 24) : Vec F S96x128 .f32 := View.ld O.s (Rect.unit (s := S2304x128) ![96 * h.val, 0] S96x128.size (inbS h))
/-- A head of the keys or the values. -/
def hY (h : Fin 24) : FVec F S96x384 .f32 := kY (hW O h) O.z (hS O h) O.zs
/-- A head of the queries. -/
def hQ (h : Fin 24) : FVec F S96x256 .f32 :=
  qY (hW O h) (View.ld O.z (Rect.unit (s := S768x384) ![0, 128] S768x256.size inb_S768x384_S768x256_0_128)) (hS O h)
    (View.ld O.zs (Rect.unit (s := S1x384) ![0, 128] S1x256.size inb_S1x384_S1x256_0_128))

/-- The head of a kind: the keys' are the first eight, then the values', then the queries'. -/
abbrev hd (kind : Fin 3) (n : Fin 8) : Fin 24 := ⟨kind.val * 8 + n.val, by omega⟩

/-- The keys' or the values' codes. -/
def cKV (kind : Fin 3) : IVec S384x8x96 8 := kCat fun n => kRows (hY O (hd kind n))
/-- The queries' codes. -/
def cQ : IVec S256x8x96 8 := qCat fun n => qRows (hQ O (hd 2 n))

def oM (kind : Fin 3) : IVec S1x256x8x96 8 := shapeCast S1x256x8x96 (extractStridedSlice S256x8x96 ![0, 0, 0] (cKV O kind) slices_S384x8x96_o0_0_0_S256x8x96) shapeCasts_S256x8x96_S1x256x8x96
def oG (kind : Fin 3) : IVec S1x5x16x8x96 8 :=
  shapeCast S1x5x16x8x96 (shapeCast S5x16x8x96 (extractStridedSlice S80x8x96 ![256, 0, 0] (cKV O kind) slices_S384x8x96_o256_0_0_S80x8x96) shapeCasts_S80x8x96_S5x16x8x96) shapeCasts_S5x16x8x96_S1x5x16x8x96
def oMq : IVec S1x128x8x96 8 := shapeCast S1x128x8x96 (extractStridedSlice S128x8x96 ![0, 0, 0] (cQ O) slices_S256x8x96_o0_0_0_S128x8x96) shapeCasts_S128x8x96_S1x128x8x96
def oGq : IVec S1x5x16x8x96 8 :=
  shapeCast S1x5x16x8x96 (shapeCast S5x16x8x96 (extractStridedSlice S80x8x96 ![128, 0, 0] (cQ O) slices_S256x8x96_o128_0_0_S80x8x96) shapeCasts_S80x8x96_S5x16x8x96) shapeCasts_S5x16x8x96_S1x5x16x8x96

/-- A row of scales as it is stored. -/
abbrev row (s : FVec F S1x384 .f32) : Vec F S1x384 .f32 := shapeCast S1x384 s shapeCasts_S1x384_S1x384
/-- The queries' scales, after zeros. -/
abbrev after0 (s : FVec F S1x256 .f32) : FVec F S1x384 .f32 :=
  concatenate S1x384 1 [⟨S1x128, lit S1x128 0x00000000#32⟩, ⟨S1x256, s⟩] concatenates_S1x128_S1x256_S1x384_d1

/-- The rows of the scales' buffer, a head to a row. -/
def scs (h : Fin 24) : Vec F S1x384 .f32 := if h.val < 16 then row (kS (hY O h)) else row (after0 (qS (hQ O h)))

theorem scs_kv (h : Fin 24) (l : h.val < 16) : scs O h = row (kS (hY O h)) := if_pos l
theorem scs_q (h : Fin 24) (l : ¬ h.val < 16) : scs O h = row (after0 (qS (hQ O h))) := if_neg l

/-- Rows put one under the other. -/
def stack (f : Fin 24 → Vec F S1x384 .f32) : Vec F S24x384 .f32 := fun y => f (y 0) (ix2 0 (y 1))

/-- One row, at the piece's elements. -/
theorem stack_emb (n : Fin 24) (f : Fin 24 → Vec F S1x384 .f32) (i : ∀ a, (![n.val, 0] : Fin 2 → ℕ) a + S1x384.size a ≤ S24x384.size a) (x : S1x384.Idx) :
    f n x = stack f ((Rect.unit (s := S24x384) ![n.val, 0] S1x384.size i).emb x) := by
  have v0 : (((Rect.unit (s := S24x384) ![n.val, 0] S1x384.size i).emb x 0 : Fin _) : ℕ) = n.val + (x 0 : ℕ) :=
    ValueKit.rect_emb_unit_val (s := S24x384) ![n.val, 0] S1x384.size i x 0
  have x0 : (x 0 : ℕ) < 1 := (x 0).isLt
  have e0 : ((Rect.unit (s := S24x384) ![n.val, 0] S1x384.size i).emb x) 0 = n := Fin.ext (v0.trans (by omega))
  have e1 : ((Rect.unit (s := S24x384) ![n.val, 0] S1x384.size i).emb x) 1 = x 1 :=
    Fin.ext ((ValueKit.rect_emb_unit_val (s := S24x384) ![n.val, 0] S1x384.size i x 1).trans (Nat.zero_add _))
  unfold stack
  simp only [e0, e1]
  congr 1
  funext a
  match a with
  | 0 => exact Fin.ext (by show (x 0 : ℕ) = 0; omega)
  | 1 => rfl

/-- The scales' buffer read back after its 24 stores. -/
theorem scales_read (v : View sig .tc .vmem S24x384 .f32) (f : Fin 24 → Vec F S1x384 .f32) :
    v.readCov [⟨Rect.unit (s := S24x384) ![23, 0] S1x384.size inb_S24x384_S1x384_23_0, f 23⟩, ⟨Rect.unit (s := S24x384) ![22, 0] S1x384.size inb_S24x384_S1x384_22_0, f 22⟩, ⟨Rect.unit (s := S24x384) ![21, 0] S1x384.size inb_S24x384_S1x384_21_0, f 21⟩, ⟨Rect.unit (s := S24x384) ![20, 0] S1x384.size inb_S24x384_S1x384_20_0, f 20⟩, ⟨Rect.unit (s := S24x384) ![19, 0] S1x384.size inb_S24x384_S1x384_19_0, f 19⟩, ⟨Rect.unit (s := S24x384) ![18, 0] S1x384.size inb_S24x384_S1x384_18_0, f 18⟩, ⟨Rect.unit (s := S24x384) ![17, 0] S1x384.size inb_S24x384_S1x384_17_0, f 17⟩, ⟨Rect.unit (s := S24x384) ![16, 0] S1x384.size inb_S24x384_S1x384_16_0, f 16⟩, ⟨Rect.unit (s := S24x384) ![15, 0] S1x384.size inb_S24x384_S1x384_15_0, f 15⟩, ⟨Rect.unit (s := S24x384) ![14, 0] S1x384.size inb_S24x384_S1x384_14_0, f 14⟩, ⟨Rect.unit (s := S24x384) ![13, 0] S1x384.size inb_S24x384_S1x384_13_0, f 13⟩, ⟨Rect.unit (s := S24x384) ![12, 0] S1x384.size inb_S24x384_S1x384_12_0, f 12⟩, ⟨Rect.unit (s := S24x384) ![11, 0] S1x384.size inb_S24x384_S1x384_11_0, f 11⟩, ⟨Rect.unit (s := S24x384) ![10, 0] S1x384.size inb_S24x384_S1x384_10_0, f 10⟩, ⟨Rect.unit (s := S24x384) ![9, 0] S1x384.size inb_S24x384_S1x384_9_0, f 9⟩, ⟨Rect.unit (s := S24x384) ![8, 0] S1x384.size inb_S24x384_S1x384_8_0, f 8⟩, ⟨Rect.unit (s := S24x384) ![7, 0] S1x384.size inb_S24x384_S1x384_7_0, f 7⟩, ⟨Rect.unit (s := S24x384) ![6, 0] S1x384.size inb_S24x384_S1x384_6_0, f 6⟩, ⟨Rect.unit (s := S24x384) ![5, 0] S1x384.size inb_S24x384_S1x384_5_0, f 5⟩, ⟨Rect.unit (s := S24x384) ![4, 0] S1x384.size inb_S24x384_S1x384_4_0, f 4⟩, ⟨Rect.unit (s := S24x384) ![3, 0] S1x384.size inb_S24x384_S1x384_3_0, f 3⟩, ⟨Rect.unit (s := S24x384) ![2, 0] S1x384.size inb_S24x384_S1x384_2_0, f 2⟩, ⟨Rect.unit (s := S24x384) ![1, 0] S1x384.size inb_S24x384_S1x384_1_0, f 1⟩, ⟨Rect.unit (s := S24x384) ![0, 0] S1x384.size inb_S24x384_S1x384_0_0, f 0⟩]
      (Rect.unit (s := S24x384) ![0, 0] S24x384.size inb_S24x384_S24x384_0_0).toLoadRect = stack f := by
  rw [View.readCov_eq_canon']
  funext j
  refine (View.canon_append_of_piecesOf (Val := Elt F) (e := .f32) (stack f) [] [_, _, _, _, _, _, _, _, _, _, _, _, _, _, _, _, _, _, _, _, _, _, _, _]
    ⟨stack_emb 23 f inb_S24x384_S1x384_23_0, stack_emb 22 f inb_S24x384_S1x384_22_0, stack_emb 21 f inb_S24x384_S1x384_21_0, stack_emb 20 f inb_S24x384_S1x384_20_0, stack_emb 19 f inb_S24x384_S1x384_19_0, stack_emb 18 f inb_S24x384_S1x384_18_0, stack_emb 17 f inb_S24x384_S1x384_17_0, stack_emb 16 f inb_S24x384_S1x384_16_0, stack_emb 15 f inb_S24x384_S1x384_15_0, stack_emb 14 f inb_S24x384_S1x384_14_0, stack_emb 13 f inb_S24x384_S1x384_13_0, stack_emb 12 f inb_S24x384_S1x384_12_0, stack_emb 11 f inb_S24x384_S1x384_11_0, stack_emb 10 f inb_S24x384_S1x384_10_0, stack_emb 9 f inb_S24x384_S1x384_9_0, stack_emb 8 f inb_S24x384_S1x384_8_0, stack_emb 7 f inb_S24x384_S1x384_7_0, stack_emb 6 f inb_S24x384_S1x384_6_0, stack_emb 5 f inb_S24x384_S1x384_5_0, stack_emb 4 f inb_S24x384_S1x384_4_0, stack_emb 3 f inb_S24x384_S1x384_3_0, stack_emb 2 f inb_S24x384_S1x384_2_0, stack_emb 1 f inb_S24x384_S1x384_1_0, stack_emb 0 f inb_S24x384_S1x384_0_0, trivial⟩ _
    (View.cover_of_tiledL (s := S24x384) _ (![1, 384] : Fin 2 → ℕ) (by sl_kernel_rfl) _)).trans ?_
  congr 1
  funext a
  match a with
  | 0 => exact Fin.ext ((ValueKit.rect_emb_unit_val (s := S24x384) ![0, 0] S24x384.size inb_S24x384_S24x384_0_0 j 0).trans (Nat.zero_add _))
  | 1 => exact Fin.ext ((ValueKit.rect_emb_unit_val (s := S24x384) ![0, 0] S24x384.size inb_S24x384_S24x384_0_0 j 1).trans (Nat.zero_add _))

/-- The scales, a token to a row and a head to a column. -/
def scN : FVec F S384x128 .f32 := k0_pay185 (stack (scs O))

def oMs : Fin 2 → Vec F S1x256x8 .f32
  | 0 => k0_pay186 (View.ld (scN O) (Rect.unit (s := S384x128) ![0, 0] S256x8.size inb_S384x128_S256x8_0_0))
  | 1 => k0_pay188 (View.ld (scN O) (Rect.unit (s := S384x128) ![0, 8] S256x8.size inb_S384x128_S256x8_0_8))
def oGs : Fin 3 → Vec F S1x5x16x8 .f32
  | 0 => k0_pay187 (View.ld (scN O) (Rect.unit (s := S384x128) ![256, 0] S80x8.size inb_S384x128_S80x8_256_0))
  | 1 => k0_pay189 (View.ld (scN O) (Rect.unit (s := S384x128) ![256, 8] S80x8.size inb_S384x128_S80x8_256_8))
  | 2 => k0_pay1 (k0_pay191 (View.ld (scN O) (Rect.unit (s := S384x128) ![256, 16] S80x8.size inb_S384x128_S80x8_256_16)))
def oMsq : Vec F S1x128x8 .f32 := k0_pay190 (View.ld (scN O) (Rect.unit (s := S384x128) ![128, 16] S128x8.size inb_S384x128_S128x8_128_16))

end blocks

section at_index
variable (O : Ops Ideal)

/-- The row of a head's entry. -/
abbrev entry (h : Fin 24) (d : Fin 96) : Fin 2304 := ⟨h.val * 96 + d.val, by omega⟩
/-- The column of one of the last 256 tokens. -/
abbrev late (q : Fin 256) : Fin 384 := ⟨128 + q.val, by omega⟩

/-- A token's head is what the blocks hold. -/
structure Fits (h : Fin 24) (q : Fin 384) (H : Head) : Prop where
  z : ∀ i, O.z (ix2 i q) = val (H.z i)
  zs : O.zs (ix2 0 q) = H.zs
  w : ∀ d i, O.w (ix2 (entry h d) i) = val (H.w d i)
  ws : ∀ d j, O.s (ix2 (entry h d) j) = H.ws d

theorem zLate_at (z : Vec Ideal S768x384 .bf16) (i : Fin 768) (q : Fin 256) :
    View.ld z (Rect.unit (s := S768x384) ![0, 128] S768x256.size inb_S768x384_S768x256_0_128) (ix2 i q) = z (ix2 i (late q)) := by
  refine congrArg z ?_
  funext a
  match a with
  | 0 => exact Fin.ext ((ValueKit.rect_emb_unit_val (s := S768x384) ![0, 128] S768x256.size inb_S768x384_S768x256_0_128 (ix2 i q) 0).trans (Nat.zero_add _))
  | 1 => exact Fin.ext (ValueKit.rect_emb_unit_val (s := S768x384) ![0, 128] S768x256.size inb_S768x384_S768x256_0_128 (ix2 i q) 1)
theorem zsLate_at (z : Vec Ideal S1x384 .f32) (q : Fin 256) :
    View.ld z (Rect.unit (s := S1x384) ![0, 128] S1x256.size inb_S1x384_S1x256_0_128) (ix2 0 q) = z (ix2 0 (late q)) := by
  refine congrArg z ?_
  funext a
  match a with
  | 0 => exact Fin.ext ((ValueKit.rect_emb_unit_val (s := S1x384) ![0, 128] S1x256.size inb_S1x384_S1x256_0_128 (ix2 0 q) 0).trans (Nat.zero_add _))
  | 1 => exact Fin.ext (ValueKit.rect_emb_unit_val (s := S1x384) ![0, 128] S1x256.size inb_S1x384_S1x256_0_128 (ix2 0 q) 1)
theorem hW_at (h : Fin 24) (d : Fin 96) (i : Fin 768) : hW O h (ix2 d i) = O.w (ix2 (entry h d) i) := by
  refine congrArg O.w ?_
  funext a
  match a with
  | 0 => exact Fin.ext ((ValueKit.rect_emb_unit_val (s := S2304x768) ![96 * h.val, 0] S96x768.size (inbW h) (ix2 d i) 0).trans (by show 96 * h.val + d.val = h.val * 96 + d.val; omega))
  | 1 => exact Fin.ext ((ValueKit.rect_emb_unit_val (s := S2304x768) ![96 * h.val, 0] S96x768.size (inbW h) (ix2 d i) 1).trans (Nat.zero_add _))
theorem hS_at (h : Fin 24) (d : Fin 96) (j : Fin 128) : hS O h (ix2 d j) = O.s (ix2 (entry h d) j) := by
  refine congrArg O.s ?_
  funext a
  match a with
  | 0 => exact Fin.ext ((ValueKit.rect_emb_unit_val (s := S2304x128) ![96 * h.val, 0] S96x128.size (inbS h) (ix2 d j) 0).trans (by show 96 * h.val + d.val = h.val * 96 + d.val; omega))
  | 1 => exact Fin.ext ((ValueKit.rect_emb_unit_val (s := S2304x128) ![96 * h.val, 0] S96x128.size (inbS h) (ix2 d j) 1).trans (Nat.zero_add _))

section
variable {O} {h : Fin 24} {H : Head}
theorem hY_at {q : Fin 384} (f : Fits O h q H) (d : Fin 96) : hY O h (ix2 d q) = H.v d := by
  unfold hY Head.v
  rw [kY_at q d _ _ _ _ (H.ws d) (fun j => (hS_at O h d j).trans (f.ws d j)), f.zs]
  refine congrArg (fun x => x * H.zs * H.ws d) (Finset.sum_congr rfl fun i _ => ?_)
  rw [hW_at, f.z, f.w, mul_comm]
theorem hQ_at {q : Fin 256} (f : Fits O h (late q) H) (d : Fin 96) : hQ O h (ix2 d q) = H.v d := by
  unfold hQ Head.v
  rw [qY_at q d _ _ _ _ (H.ws d) (fun j => (hS_at O h d j).trans (f.ws d j)), zsLate_at, f.zs]
  refine congrArg (fun x => x * H.zs * H.ws d) (Finset.sum_congr rfl fun i _ => ?_)
  rw [hW_at, zLate_at, f.z, f.w, mul_comm]
end

theorem cKV_at {kind : Fin 3} {q : Fin 384} {n : Fin 8} {H : Head} (f : Fits O (hd kind n) q H) (d : Fin 96) : cKV O kind (ix3 q n d) = H.cd d := by
  unfold cKV
  rw [kCat_at]
  exact kRows_at _ q d H (hY_at f)
theorem cQ_at {q : Fin 256} {n : Fin 8} {H : Head} (f : Fits O (hd 2 n) (late q) H) (d : Fin 96) : cQ O (ix3 q n d) = H.cd d := by
  unfold cQ
  rw [qCat_at]
  exact qRows_at _ q d H (hQ_at f)

/-- The column of a token of the merged sequence. -/
abbrev tokM (q : Fin 256) : Fin 384 := ⟨q.val, by omega⟩
/-- The column of a global token. -/
abbrev tokG (n : Fin 5) (r : Fin 16) : Fin 384 := ⟨256 + (n.val * 16 + r.val), by omega⟩
/-- The column of one of the merged sequence's last 128 tokens. -/
abbrev tokQ (q : Fin 128) : Fin 384 := ⟨128 + q.val, by omega⟩

variable (d : Fin 96) (n : Fin 8)

theorem oM_at {kind : Fin 3} {q : Fin 256} {H : Head} (f : Fits O (hd kind n) (tokM q) H) : oM O kind (ix4 0 q n d) = H.cd d := by
  have e : oM O kind (ix4 0 q n d) = cKV O kind (ix3 (tokM q) n d) := by
    unfold oM
    generalize cKV O kind = c
    pointwise
  exact e.trans (cKV_at O f d)
theorem oG_at {kind : Fin 3} {b : Fin 5} {r : Fin 16} {H : Head} (f : Fits O (hd kind n) (tokG b r) H) : oG O kind (ix5 0 b r n d) = H.cd d := by
  have e : oG O kind (ix5 0 b r n d) = cKV O kind (ix3 (tokG b r) n d) := by
    unfold oG
    generalize cKV O kind = c
    pointwise
  exact e.trans (cKV_at O f d)
theorem oMq_at {q : Fin 128} {H : Head} (f : Fits O (hd 2 n) (tokQ q) H) : oMq O (ix4 0 q n d) = H.cd d := by
  have e : oMq O (ix4 0 q n d) = cQ O (ix3 (⟨q.val, by omega⟩ : Fin 256) n d) := by
    unfold oMq
    generalize cQ O = c
    pointwise
  exact e.trans (cQ_at O f d)
theorem oGq_at {b : Fin 5} {r : Fin 16} {H : Head} (f : Fits O (hd 2 n) (tokG b r) H) : oGq O (ix5 0 b r n d) = H.cd d := by
  have e : oGq O (ix5 0 b r n d) = cQ O (ix3 (⟨128 + (b.val * 16 + r.val), by omega⟩ : Fin 256) n d) := by
    unfold oGq
    generalize cQ O = c
    pointwise
  refine e.trans (cQ_at O ?_ d)
  have l : late ⟨128 + (b.val * 16 + r.val), by omega⟩ = tokG b r := Fin.ext (by show 128 + (128 + (b.val * 16 + r.val)) = 256 + (b.val * 16 + r.val); omega)
  rw [l]
  exact f

theorem row_at (s : FVec Ideal S1x384 .f32) (q : Fin 384) : row s (ix2 0 q) = s (ix2 0 q) := by pointwise [row]
theorem after0_at (s : FVec Ideal S1x256 .f32) (q : Fin 256) : row (after0 s) (ix2 0 (late q)) = s (ix2 0 q) := by
  pointwise [row, after0, lit]

theorem scs_key (kind : Fin 3) (hk : kind.val < 2) (n : Fin 8) : scs O (hd kind n) = row (kS (hY O (hd kind n))) :=
  scs_kv O _ (by show kind.val * 8 + n.val < 16; omega)
theorem scs_query (n : Fin 8) : scs O (hd 2 n) = row (after0 (qS (hQ O (hd 2 n)))) :=
  scs_q O _ (by show ¬ (2 * 8 + n.val < 16); omega)

/-- The scales at a token of the keys or the values. -/
theorem scs_key_at {kind : Fin 3} (hk : kind.val < 2) {q : Fin 384} {H : Head} (f : Fits O (hd kind n) q H) : scs O (hd kind n) (ix2 0 q) = H.sc := by
  rw [scs_key O kind hk n, row_at]
  exact kS_at _ q H (hY_at f)
/-- The scales at a token of the queries. -/
theorem scs_query_at {q : Fin 256} {H : Head} (f : Fits O (hd 2 n) (late q) H) : scs O (hd 2 n) (ix2 0 (late q)) = H.sc := by
  rw [scs_query O n, after0_at]
  exact qS_at _ q H (hQ_at f)

theorem scN_at (h : Fin 24) (q : Fin 384) : scN O (ix2 q (⟨h.val, by omega⟩ : Fin 128)) = scs O h (ix2 0 q) := by
  have e : scN O (ix2 q (⟨h.val, by omega⟩ : Fin 128)) = stack (scs O) (ix2 h q) := by
    unfold scN
    generalize stack (scs O) = c
    pointwise [k0_pay185]
  exact e

theorem oMs0_at (q : Fin 256) : oMs O 0 (ix3 0 q n) = scN O (ix2 (tokM q) (⟨n.val, by omega⟩ : Fin 128)) := by
  generalize hc : scN O = c
  pointwise [oMs, hc, k0_pay186]
theorem oMs1_at (q : Fin 256) : oMs O 1 (ix3 0 q n) = scN O (ix2 (tokM q) (⟨8 + n.val, by omega⟩ : Fin 128)) := by
  generalize hc : scN O = c
  pointwise [oMs, hc, k0_pay188]
theorem oGs0_at (b : Fin 5) (r : Fin 16) : oGs O 0 (ix4 0 b r n) = scN O (ix2 (tokG b r) (⟨n.val, by omega⟩ : Fin 128)) := by
  generalize hc : scN O = c
  pointwise [oGs, hc, k0_pay187]
theorem oGs1_at (b : Fin 5) (r : Fin 16) : oGs O 1 (ix4 0 b r n) = scN O (ix2 (tokG b r) (⟨8 + n.val, by omega⟩ : Fin 128)) := by
  generalize hc : scN O = c
  pointwise [oGs, hc, k0_pay189]
theorem oGs2_at (b : Fin 5) (r : Fin 16) : oGs O 2 (ix4 0 b r n) = scN O (ix2 (tokG b r) (⟨16 + n.val, by omega⟩ : Fin 128)) := by
  generalize hc : scN O = c
  pointwise [oGs, hc, k0_pay1, k0_pay191]
theorem oMsq_at' (q : Fin 128) : oMsq O (ix3 0 q n) = scN O (ix2 (tokQ q) (⟨16 + n.val, by omega⟩ : Fin 128)) := by
  generalize hc : scN O = c
  pointwise [oMsq, hc, k0_pay190]

theorem oMs_at {kind : Fin 2} {q : Fin 256} {H : Head} (f : Fits O (hd ⟨kind.val, by omega⟩ n) (tokM q) H) : oMs O kind (ix3 0 q n) = H.sc := by
  match kind with
  | 0 => exact (oMs0_at O n q).trans ((congrArg (fun x => scN O (ix2 (tokM q) x)) (Fin.ext (by show n.val = 0 * 8 + n.val; omega))).trans ((scN_at O (hd 0 n) (tokM q)).trans (scs_key_at O n (by decide) f)))
  | 1 => exact (oMs1_at O n q).trans ((congrArg (fun x => scN O (ix2 (tokM q) x)) (Fin.ext (by show 8 + n.val = 1 * 8 + n.val; omega))).trans ((scN_at O (hd 1 n) (tokM q)).trans (scs_key_at O n (by decide) f)))
theorem oMsq_at {q : Fin 128} {H : Head} (f : Fits O (hd 2 n) (tokQ q) H) : oMsq O (ix3 0 q n) = H.sc :=
  (oMsq_at' O n q).trans ((congrArg (fun x => scN O (ix2 (tokQ q) x)) (Fin.ext (by show 16 + n.val = 2 * 8 + n.val; omega))).trans
    ((scN_at O (hd 2 n) (tokQ q)).trans (scs_query_at O n (q := ⟨q.val, by omega⟩) f)))
theorem oGs_at {kind : Fin 3} {b : Fin 5} {r : Fin 16} {H : Head} (f : Fits O (hd kind n) (tokG b r) H) : oGs O kind (ix4 0 b r n) = H.sc := by
  have l : late ⟨128 + (b.val * 16 + r.val), by omega⟩ = tokG b r := Fin.ext (by show 128 + (128 + (b.val * 16 + r.val)) = 256 + (b.val * 16 + r.val); omega)
  match kind with
  | 0 => exact (oGs0_at O n b r).trans ((congrArg (fun x => scN O (ix2 (tokG b r) x)) (Fin.ext (by show n.val = 0 * 8 + n.val; omega))).trans ((scN_at O (hd 0 n) (tokG b r)).trans (scs_key_at O n (by decide) f)))
  | 1 => exact (oGs1_at O n b r).trans ((congrArg (fun x => scN O (ix2 (tokG b r) x)) (Fin.ext (by show 8 + n.val = 1 * 8 + n.val; omega))).trans ((scN_at O (hd 1 n) (tokG b r)).trans (scs_key_at O n (by decide) f)))
  | 2 =>
    refine (oGs2_at O n b r).trans ((congrArg (fun x => scN O (ix2 (tokG b r) x)) (Fin.ext (by show 16 + n.val = 2 * 8 + n.val; omega))).trans ((scN_at O (hd 2 n) (tokG b r)).trans ?_))
    rw [← l] at f ⊢
    exact scs_query_at O n f

end at_index

end Cert.HeadsIdeal.Blocks

end
-- ==== Proof.HeadSpellings.lean ====
/- The spellings the kernel's body has of the projections' stages, a head at a time, and of its output blocks. -/
module

public import proofs.«01_k».proof.Proof.HeadBlocks

@[expose] public section

set_option maxRecDepth 16384

noncomputable section

open Idealize.ShloMosaic Idealize.ShloMosaic.TcCoe Idealize.SL.Sem

namespace Cert.HeadsIdeal.Spellings

open Cert.HeadsIdeal Cert.HeadsIdeal.Gen Cert.HeadsIdeal.Stages Cert.HeadsIdeal.Blocks

variable {F : FTy → Type} [FloatOps F]
variable (O : Ops F)

/-- The tokens' codes. -/
abbrev zA : FVec F S768x384 .bf16 := O.z
/-- The last 256 tokens' codes. -/
abbrev zQ : Vec F S768x256 .bf16 := View.ld (zA O) (Rect.unit (s := S768x384) ![0, 128] S768x256.size inb_S768x384_S768x256_0_128)
/-- Their scales. -/
abbrev sQ : Vec F S1x256 .f32 := View.ld O.zs (Rect.unit (s := S1x384) ![0, 128] S1x256.size inb_S1x384_S1x256_0_128)

theorem code0 : k0_pay12 (k0_pay4 (hW O 0) (zA O) (hS O 0) O.zs) (k0_pay6 (hW O 0) (zA O) (hS O 0) O.zs) (k0_pay7 (hW O 0) (zA O) (hS O 0) O.zs) (FloatOps.ofBits .f32 1065353216#32) = kRows (hY O 0) := rfl
theorem code1 : k0_pay19 (k0_pay13 (hW O 1) (zA O) (hS O 1) O.zs) (k0_pay14 (hW O 1) (zA O) (hS O 1) O.zs) (FloatOps.ofBits .f32 0#32) = kRows (hY O 1) := rfl
theorem code2 : k0_pay27 (k0_pay20 (hS O 2)) (k0_pay21 (hW O 2) (zA O) O.zs) = kRows (hY O 2) := rfl
theorem code3 : k0_pay35 (k0_pay28 (hW O 3) (zA O)) (k0_pay29 (hS O 3)) O.zs = kRows (hY O 3) := rfl
theorem code4 : k0_pay43 (k0_pay36 (hW O 4) (zA O)) (k0_pay37 (hS O 4)) O.zs = kRows (hY O 4) := rfl
theorem code5 : k0_pay49 (hW O 5) (zA O) (hS O 5) O.zs = kRows (hY O 5) := rfl
theorem code6 : k0_pay56 (k0_pay52 (hW O 6) (zA O) (hS O 6) O.zs) = kRows (hY O 6) := rfl
theorem code8 : k0_pay71 (k0_pay65 (hW O 8) (zA O) (hS O 8) O.zs) (k0_pay66 (hW O 8) (zA O) (hS O 8) O.zs) = kRows (hY O 8) := rfl
theorem code9 : k0_pay79 (k0_pay72 (hW O 9) (zA O)) (k0_pay73 (hS O 9)) O.zs = kRows (hY O 9) := rfl
theorem code10 : k0_pay87 (k0_pay80 (hW O 10) (zA O)) (k0_pay81 (hS O 10)) O.zs = kRows (hY O 10) := rfl
theorem code11 : k0_pay94 (k0_pay88 (hW O 11) (zA O)) (hS O 11) O.zs = kRows (hY O 11) := rfl
theorem code12 : k0_pay100 (k0_pay97 (hW O 12) (zA O) (hS O 12) O.zs) = kRows (hY O 12) := rfl
theorem code13 : k0_pay107 (k0_pay103 (hW O 13) (zA O) (hS O 13) O.zs) = kRows (hY O 13) := rfl
theorem code14 : k0_pay113 (k0_pay110 (hW O 14) (zA O) (hS O 14) O.zs) = kRows (hY O 14) := rfl
theorem code16 : k0_pay130 (k0_pay123 (hW O 16) (zQ O)) (k0_pay124 (hS O 16)) (sQ O) = qRows (hQ O 16) := rfl
theorem code17 : k0_pay137 (k0_pay131 (hW O 17) (zQ O)) (hS O 17) (sQ O) = qRows (hQ O 17) := rfl
theorem code18 : k0_pay144 (k0_pay140 (hW O 18) (zQ O) (hS O 18) (sQ O)) = qRows (hQ O 18) := rfl
theorem code19 : k0_pay150 (k0_pay147 (hW O 19) (zQ O) (hS O 19) (sQ O)) = qRows (hQ O 19) := rfl
theorem code20 : k0_pay157 (k0_pay151 (hW O 20) (zQ O) (hS O 20) (sQ O)) (k0_pay153 (hW O 20) (zQ O) (hS O 20) (sQ O)) = qRows (hQ O 20) := rfl
theorem code21 : k0_pay165 (k0_pay158 (hW O 21) (zQ O) (hS O 21) (sQ O)) (k0_pay159 (hW O 21) (zQ O) (hS O 21) (sQ O)) (k0_pay160 (hW O 21) (zQ O) (hS O 21) (sQ O)) (FloatOps.ofBits .f32 1123942400#32) = qRows (hQ O 21) := rfl
theorem code22 : k0_pay173 (k0_pay166 (hS O 22)) (k0_pay167 (hW O 22) (zQ O) (sQ O)) = qRows (hQ O 22) := rfl

theorem scale0 : k0_pay10 (k0_pay6 (hW O 0) (zA O) (hS O 0) O.zs) (k0_pay7 (hW O 0) (zA O) (hS O 0) O.zs) (FloatOps.ofBits .f32 1065353216#32) = scs O 0 := Eq.trans (b := row (kS (hY O 0))) rfl (scs_kv O 0 (by decide)).symm
theorem scale1 : k0_pay17 (k0_pay14 (hW O 1) (zA O) (hS O 1) O.zs) (FloatOps.ofBits .f32 0#32) = scs O 1 := Eq.trans (b := row (kS (hY O 1))) rfl (scs_kv O 1 (by decide)).symm
theorem scale2 : k0_pay25 (k0_pay20 (hS O 2)) (k0_pay21 (hW O 2) (zA O) O.zs) = scs O 2 := Eq.trans (b := row (kS (hY O 2))) rfl (scs_kv O 2 (by decide)).symm
theorem scale3 : k0_pay33 (k0_pay28 (hW O 3) (zA O)) (k0_pay29 (hS O 3)) O.zs = scs O 3 := Eq.trans (b := row (kS (hY O 3))) rfl (scs_kv O 3 (by decide)).symm
theorem scale4 : k0_pay41 (k0_pay36 (hW O 4) (zA O)) (k0_pay37 (hS O 4)) O.zs = scs O 4 := Eq.trans (b := row (kS (hY O 4))) rfl (scs_kv O 4 (by decide)).symm
theorem scale5 : k0_pay47 (hW O 5) (zA O) (hS O 5) O.zs = scs O 5 := Eq.trans (b := row (kS (hY O 5))) rfl (scs_kv O 5 (by decide)).symm
theorem scale6 : k0_pay53 (hW O 6) (zA O) (hS O 6) O.zs = scs O 6 := Eq.trans (b := row (kS (hY O 6))) rfl (scs_kv O 6 (by decide)).symm
theorem scale7 : k0_pay60 (k0_pay58 (hW O 7) (zA O) (hS O 7) O.zs) = scs O 7 := Eq.trans (b := row (kS (hY O 7))) rfl (scs_kv O 7 (by decide)).symm
theorem scale8 : k0_pay69 (k0_pay66 (hW O 8) (zA O) (hS O 8) O.zs) = scs O 8 := Eq.trans (b := row (kS (hY O 8))) rfl (scs_kv O 8 (by decide)).symm
theorem scale9 : k0_pay77 (k0_pay72 (hW O 9) (zA O)) (k0_pay73 (hS O 9)) O.zs = scs O 9 := Eq.trans (b := row (kS (hY O 9))) rfl (scs_kv O 9 (by decide)).symm
theorem scale10 : k0_pay85 (k0_pay80 (hW O 10) (zA O)) (k0_pay81 (hS O 10)) O.zs = scs O 10 := Eq.trans (b := row (kS (hY O 10))) rfl (scs_kv O 10 (by decide)).symm
theorem scale11 : k0_pay92 (k0_pay88 (hW O 11) (zA O)) (hS O 11) O.zs = scs O 11 := Eq.trans (b := row (kS (hY O 11))) rfl (scs_kv O 11 (by decide)).symm
theorem scale12 : k0_pay98 (hW O 12) (zA O) (hS O 12) O.zs = scs O 12 := Eq.trans (b := row (kS (hY O 12))) rfl (scs_kv O 12 (by decide)).symm
theorem scale13 : k0_pay104 (hW O 13) (zA O) (hS O 13) O.zs = scs O 13 := Eq.trans (b := row (kS (hY O 13))) rfl (scs_kv O 13 (by decide)).symm
theorem scale14 : k0_pay111 (k0_pay109 (hW O 14) (zA O) (hS O 14) O.zs) = scs O 14 := Eq.trans (b := row (kS (hY O 14))) rfl (scs_kv O 14 (by decide)).symm
theorem scale15 : k0_pay118 (k0_pay115 (hW O 15) (zA O) (hS O 15) O.zs) = scs O 15 := Eq.trans (b := row (kS (hY O 15))) rfl (scs_kv O 15 (by decide)).symm
theorem scale16 : k0_pay128 (k0_pay123 (hW O 16) (zQ O)) (k0_pay124 (hS O 16)) (sQ O) = scs O 16 := Eq.trans (b := row (after0 (qS (hQ O 16)))) rfl (scs_q O 16 (by decide)).symm
theorem scale17 : k0_pay135 (k0_pay131 (hW O 17) (zQ O)) (hS O 17) (sQ O) = scs O 17 := Eq.trans (b := row (after0 (qS (hQ O 17)))) rfl (scs_q O 17 (by decide)).symm
theorem scale18 : k0_pay141 (hW O 18) (zQ O) (hS O 18) (sQ O) = scs O 18 := Eq.trans (b := row (after0 (qS (hQ O 18)))) rfl (scs_q O 18 (by decide)).symm
theorem scale19 : k0_pay148 (k0_pay146 (hW O 19) (zQ O) (hS O 19) (sQ O)) (FloatOps.ofBits .f32 0#32) = scs O 19 := Eq.trans (b := row (after0 (qS (hQ O 19)))) rfl (scs_q O 19 (by decide)).symm
theorem scale20 : k0_pay155 (k0_pay152 (hW O 20) (zQ O) (hS O 20) (sQ O)) = scs O 20 := Eq.trans (b := row (after0 (qS (hQ O 20)))) rfl (scs_q O 20 (by decide)).symm
theorem scale21 : k0_pay163 (k0_pay159 (hW O 21) (zQ O) (hS O 21) (sQ O)) (k0_pay160 (hW O 21) (zQ O) (hS O 21) (sQ O)) (FloatOps.ofBits .f32 1123942400#32) = scs O 21 := Eq.trans (b := row (after0 (qS (hQ O 21)))) rfl (scs_q O 21 (by decide)).symm
theorem scale22 : k0_pay171 (k0_pay166 (hS O 22)) (k0_pay167 (hW O 22) (zQ O) (sQ O)) = scs O 22 := Eq.trans (b := row (after0 (qS (hQ O 22)))) rfl (scs_q O 22 (by decide)).symm
theorem scale23 : k0_pay179 (k0_pay174 (hW O 23) (zQ O)) (k0_pay175 (hS O 23)) (sQ O) = scs O 23 := Eq.trans (b := row (after0 (qS (hQ O 23)))) rfl (scs_q O 23 (by decide)).symm

/-- The keys' codes' blocks. -/
theorem codesKg : k0_pay64 (k0_pay12 (k0_pay4 (hW O 0) (zA O) (hS O 0) O.zs) (k0_pay6 (hW O 0) (zA O) (hS O 0) O.zs) (k0_pay7 (hW O 0) (zA O) (hS O 0) O.zs) (FloatOps.ofBits .f32 1065353216#32)) (k0_pay19 (k0_pay13 (hW O 1) (zA O) (hS O 1) O.zs) (k0_pay14 (hW O 1) (zA O) (hS O 1) O.zs) (FloatOps.ofBits .f32 0#32)) (k0_pay27 (k0_pay20 (hS O 2)) (k0_pay21 (hW O 2) (zA O) O.zs)) (k0_pay35 (k0_pay28 (hW O 3) (zA O)) (k0_pay29 (hS O 3)) O.zs) (k0_pay43 (k0_pay36 (hW O 4) (zA O)) (k0_pay37 (hS O 4)) O.zs) (k0_pay49 (hW O 5) (zA O) (hS O 5) O.zs) (k0_pay56 (k0_pay52 (hW O 6) (zA O) (hS O 6) O.zs)) (k0_pay59 (hW O 7) (zA O) (hS O 7) O.zs) = oG O 0 := by
  rw [code0, code1, code2, code3, code4, code5, code6]
  rfl
theorem codesKm : k0_pay63 (k0_pay12 (k0_pay4 (hW O 0) (zA O) (hS O 0) O.zs) (k0_pay6 (hW O 0) (zA O) (hS O 0) O.zs) (k0_pay7 (hW O 0) (zA O) (hS O 0) O.zs) (FloatOps.ofBits .f32 1065353216#32)) (k0_pay19 (k0_pay13 (hW O 1) (zA O) (hS O 1) O.zs) (k0_pay14 (hW O 1) (zA O) (hS O 1) O.zs) (FloatOps.ofBits .f32 0#32)) (k0_pay27 (k0_pay20 (hS O 2)) (k0_pay21 (hW O 2) (zA O) O.zs)) (k0_pay35 (k0_pay28 (hW O 3) (zA O)) (k0_pay29 (hS O 3)) O.zs) (k0_pay43 (k0_pay36 (hW O 4) (zA O)) (k0_pay37 (hS O 4)) O.zs) (k0_pay49 (hW O 5) (zA O) (hS O 5) O.zs) (k0_pay56 (k0_pay52 (hW O 6) (zA O) (hS O 6) O.zs)) (k0_pay59 (hW O 7) (zA O) (hS O 7) O.zs) = oM O 0 := by
  rw [code0, code1, code2, code3, code4, code5, code6]
  rfl
/-- The values' codes' blocks. -/
theorem codesVg : k0_pay122 (k0_pay71 (k0_pay65 (hW O 8) (zA O) (hS O 8) O.zs) (k0_pay66 (hW O 8) (zA O) (hS O 8) O.zs)) (k0_pay79 (k0_pay72 (hW O 9) (zA O)) (k0_pay73 (hS O 9)) O.zs) (k0_pay87 (k0_pay80 (hW O 10) (zA O)) (k0_pay81 (hS O 10)) O.zs) (k0_pay94 (k0_pay88 (hW O 11) (zA O)) (hS O 11) O.zs) (k0_pay100 (k0_pay97 (hW O 12) (zA O) (hS O 12) O.zs)) (k0_pay107 (k0_pay103 (hW O 13) (zA O) (hS O 13) O.zs)) (k0_pay113 (k0_pay110 (hW O 14) (zA O) (hS O 14) O.zs)) (k0_pay116 (hW O 15) (zA O) (hS O 15) O.zs) (FloatOps.ofBits .f32 3271426048#32) = oG O 1 := by
  rw [code8, code9, code10, code11, code12, code13, code14]
  rfl
theorem codesVm : k0_pay121 (k0_pay71 (k0_pay65 (hW O 8) (zA O) (hS O 8) O.zs) (k0_pay66 (hW O 8) (zA O) (hS O 8) O.zs)) (k0_pay79 (k0_pay72 (hW O 9) (zA O)) (k0_pay73 (hS O 9)) O.zs) (k0_pay87 (k0_pay80 (hW O 10) (zA O)) (k0_pay81 (hS O 10)) O.zs) (k0_pay94 (k0_pay88 (hW O 11) (zA O)) (hS O 11) O.zs) (k0_pay100 (k0_pay97 (hW O 12) (zA O) (hS O 12) O.zs)) (k0_pay107 (k0_pay103 (hW O 13) (zA O) (hS O 13) O.zs)) (k0_pay113 (k0_pay110 (hW O 14) (zA O) (hS O 14) O.zs)) (k0_pay116 (hW O 15) (zA O) (hS O 15) O.zs) (FloatOps.ofBits .f32 3271426048#32) = oM O 1 := by
  rw [code8, code9, code10, code11, code12, code13, code14]
  rfl
/-- The queries' codes' blocks. -/
theorem codesQg : k0_pay184 (k0_pay181 (k0_pay130 (k0_pay123 (hW O 16) (zQ O)) (k0_pay124 (hS O 16)) (sQ O)) (k0_pay137 (k0_pay131 (hW O 17) (zQ O)) (hS O 17) (sQ O)) (k0_pay144 (k0_pay140 (hW O 18) (zQ O) (hS O 18) (sQ O))) (k0_pay150 (k0_pay147 (hW O 19) (zQ O) (hS O 19) (sQ O))) (k0_pay157 (k0_pay151 (hW O 20) (zQ O) (hS O 20) (sQ O)) (k0_pay153 (hW O 20) (zQ O) (hS O 20) (sQ O))) (k0_pay165 (k0_pay158 (hW O 21) (zQ O) (hS O 21) (sQ O)) (k0_pay159 (hW O 21) (zQ O) (hS O 21) (sQ O)) (k0_pay160 (hW O 21) (zQ O) (hS O 21) (sQ O)) (FloatOps.ofBits .f32 1123942400#32)) (k0_pay173 (k0_pay166 (hS O 22)) (k0_pay167 (hW O 22) (zQ O) (sQ O))) (k0_pay174 (hW O 23) (zQ O)) (k0_pay175 (hS O 23)) (sQ O)) = oGq O := by
  rw [code16, code17, code18, code19, code20, code21, code22]
  rfl
theorem codesQm : k0_pay183 (k0_pay182 (k0_pay130 (k0_pay123 (hW O 16) (zQ O)) (k0_pay124 (hS O 16)) (sQ O)) (k0_pay137 (k0_pay131 (hW O 17) (zQ O)) (hS O 17) (sQ O)) (k0_pay144 (k0_pay140 (hW O 18) (zQ O) (hS O 18) (sQ O))) (k0_pay150 (k0_pay147 (hW O 19) (zQ O) (hS O 19) (sQ O))) (k0_pay157 (k0_pay151 (hW O 20) (zQ O) (hS O 20) (sQ O)) (k0_pay153 (hW O 20) (zQ O) (hS O 20) (sQ O))) (k0_pay165 (k0_pay158 (hW O 21) (zQ O) (hS O 21) (sQ O)) (k0_pay159 (hW O 21) (zQ O) (hS O 21) (sQ O)) (k0_pay160 (hW O 21) (zQ O) (hS O 21) (sQ O)) (FloatOps.ofBits .f32 1123942400#32)) (k0_pay173 (k0_pay166 (hS O 22)) (k0_pay167 (hW O 22) (zQ O) (sQ O))) (k0_pay174 (hW O 23) (zQ O)) (k0_pay175 (hS O 23)) (sQ O)) = oMq O := by
  rw [code16, code17, code18, code19, code20, code21, code22]
  rfl

/-- The scales' buffer read back. -/
theorem scales_run (v : View sig .tc .vmem S24x384 .f32) :
    v.readCov [⟨Rect.unit (s := S24x384) ![23, 0] S1x384.size inb_S24x384_S1x384_23_0, k0_pay179 (k0_pay174 (hW O 23) (zQ O)) (k0_pay175 (hS O 23)) (sQ O)⟩, ⟨Rect.unit (s := S24x384) ![22, 0] S1x384.size inb_S24x384_S1x384_22_0, k0_pay171 (k0_pay166 (hS O 22)) (k0_pay167 (hW O 22) (zQ O) (sQ O))⟩, ⟨Rect.unit (s := S24x384) ![21, 0] S1x384.size inb_S24x384_S1x384_21_0, k0_pay163 (k0_pay159 (hW O 21) (zQ O) (hS O 21) (sQ O)) (k0_pay160 (hW O 21) (zQ O) (hS O 21) (sQ O)) (FloatOps.ofBits .f32 1123942400#32)⟩, ⟨Rect.unit (s := S24x384) ![20, 0] S1x384.size inb_S24x384_S1x384_20_0, k0_pay155 (k0_pay152 (hW O 20) (zQ O) (hS O 20) (sQ O))⟩, ⟨Rect.unit (s := S24x384) ![19, 0] S1x384.size inb_S24x384_S1x384_19_0, k0_pay148 (k0_pay146 (hW O 19) (zQ O) (hS O 19) (sQ O)) (FloatOps.ofBits .f32 0#32)⟩, ⟨Rect.unit (s := S24x384) ![18, 0] S1x384.size inb_S24x384_S1x384_18_0, k0_pay141 (hW O 18) (zQ O) (hS O 18) (sQ O)⟩, ⟨Rect.unit (s := S24x384) ![17, 0] S1x384.size inb_S24x384_S1x384_17_0, k0_pay135 (k0_pay131 (hW O 17) (zQ O)) (hS O 17) (sQ O)⟩, ⟨Rect.unit (s := S24x384) ![16, 0] S1x384.size inb_S24x384_S1x384_16_0, k0_pay128 (k0_pay123 (hW O 16) (zQ O)) (k0_pay124 (hS O 16)) (sQ O)⟩, ⟨Rect.unit (s := S24x384) ![15, 0] S1x384.size inb_S24x384_S1x384_15_0, k0_pay118 (k0_pay115 (hW O 15) (zA O) (hS O 15) O.zs)⟩, ⟨Rect.unit (s := S24x384) ![14, 0] S1x384.size inb_S24x384_S1x384_14_0, k0_pay111 (k0_pay109 (hW O 14) (zA O) (hS O 14) O.zs)⟩, ⟨Rect.unit (s := S24x384) ![13, 0] S1x384.size inb_S24x384_S1x384_13_0, k0_pay104 (hW O 13) (zA O) (hS O 13) O.zs⟩, ⟨Rect.unit (s := S24x384) ![12, 0] S1x384.size inb_S24x384_S1x384_12_0, k0_pay98 (hW O 12) (zA O) (hS O 12) O.zs⟩, ⟨Rect.unit (s := S24x384) ![11, 0] S1x384.size inb_S24x384_S1x384_11_0, k0_pay92 (k0_pay88 (hW O 11) (zA O)) (hS O 11) O.zs⟩, ⟨Rect.unit (s := S24x384) ![10, 0] S1x384.size inb_S24x384_S1x384_10_0, k0_pay85 (k0_pay80 (hW O 10) (zA O)) (k0_pay81 (hS O 10)) O.zs⟩, ⟨Rect.unit (s := S24x384) ![9, 0] S1x384.size inb_S24x384_S1x384_9_0, k0_pay77 (k0_pay72 (hW O 9) (zA O)) (k0_pay73 (hS O 9)) O.zs⟩, ⟨Rect.unit (s := S24x384) ![8, 0] S1x384.size inb_S24x384_S1x384_8_0, k0_pay69 (k0_pay66 (hW O 8) (zA O) (hS O 8) O.zs)⟩, ⟨Rect.unit (s := S24x384) ![7, 0] S1x384.size inb_S24x384_S1x384_7_0, k0_pay60 (k0_pay58 (hW O 7) (zA O) (hS O 7) O.zs)⟩, ⟨Rect.unit (s := S24x384) ![6, 0] S1x384.size inb_S24x384_S1x384_6_0, k0_pay53 (hW O 6) (zA O) (hS O 6) O.zs⟩, ⟨Rect.unit (s := S24x384) ![5, 0] S1x384.size inb_S24x384_S1x384_5_0, k0_pay47 (hW O 5) (zA O) (hS O 5) O.zs⟩, ⟨Rect.unit (s := S24x384) ![4, 0] S1x384.size inb_S24x384_S1x384_4_0, k0_pay41 (k0_pay36 (hW O 4) (zA O)) (k0_pay37 (hS O 4)) O.zs⟩, ⟨Rect.unit (s := S24x384) ![3, 0] S1x384.size inb_S24x384_S1x384_3_0, k0_pay33 (k0_pay28 (hW O 3) (zA O)) (k0_pay29 (hS O 3)) O.zs⟩, ⟨Rect.unit (s := S24x384) ![2, 0] S1x384.size inb_S24x384_S1x384_2_0, k0_pay25 (k0_pay20 (hS O 2)) (k0_pay21 (hW O 2) (zA O) O.zs)⟩, ⟨Rect.unit (s := S24x384) ![1, 0] S1x384.size inb_S24x384_S1x384_1_0, k0_pay17 (k0_pay14 (hW O 1) (zA O) (hS O 1) O.zs) (FloatOps.ofBits .f32 0#32)⟩, ⟨Rect.unit (s := S24x384) ![0, 0] S1x384.size inb_S24x384_S1x384_0_0, k0_pay10 (k0_pay6 (hW O 0) (zA O) (hS O 0) O.zs) (k0_pay7 (hW O 0) (zA O) (hS O 0) O.zs) (FloatOps.ofBits .f32 1065353216#32)⟩]
      (Rect.unit (s := S24x384) ![0, 0] S24x384.size inb_S24x384_S24x384_0_0).toLoadRect = stack (scs O) := by
  rw [scale0, scale1, scale2, scale3, scale4, scale5, scale6, scale7, scale8, scale9, scale10, scale11, scale12, scale13, scale14, scale15, scale16, scale17, scale18, scale19, scale20, scale21, scale22, scale23]
  exact scales_read v (scs O)

end Cert.HeadsIdeal.Spellings

end
-- ==== Proof.HeadCases.lean ====
/- What a point of the projections' grid leaves, as the blocks of `Proof/HeadBlocks.lean`. -/
module

public import proofs.«01_k».proof.Proof.HeadSpellings
public import Idealize.ShloMosaic.Lib.Pipeline.ValueKit
public import Idealize.ShloMosaic.Lib.Pipeline.ReadBack
public import Idealize.ShloMosaic.Lib.VecWindow

@[expose] public section

set_option maxRecDepth 16384
set_option maxHeartbeats 600000

noncomputable section

open Idealize.ShloMosaic Idealize.ShloMosaic.TcCoe Idealize.SL.Sem
open Idealize.ShloMosaic.Pipeline (Dat)

namespace Cert.HeadsIdeal.Cases

open Cert.HeadsIdeal Cert.HeadsIdeal.Gen Cert.HeadsIdeal.Stages Cert.HeadsIdeal.Blocks Cert.HeadsIdeal.Spellings

variable {F : FTy → Type} [FloatOps F]

/-- A row of scales read through its squeezed block. -/
theorem read_row (M : Memref sig .tc .vmem S1x1x384 .f32) (h : M.IsWhole) (X : Vec F S1x1x384 .f32) (inb) (hq) :
    View.read (Elt F) ((M.view.slice (Rect.unit ![0, 0, 0] ![1, 1, 384] inb)).reshape S1x384 hq) (h.unread X)
      = shapeCast S1x384 X squeezes_S1x1x384_S1x384.numel_eq := by
  refine (Memref.read_squeeze_full (off := ![0, 0, 0]) M inb squeezes_S1x1x384_S1x384 (h.unread X)).trans ?_
  rw [h.read_unread]
  rfl

variable (m : (ℓ : Loc nD τ sig) → Buf (Elt F) ℓ) (c : Dev nD) (t : Fin cfg0.N)

/-- A point's operand blocks. -/
def ops : Ops F where
  z := k0_pay2 (iblk m c 0 t : Vec F S1x768x384 .i8)
  zs := shapeCast S1x384 (iblk m c 1 t : Vec F S1x1x384 .f32) squeezes_S1x1x384_S1x384.numel_eq
  w := k0_pay3 (iblk m c 2 t : Vec F S2304x768 .i8)
  s := iblk m c 3 t

theorem out4 : (outsAt0 m c t).1 = oG (ops m c t) 0 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact codesKg ⟨z, zs, w, s⟩
theorem out5 : (outsAt0 m c t).2.1 = oGs (ops m c t) 0 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact congrArg (fun X : Vec F S24x384 .f32 => k0_pay187 (View.ld (k0_pay185 X) (Rect.unit (s := S384x128) ![256, 0] S80x8.size inb_S384x128_S80x8_256_0))) (scales_run ⟨z, zs, w, s⟩ (View.whole cc0_scratch3))
theorem out6 : (outsAt0 m c t).2.2.1 = oM (ops m c t) 0 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact codesKm ⟨z, zs, w, s⟩
theorem out7 : (outsAt0 m c t).2.2.2.1 = oMs (ops m c t) 0 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact congrArg (fun X : Vec F S24x384 .f32 => k0_pay186 (View.ld (k0_pay185 X) (Rect.unit (s := S384x128) ![0, 0] S256x8.size inb_S384x128_S256x8_0_0))) (scales_run ⟨z, zs, w, s⟩ (View.whole cc0_scratch3))
theorem out8 : (outsAt0 m c t).2.2.2.2.1 = oG (ops m c t) 1 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact codesVg ⟨z, zs, w, s⟩
theorem out9 : (outsAt0 m c t).2.2.2.2.2.1 = oGs (ops m c t) 1 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact congrArg (fun X : Vec F S24x384 .f32 => k0_pay189 (View.ld (k0_pay185 X) (Rect.unit (s := S384x128) ![256, 8] S80x8.size inb_S384x128_S80x8_256_8))) (scales_run ⟨z, zs, w, s⟩ (View.whole cc0_scratch3))
theorem out10 : (outsAt0 m c t).2.2.2.2.2.2.1 = oM (ops m c t) 1 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact codesVm ⟨z, zs, w, s⟩
theorem out11 : (outsAt0 m c t).2.2.2.2.2.2.2.1 = oMs (ops m c t) 1 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact congrArg (fun X : Vec F S24x384 .f32 => k0_pay188 (View.ld (k0_pay185 X) (Rect.unit (s := S384x128) ![0, 8] S256x8.size inb_S384x128_S256x8_0_8))) (scales_run ⟨z, zs, w, s⟩ (View.whole cc0_scratch3))
theorem out12 : (outsAt0 m c t).2.2.2.2.2.2.2.2.1 = oGq (ops m c t) := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact codesQg ⟨z, zs, w, s⟩
theorem out13 : (outsAt0 m c t).2.2.2.2.2.2.2.2.2.1 = oGs (ops m c t) 2 := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact congrArg (fun X : Vec F S24x384 .f32 => (k0_pay1 <| k0_pay191 <| (View.ld (k0_pay185 X) (Rect.unit (s := S384x128) ![256, 16] S80x8.size inb_S384x128_S80x8_256_16)))) (scales_run ⟨z, zs, w, s⟩ (View.whole cc0_scratch3))
theorem out14 : (outsAt0 m c t).2.2.2.2.2.2.2.2.2.2.1 = oMq (ops m c t) := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact codesQm ⟨z, zs, w, s⟩
theorem out15 : (outsAt0 m c t).2.2.2.2.2.2.2.2.2.2.2 = oMsq (ops m c t) := by
  unfold outsAt0
  frame_open
  simp (disch := decide) only [↓ View.readCov_skip, ↓ View.readCov_cons_toLoadRect, ↓ View.readCov_fill]
  frame_out
  simp only [read_row]
  unfold ops
  generalize (shapeCast S1x384 (iblk m c 1 t : Vec F S1x1x384 .f32) squeezes_S1x1x384_S1x384.numel_eq : Vec F S1x384 .f32) = zs
  generalize k0_pay2 (iblk m c 0 t : Vec F S1x768x384 .i8) = z
  generalize k0_pay3 (iblk m c 2 t : Vec F S2304x768 .i8) = w
  generalize (iblk m c 3 t : Vec F S2304x128 .f32) = s
  exact congrArg (fun X : Vec F S24x384 .f32 => k0_pay190 (View.ld (k0_pay185 X) (Rect.unit (s := S384x128) ![128, 16] S128x8.size inb_S384x128_S128x8_128_16))) (scales_run ⟨z, zs, w, s⟩ (View.whole cc0_scratch3))

end Cert.HeadsIdeal.Cases

end
-- ==== Proof.HeadRefStages.lean ====
/- The projections' reference: its stages named and read at an index, and its results, which are the heads of
   `Proof/HeadSpec.lean` in the arrays it was launched with. -/
module

public import proofs.«01_k».proof.Proof.HeadSpec
public import proofs.«01_k».proof.Proof.Gen.HeadsReferenceIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.HeadsReferenceIdeal.Stages

open Cert.HeadsReferenceIdeal Cert.HeadsReferenceIdeal.Gen Cert.Spec Cert.HeadSpec

section
variable {F : FTy → Type} [FloatOps F]
/-- A literal on every entry. -/
abbrev lit (s : Shape) (w : BitVec 32) : FVec F s .f32 := broadcast s (Scalar.ofBits .f32 w : F .f32)
end

/-- The column of a head's entry. -/
abbrev col (h : Fin 8) (d : Fin 96) : Fin 768 := ⟨h.val * 96 + d.val, by omega⟩

/-! ## The global tokens -/

section
variable {F : FTy → Type} [FloatOps F]

/-- The heads' entries: codes `z` with scales `zs`, weights `w` with scales `s`. -/
def gY (z : Vec F S6x5x16x768 .i8) (zs : Vec F S6x5x16 .f32) (w : Vec F S768x768 .i8) (s : Vec F S768 .f32) : FVec F S6x5x16x8x96 .f32 :=
  shapeCast S6x5x16x8x96 (mulf (mulf
      (shapeCast S6x5x16x768 (matmul dot_S480x768_S768x768_S480x768_1_0_0_1_n_n none (sitofp .bf16 (shapeCast S480x768 z shapeCasts_S6x5x16x768_S480x768)) (sitofp .bf16 (shapeCast S768x768 w shapeCasts_S768x768_S768x768)) (constant S480x768 .f32 0x00000000#32)) shapeCasts_S480x768_S6x5x16x768)
      (broadcastTo S6x5x16x768 (shapeCast S6x5x16x1 zs shapeCasts_S6x5x16_S6x5x16x1) broadcasts_S6x5x16x1_S6x5x16x768))
    (broadcastTo S6x5x16x768 (shapeCast S1x1x1x768 (shapeCast S768 s shapeCasts_S768_S768) shapeCasts_S768_S1x1x1x768) broadcasts_S1x1x1x768_S6x5x16x768)) shapeCasts_S6x5x16x768_S6x5x16x8x96
/-- The greatest magnitude of each head. -/
def gMax (v : FVec F S6x5x16x8x96 .f32) : FVec F S6x5x16x8x1 .f32 :=
  shapeCast S6x5x16x8x1 (multiReduction .maximumf [4] S6x5x16x8 (absf v) 0xFF800000#32 reduces_S6x5x16x8x96_S6x5x16x8 (.inl rfl) rfl) shapeCasts_S6x5x16x8_S6x5x16x8x1
/-- The scale of heads whose greatest magnitudes are `a`. -/
def gScale (a : FVec F S6x5x16x8x1 .f32) : FVec F S6x5x16x8x1 .f32 :=
  select (cmpf .oeq a (lit S6x5x16x8x1 0x00000000#32)) (lit S6x5x16x8x1 0x3F800000#32) (divf a (lit S6x5x16x8x1 0x42FE0000#32))
/-- Heads rounded and clipped at a scale. -/
def gClip (v : FVec F S6x5x16x8x96 .f32) (s : FVec F S6x5x16x8x1 .f32) : FVec F S6x5x16x8x96 .f32 :=
  minimumf (lit S6x5x16x8x96 0x42FE0000#32) (maximumf (lit S6x5x16x8x96 0xC2FE0000#32) (roundeven (divf v (broadcastTo S6x5x16x8x96 s broadcasts_S6x5x16x8x1_S6x5x16x8x96))))
/-- The heads' scales. -/
def gS (v : FVec F S6x5x16x8x96 .f32) : FVec F S6x5x16x8x1 .f32 := gScale (gMax v)
/-- The heads' codes. -/
def gC (v : FVec F S6x5x16x8x96 .f32) : IVec S6x5x16x8x96 8 := fptosi 8 (gClip v (gS v))
/-- The heads' scales, a number to a head. -/
def gN (v : FVec F S6x5x16x8x96 .f32) : FVec F S6x5x16x8 .f32 := shapeCast S6x5x16x8 (gS v) shapeCasts_S6x5x16x8x1_S6x5x16x8

end

section
variable (v : FVec Ideal S6x5x16x8x96 .f32) (b : Fin 6) (n : Fin 5) (r : Fin 16) (h : Fin 8) (d : Fin 96)

theorem gY_at (z : Vec Ideal S6x5x16x768 .i8) (zs : Vec Ideal S6x5x16 .f32) (w : Vec Ideal S768x768 .i8) (s : Vec Ideal S768 .f32) :
    gY z zs w s (ix5 b n r h d) = (∑ i, val (z (ix4 b n r i)) * val (w (ix2 i (col h d)))) * zs (ix3 b n r) * s (ix1 (col h d)) := by
  unfold val
  pointwise [gY]
theorem gMax_at : gMax v (ix5 b n r h 0) = amax fun d => v (ix5 b n r h d) := by
  unfold amax
  pointwise [gMax]
theorem gScale_at (a : FVec Ideal S6x5x16x8x1 .f32) : gScale a (ix5 b n r h 0) = scaleOf (a (ix5 b n r h 0)) := by
  unfold scaleOf
  pointwise [gScale, lit]
theorem gClip_at (s : FVec Ideal S6x5x16x8x1 .f32) : gClip v s (ix5 b n r h d) = clip (Ideal.div (v (ix5 b n r h d)) (s (ix5 b n r h 0))) := by
  unfold clip
  pointwise [gClip, lit]

variable (H : Head) (e : ∀ d, v (ix5 b n r h d) = H.v d)
include e
theorem gS_at : gS v (ix5 b n r h 0) = H.sc := by
  unfold gS Head.sc
  rw [gScale_at, gMax_at]
  exact congrArg (fun r => scaleOf (amax r)) (funext e)
theorem gC_at : gC v (ix5 b n r h d) = H.cd d := by
  refine congrArg (FloatOps.fptosi (F := Ideal) (φ := .f32) 8) ?_
  rw [gClip_at, gS_at v b n r h H e, e]
  rfl
theorem gN_at : gN v (ix4 b n r h) = H.sc := by
  have a : gN v (ix4 b n r h) = gS v (ix5 b n r h 0) := by
    unfold gN
    generalize gS v = c
    pointwise
  exact a.trans (gS_at v b n r h H e)

end

/-! ## The merged sequence -/

section
variable {F : FTy → Type} [FloatOps F]

/-- The heads' entries: codes `z` with scales `zs`, weights `w` with scales `s`. -/
def mY (z : Vec F S6x256x768 .i8) (zs : Vec F S6x256 .f32) (w : Vec F S768x768 .i8) (s : Vec F S768 .f32) : FVec F S6x256x8x96 .f32 :=
  shapeCast S6x256x8x96 (mulf (mulf
      (shapeCast S6x256x768 (matmul dot_S1536x768_S768x768_S1536x768_1_0_0_1_n_n none (sitofp .bf16 (shapeCast S1536x768 z shapeCasts_S6x256x768_S1536x768)) (sitofp .bf16 (shapeCast S768x768 w shapeCasts_S768x768_S768x768)) (constant S1536x768 .f32 0x00000000#32)) shapeCasts_S1536x768_S6x256x768)
      (broadcastTo S6x256x768 (shapeCast S6x256x1 zs shapeCasts_S6x256_S6x256x1) broadcasts_S6x256x1_S6x256x768))
    (broadcastTo S6x256x768 (shapeCast S1x1x768 (shapeCast S768 s shapeCasts_S768_S768) shapeCasts_S768_S1x1x768) broadcasts_S1x1x768_S6x256x768)) shapeCasts_S6x256x768_S6x256x8x96
/-- The greatest magnitude of each head. -/
def mMax (v : FVec F S6x256x8x96 .f32) : FVec F S6x256x8x1 .f32 :=
  shapeCast S6x256x8x1 (multiReduction .maximumf [3] S6x256x8 (absf v) 0xFF800000#32 reduces_S6x256x8x96_S6x256x8 (.inl rfl) rfl) shapeCasts_S6x256x8_S6x256x8x1
/-- The scale of heads whose greatest magnitudes are `a`. -/
def mScale (a : FVec F S6x256x8x1 .f32) : FVec F S6x256x8x1 .f32 :=
  select (cmpf .oeq a (lit S6x256x8x1 0x00000000#32)) (lit S6x256x8x1 0x3F800000#32) (divf a (lit S6x256x8x1 0x42FE0000#32))
/-- Heads rounded and clipped at a scale. -/
def mClip (v : FVec F S6x256x8x96 .f32) (s : FVec F S6x256x8x1 .f32) : FVec F S6x256x8x96 .f32 :=
  minimumf (lit S6x256x8x96 0x42FE0000#32) (maximumf (lit S6x256x8x96 0xC2FE0000#32) (roundeven (divf v (broadcastTo S6x256x8x96 s broadcasts_S6x256x8x1_S6x256x8x96))))
/-- The heads' scales. -/
def mS (v : FVec F S6x256x8x96 .f32) : FVec F S6x256x8x1 .f32 := mScale (mMax v)
/-- The heads' codes. -/
def mC (v : FVec F S6x256x8x96 .f32) : IVec S6x256x8x96 8 := fptosi 8 (mClip v (mS v))
/-- The heads' scales, a number to a head. -/
def mN (v : FVec F S6x256x8x96 .f32) : FVec F S6x256x8 .f32 := shapeCast S6x256x8 (mS v) shapeCasts_S6x256x8x1_S6x256x8

end

section
variable (v : FVec Ideal S6x256x8x96 .f32) (b : Fin 6) (r : Fin 256) (h : Fin 8) (d : Fin 96)

theorem mY_at (z : Vec Ideal S6x256x768 .i8) (zs : Vec Ideal S6x256 .f32) (w : Vec Ideal S768x768 .i8) (s : Vec Ideal S768 .f32) :
    mY z zs w s (ix4 b r h d) = (∑ i, val (z (ix3 b r i)) * val (w (ix2 i (col h d)))) * zs (ix2 b r) * s (ix1 (col h d)) := by
  unfold val
  pointwise [mY]
theorem mMax_at : mMax v (ix4 b r h 0) = amax fun d => v (ix4 b r h d) := by
  unfold amax
  pointwise [mMax]
theorem mScale_at (a : FVec Ideal S6x256x8x1 .f32) : mScale a (ix4 b r h 0) = scaleOf (a (ix4 b r h 0)) := by
  unfold scaleOf
  pointwise [mScale, lit]
theorem mClip_at (s : FVec Ideal S6x256x8x1 .f32) : mClip v s (ix4 b r h d) = clip (Ideal.div (v (ix4 b r h d)) (s (ix4 b r h 0))) := by
  unfold clip
  pointwise [mClip, lit]

variable (H : Head) (e : ∀ d, v (ix4 b r h d) = H.v d)
include e
theorem mS_at : mS v (ix4 b r h 0) = H.sc := by
  unfold mS Head.sc
  rw [mScale_at, mMax_at]
  exact congrArg (fun r => scaleOf (amax r)) (funext e)
theorem mC_at : mC v (ix4 b r h d) = H.cd d := by
  refine congrArg (FloatOps.fptosi (F := Ideal) (φ := .f32) 8) ?_
  rw [mClip_at, mS_at v b r h H e, e]
  rfl
theorem mN_at : mN v (ix3 b r h) = H.sc := by
  have a : mN v (ix3 b r h) = mS v (ix4 b r h 0) := by
    unfold mN
    generalize mS v = c
    pointwise
  exact a.trans (mS_at v b r h H e)

end

/-! ## The last 128 tokens of the merged sequence -/

section
variable {F : FTy → Type} [FloatOps F]

/-- The heads' entries: codes `z` with scales `zs`, weights `w` with scales `s`. -/
def qY (z : Vec F S6x128x768 .i8) (zs : Vec F S6x128 .f32) (w : Vec F S768x768 .i8) (s : Vec F S768 .f32) : FVec F S6x128x8x96 .f32 :=
  shapeCast S6x128x8x96 (mulf (mulf
      (shapeCast S6x128x768 (matmul dot_S768x768_S768x768_S768x768_1_0_0_1_n_n none (sitofp .bf16 (shapeCast S768x768 z shapeCasts_S6x128x768_S768x768)) (sitofp .bf16 (shapeCast S768x768 w shapeCasts_S768x768_S768x768)) (constant S768x768 .f32 0x00000000#32)) shapeCasts_S768x768_S6x128x768)
      (broadcastTo S6x128x768 (shapeCast S6x128x1 zs shapeCasts_S6x128_S6x128x1) broadcasts_S6x128x1_S6x128x768))
    (broadcastTo S6x128x768 (shapeCast S1x1x768 (shapeCast S768 s shapeCasts_S768_S768) shapeCasts_S768_S1x1x768) broadcasts_S1x1x768_S6x128x768)) shapeCasts_S6x128x768_S6x128x8x96
/-- The greatest magnitude of each head. -/
def qMax (v : FVec F S6x128x8x96 .f32) : FVec F S6x128x8x1 .f32 :=
  shapeCast S6x128x8x1 (multiReduction .maximumf [3] S6x128x8 (absf v) 0xFF800000#32 reduces_S6x128x8x96_S6x128x8 (.inl rfl) rfl) shapeCasts_S6x128x8_S6x128x8x1
/-- The scale of heads whose greatest magnitudes are `a`. -/
def qScale (a : FVec F S6x128x8x1 .f32) : FVec F S6x128x8x1 .f32 :=
  select (cmpf .oeq a (lit S6x128x8x1 0x00000000#32)) (lit S6x128x8x1 0x3F800000#32) (divf a (lit S6x128x8x1 0x42FE0000#32))
/-- Heads rounded and clipped at a scale. -/
def qClip (v : FVec F S6x128x8x96 .f32) (s : FVec F S6x128x8x1 .f32) : FVec F S6x128x8x96 .f32 :=
  minimumf (lit S6x128x8x96 0x42FE0000#32) (maximumf (lit S6x128x8x96 0xC2FE0000#32) (roundeven (divf v (broadcastTo S6x128x8x96 s broadcasts_S6x128x8x1_S6x128x8x96))))
/-- The heads' scales. -/
def qS (v : FVec F S6x128x8x96 .f32) : FVec F S6x128x8x1 .f32 := qScale (qMax v)
/-- The heads' codes. -/
def qC (v : FVec F S6x128x8x96 .f32) : IVec S6x128x8x96 8 := fptosi 8 (qClip v (qS v))
/-- The heads' scales, a number to a head. -/
def qN (v : FVec F S6x128x8x96 .f32) : FVec F S6x128x8 .f32 := shapeCast S6x128x8 (qS v) shapeCasts_S6x128x8x1_S6x128x8

end

section
variable (v : FVec Ideal S6x128x8x96 .f32) (b : Fin 6) (r : Fin 128) (h : Fin 8) (d : Fin 96)

theorem qY_at (z : Vec Ideal S6x128x768 .i8) (zs : Vec Ideal S6x128 .f32) (w : Vec Ideal S768x768 .i8) (s : Vec Ideal S768 .f32) :
    qY z zs w s (ix4 b r h d) = (∑ i, val (z (ix3 b r i)) * val (w (ix2 i (col h d)))) * zs (ix2 b r) * s (ix1 (col h d)) := by
  unfold val
  pointwise [qY]
theorem qMax_at : qMax v (ix4 b r h 0) = amax fun d => v (ix4 b r h d) := by
  unfold amax
  pointwise [qMax]
theorem qScale_at (a : FVec Ideal S6x128x8x1 .f32) : qScale a (ix4 b r h 0) = scaleOf (a (ix4 b r h 0)) := by
  unfold scaleOf
  pointwise [qScale, lit]
theorem qClip_at (s : FVec Ideal S6x128x8x1 .f32) : qClip v s (ix4 b r h d) = clip (Ideal.div (v (ix4 b r h d)) (s (ix4 b r h 0))) := by
  unfold clip
  pointwise [qClip, lit]

variable (H : Head) (e : ∀ d, v (ix4 b r h d) = H.v d)
include e
theorem qS_at : qS v (ix4 b r h 0) = H.sc := by
  unfold qS Head.sc
  rw [qScale_at, qMax_at]
  exact congrArg (fun r => scaleOf (amax r)) (funext e)
theorem qC_at : qC v (ix4 b r h d) = H.cd d := by
  refine congrArg (FloatOps.fptosi (F := Ideal) (φ := .f32) 8) ?_
  rw [qClip_at, qS_at v b r h H e, e]
  rfl
theorem qN_at : qN v (ix3 b r h) = H.sc := by
  have a : qN v (ix3 b r h) = qS v (ix4 b r h 0) := by
    unfold qN
    generalize qS v = c
    pointwise
  exact a.trans (qS_at v b r h H e)

end

end Cert.HeadsReferenceIdeal.Stages

end
-- ==== Proof.HeadReference.lean ====
/- The projections' reference's results: the heads of `Proof/HeadSpec.lean` in the arrays it was launched with. -/
module

public import proofs.«01_k».proof.Proof.HeadRefStages

@[expose] public section

set_option maxRecDepth 16384

noncomputable section

open Idealize.ShloMosaic Idealize.ShloMosaic.TcCoe Idealize.SL.Sem

namespace Cert.HeadsReferenceIdeal.Results

open Cert.HeadsReferenceIdeal Cert.HeadsReferenceIdeal.Gen Cert.HeadsReferenceIdeal.Stages Cert.Spec Cert.HeadSpec

/-- What the results are computed from. -/
structure Args where
  /-- the global tokens' codes -/
  zg : Vec Ideal S6x5x16x768 .i8
  /-- the global tokens' scales -/
  zgs : Vec Ideal S6x5x16 .f32
  /-- the merged sequence's codes -/
  zm : Vec Ideal S6x256x768 .i8
  /-- the merged sequence's scales -/
  zms : Vec Ideal S6x256 .f32
  /-- the weights of the keys and the values -/
  wkv : Vec Ideal S768x2x8x96 .i8
  /-- their scales -/
  skv : Vec Ideal S2x8x96 .f32
  /-- the weights of the queries -/
  wq : Vec Ideal S768x8x96 .i8
  /-- their scales -/
  sq : Vec Ideal S8x96 .f32

namespace Args
variable (P : Args)
/-- The weights of the keys, the values and the queries. -/
def wt (k : Fin 3) (i : Fin 768) (h : Fin 8) (d : Fin 96) : BitVec 8 :=
  match k with
  | 0 => P.wkv (ix4 i 0 h d)
  | 1 => P.wkv (ix4 i 1 h d)
  | 2 => P.wq (ix3 i h d)
/-- Their scales. -/
def st (k : Fin 3) (h : Fin 8) (d : Fin 96) : EReal :=
  match k with
  | 0 => P.skv (ix3 0 h d)
  | 1 => P.skv (ix3 1 h d)
  | 2 => P.sq (ix2 h d)
/-- A global token's head. -/
def headG (b : Fin 6) (n : Fin 5) (r : Fin 16) (k : Fin 3) (h : Fin 8) : Head where
  z i := P.zg (ix4 b n r i)
  zs := P.zgs (ix3 b n r)
  w d i := P.wt k i h d
  ws d := P.st k h d
/-- A head of a token of the merged sequence. -/
def headM (b : Fin 6) (q : Fin 256) (k : Fin 3) (h : Fin 8) : Head where
  z i := P.zm (ix3 b q i)
  zs := P.zms (ix2 b q)
  w d i := P.wt k i h d
  ws d := P.st k h d
end Args

variable (m : (ℓ : Loc nD τ sig) → Buf (Elt Ideal) ℓ) (c : Dev nD)

/-- The arrays the reference was launched with. -/
def args : Args where
  zg := m ((c : Thread nD τ).loc main_arg0)
  zgs := m ((c : Thread nD τ).loc main_arg1)
  zm := m ((c : Thread nD τ).loc main_arg2)
  zms := m ((c : Thread nD τ).loc main_arg3)
  wkv := m ((c : Thread nD τ).loc main_arg4)
  skv := m ((c : Thread nD τ).loc main_arg5)
  wq := m ((c : Thread nD τ).loc main_arg6)
  sq := m ((c : Thread nD τ).loc main_arg7)

/-- The windows' index maps. -/
theorem idx0 : win0_0.index t0_0 = ![0, 0, 0, 0] ∧ win0_1.index t0_0 = ![0, 0, 0] ∧ win0_2.index t0_0 = ![0, 0, 0] ∧ win0_3.index t0_0 = ![0, 0]
  ∧ win0_4.index t0_0 = ![0, 0] ∧ win0_5.index t0_0 = ![0] ∧ win0_6.index t0_0 = ![0, 0] ∧ win0_7.index t0_0 = ![0] ∧ win0_8.index t0_0 = ![0, 0] ∧ win0_9.index t0_0 = ![0] := by decide +kernel

theorem x0 : (iblk m c 0 t0_0 : Vec Ideal S6x5x16x768 .i8) = (args m c).zg := by funext y; blk_ext [iblk, V, idx0, args]
theorem x1 : (iblk m c 1 t0_0 : Vec Ideal S6x5x16 .f32) = (args m c).zgs := by funext y; blk_ext [iblk, V, idx0, args]
theorem x2 : (iblk m c 2 t0_0 : Vec Ideal S6x256x768 .i8) = (args m c).zm := by funext y; blk_ext [iblk, V, idx0, args]
theorem x3 : (iblk m c 3 t0_0 : Vec Ideal S6x256 .f32) = (args m c).zms := by funext y; blk_ext [iblk, V, idx0, args]
theorem x4_at (i : Fin 768) (h : Fin 8) (d : Fin 96) : (iblk m c 4 t0_0 : Vec Ideal S768x768 .i8) (ix2 i (col h d)) = (args m c).wt 0 i h d := by
  blk_simp [iblk]
  simp only [V, List.flatten_cons, List.flatten_nil, hostOps0, List.cons_append, List.nil_append, List.append_nil]
  entry_read
  pointwise
  blk_ext [idx0, args, Args.wt, Args.st]
theorem x5_at (h : Fin 8) (d : Fin 96) : (iblk m c 5 t0_0 : Vec Ideal S768 .f32) (ix1 (col h d)) = (args m c).st 0 h d := by
  blk_simp [iblk]
  simp only [V, List.flatten_cons, List.flatten_nil, hostOps0, List.cons_append, List.nil_append, List.append_nil]
  entry_read
  pointwise
  blk_ext [idx0, args, Args.wt, Args.st]
theorem x6_at (i : Fin 768) (h : Fin 8) (d : Fin 96) : (iblk m c 6 t0_0 : Vec Ideal S768x768 .i8) (ix2 i (col h d)) = (args m c).wt 1 i h d := by
  blk_simp [iblk]
  simp only [V, List.flatten_cons, List.flatten_nil, hostOps0, List.cons_append, List.nil_append, List.append_nil]
  entry_read
  pointwise
  blk_ext [idx0, args, Args.wt, Args.st]
theorem x7_at (h : Fin 8) (d : Fin 96) : (iblk m c 7 t0_0 : Vec Ideal S768 .f32) (ix1 (col h d)) = (args m c).st 1 h d := by
  blk_simp [iblk]
  simp only [V, List.flatten_cons, List.flatten_nil, hostOps0, List.cons_append, List.nil_append, List.append_nil]
  entry_read
  pointwise
  blk_ext [idx0, args, Args.wt, Args.st]
theorem x8_at (i : Fin 768) (h : Fin 8) (d : Fin 96) : (iblk m c 8 t0_0 : Vec Ideal S768x768 .i8) (ix2 i (col h d)) = (args m c).wt 2 i h d := by
  blk_simp [iblk]
  simp only [V, List.flatten_cons, List.flatten_nil, hostOps0, List.cons_append, List.nil_append, List.append_nil]
  entry_read
  pointwise
  blk_ext [idx0, args, Args.wt, Args.st]
theorem x9_at (h : Fin 8) (d : Fin 96) : (iblk m c 9 t0_0 : Vec Ideal S768 .f32) (ix1 (col h d)) = (args m c).st 2 h d := by
  blk_simp [iblk]
  simp only [V, List.flatten_cons, List.flatten_nil, hostOps0, List.cons_append, List.nil_append, List.append_nil]
  entry_read
  pointwise
  blk_ext [idx0, args, Args.wt, Args.st]

section
variable (b : Fin 6) (n : Fin 5) (r : Fin 16) (h : Fin 8) (d : Fin 96)
theorem g0_at : gY (iblk m c 0 t0_0) (iblk m c 1 t0_0) (iblk m c 4 t0_0) (iblk m c 5 t0_0) (ix5 b n r h d) = ((args m c).headG b n r 0 h).v d := by
  rw [gY_at, x0, x1, x5_at]
  exact congrArg (fun x => x * (args m c).zgs (ix3 b n r) * (args m c).st 0 h d) (Finset.sum_congr rfl fun i _ => congrArg (fun y => val ((args m c).zg (ix4 b n r i)) * val y) (x4_at m c i h d))
theorem m0_at (q : Fin 256) : mY (iblk m c 2 t0_0) (iblk m c 3 t0_0) (iblk m c 4 t0_0) (iblk m c 5 t0_0) (ix4 b q h d) = ((args m c).headM b q 0 h).v d := by
  rw [mY_at, x2, x3, x5_at]
  exact congrArg (fun x => x * (args m c).zms (ix2 b q) * (args m c).st 0 h d) (Finset.sum_congr rfl fun i _ => congrArg (fun y => val ((args m c).zm (ix3 b q i)) * val y) (x4_at m c i h d))
theorem g1_at : gY (iblk m c 0 t0_0) (iblk m c 1 t0_0) (iblk m c 6 t0_0) (iblk m c 7 t0_0) (ix5 b n r h d) = ((args m c).headG b n r 1 h).v d := by
  rw [gY_at, x0, x1, x7_at]
  exact congrArg (fun x => x * (args m c).zgs (ix3 b n r) * (args m c).st 1 h d) (Finset.sum_congr rfl fun i _ => congrArg (fun y => val ((args m c).zg (ix4 b n r i)) * val y) (x6_at m c i h d))
theorem m1_at (q : Fin 256) : mY (iblk m c 2 t0_0) (iblk m c 3 t0_0) (iblk m c 6 t0_0) (iblk m c 7 t0_0) (ix4 b q h d) = ((args m c).headM b q 1 h).v d := by
  rw [mY_at, x2, x3, x7_at]
  exact congrArg (fun x => x * (args m c).zms (ix2 b q) * (args m c).st 1 h d) (Finset.sum_congr rfl fun i _ => congrArg (fun y => val ((args m c).zm (ix3 b q i)) * val y) (x6_at m c i h d))
theorem g2_at : gY (iblk m c 0 t0_0) (iblk m c 1 t0_0) (iblk m c 8 t0_0) (iblk m c 9 t0_0) (ix5 b n r h d) = ((args m c).headG b n r 2 h).v d := by
  rw [gY_at, x0, x1, x9_at]
  exact congrArg (fun x => x * (args m c).zgs (ix3 b n r) * (args m c).st 2 h d) (Finset.sum_congr rfl fun i _ => congrArg (fun y => val ((args m c).zg (ix4 b n r i)) * val y) (x8_at m c i h d))

/-- One of the merged sequence's last 128 tokens. -/
abbrev last (q : Fin 128) : Fin 256 := ⟨128 + q.val, by omega⟩
theorem pay4_at (z : Vec Ideal S6x256x768 .i8) (q : Fin 128) (i : Fin 768) : k0_pay4 (F := Ideal) z (ix3 b q i) = z (ix3 b (last q) i) := by pointwise [k0_pay4]
theorem pay5_at (z : Vec Ideal S6x256 .f32) (q : Fin 128) : k0_pay5 (F := Ideal) z (ix2 b q) = z (ix2 b (last q)) := by pointwise [k0_pay5]
theorem q2_at (q : Fin 128) : qY (k0_pay4 (iblk m c 2 t0_0)) (k0_pay5 (iblk m c 3 t0_0)) (iblk m c 8 t0_0) (iblk m c 9 t0_0) (ix4 b q h d) = ((args m c).headM b (last q) 2 h).v d := by
  rw [qY_at, x2, x3, x9_at, pay5_at]
  exact congrArg (fun x => x * (args m c).zms (ix2 b (last q)) * (args m c).st 2 h d) (Finset.sum_congr rfl fun i _ => by rw [pay4_at, x8_at]; rfl)
end

theorem full0 (X : Vec Ideal S6x5x16x768 .i8) : View.ld X r0_0 = X := View.ld_unit_lit _ X (by decide)
theorem full1 (X : Vec Ideal S6x5x16 .f32) : View.ld X r0_1 = X := View.ld_unit_lit _ X (by decide)
theorem full2 (X : Vec Ideal S6x256x768 .i8) : View.ld X r0_2 = X := View.ld_unit_lit _ X (by decide)
theorem full3 (X : Vec Ideal S6x256 .f32) : View.ld X r0_3 = X := View.ld_unit_lit _ X (by decide)
theorem full4 (X : Vec Ideal S768x768 .i8) : View.ld X r0_4 = X := View.ld_unit_lit _ X (by decide)
theorem full5 (X : Vec Ideal S768 .f32) : View.ld X r0_5 = X := View.ld_unit_lit _ X (by decide)

section
variable {F : FTy → Type} [FloatOps F] (w : Vec F S768x768 .i8) (s : Vec F S768 .f32)

section
variable (z : Vec F S6x5x16x768 .i8) (zs : Vec F S6x5x16 .f32)
theorem kg_pay : k0_pay16 (k0_pay12 z zs w s) (k0_pay13 z zs w s) (k0_pay14 z zs w s) (Scalar.ofBits .f32 0x42FE0000#32) = gC (gY z zs w s) := rfl
theorem kgs_pay : k0_pay17 (k0_pay13 z zs w s) (k0_pay14 z zs w s) (Scalar.ofBits .f32 0x42FE0000#32) = gN (gY z zs w s) := rfl
theorem vg_pay : k0_pay25 z zs (k0_pay8 w) (k0_pay9 s) = gC (gY z zs w s) := rfl
theorem vgs_pay : k0_pay26 z zs (k0_pay8 w) (k0_pay9 s) = gN (gY z zs w s) := rfl
theorem qg_pay : k0_pay36 (k0_pay11 s) (k0_pay31 zs) (k0_pay32 z) (k0_pay33 (F := F) (k0_pay10 w)) (constant S480x768 .f32 0x00000000#32) = gC (gY z zs w s) := rfl
theorem qgs_pay : k0_pay37 (k0_pay11 s) (k0_pay31 zs) (k0_pay32 z) (k0_pay33 (F := F) (k0_pay10 w)) (constant S480x768 .f32 0x00000000#32) = gN (gY z zs w s) := rfl
end

section
variable (z : Vec F S6x256x768 .i8) (zs : Vec F S6x256 .f32)
theorem km_pay : k0_pay21 (k0_pay20 z zs (k0_pay6 w) (k0_pay7 s)) (Scalar.ofBits .f32 0xC2FE0000#32) (Scalar.ofBits .f32 0x42FE0000#32) = mC (mY z zs w s) := rfl
theorem kms_pay : k0_pay22 (k0_pay19 z zs (k0_pay6 w) (k0_pay7 s)) = mN (mY z zs w s) := rfl
theorem vm_pay : k0_pay29 z zs (k0_pay8 w) (k0_pay9 s) = mC (mY z zs w s) := rfl
theorem vms_pay : k0_pay30 z zs (k0_pay8 w) (k0_pay9 s) = mN (mY z zs w s) := rfl
theorem qm_pay : k0_pay2 (k0_pay38 (k0_pay4 z) (k0_pay5 zs) (k0_pay10 w) (k0_pay11 s)) (k0_pay39 (k0_pay4 z) (k0_pay5 zs) (k0_pay10 w) (k0_pay11 s)) = qC (qY (k0_pay4 z) (k0_pay5 zs) w s) := rfl
theorem qms_pay : k0_pay3 (k0_pay39 (k0_pay4 z) (k0_pay5 zs) (k0_pay10 w) (k0_pay11 s)) = qN (qY (k0_pay4 z) (k0_pay5 zs) w s) := rfl
end
end

/-! ## The arrays after the run -/

theorem kg_eq : (dats m 0 c).arrAt 10 cfg0.N = gC (gY (iblk m c 0 t0_0) (iblk m c 1 t0_0) (iblk m c 4 t0_0) (iblk m c 5 t0_0)) := by
  refine (dats m 0 c).arrAt_eq_of_after_last 10 t0_0 (by decide +kernel) _ fun j => ?_
  blk_simp
  rw [after0_10]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 0 t0_0 : Vec Ideal S6x5x16x768 .i8) = z
  generalize (iblk m c 1 t0_0 : Vec Ideal S6x5x16 .f32) = zs
  generalize (iblk m c 4 t0_0 : Vec Ideal S768x768 .i8) = w
  generalize (iblk m c 5 t0_0 : Vec Ideal S768 .f32) = s
  exact congrFun (kg_pay w s z zs) j
theorem kgs_eq : (dats m 0 c).arrAt 11 cfg0.N = gN (gY (iblk m c 0 t0_0) (iblk m c 1 t0_0) (iblk m c 4 t0_0) (iblk m c 5 t0_0)) := by
  refine (dats m 0 c).arrAt_eq_of_after_last 11 t0_0 (by decide +kernel) _ fun j => ?_
  blk_simp
  rw [after0_11]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 0 t0_0 : Vec Ideal S6x5x16x768 .i8) = z
  generalize (iblk m c 1 t0_0 : Vec Ideal S6x5x16 .f32) = zs
  generalize (iblk m c 4 t0_0 : Vec Ideal S768x768 .i8) = w
  generalize (iblk m c 5 t0_0 : Vec Ideal S768 .f32) = s
  exact congrFun (kgs_pay w s z zs) j
theorem km_eq : (dats m 0 c).arrAt 12 cfg0.N = mC (mY (iblk m c 2 t0_0) (iblk m c 3 t0_0) (iblk m c 4 t0_0) (iblk m c 5 t0_0)) := by
  refine (dats m 0 c).arrAt_eq_of_after_last 12 t0_0 (by decide +kernel) _ fun j => ?_
  blk_simp
  rw [after0_12]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 2 t0_0 : Vec Ideal S6x256x768 .i8) = z
  generalize (iblk m c 3 t0_0 : Vec Ideal S6x256 .f32) = zs
  generalize (iblk m c 4 t0_0 : Vec Ideal S768x768 .i8) = w
  generalize (iblk m c 5 t0_0 : Vec Ideal S768 .f32) = s
  exact congrFun (km_pay w s z zs) j
theorem kms_eq : (dats m 0 c).arrAt 13 cfg0.N = mN (mY (iblk m c 2 t0_0) (iblk m c 3 t0_0) (iblk m c 4 t0_0) (iblk m c 5 t0_0)) := by
  refine (dats m 0 c).arrAt_eq_of_after_last 13 t0_0 (by decide +kernel) _ fun j => ?_
  blk_simp
  rw [after0_13]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 2 t0_0 : Vec Ideal S6x256x768 .i8) = z
  generalize (iblk m c 3 t0_0 : Vec Ideal S6x256 .f32) = zs
  generalize (iblk m c 4 t0_0 : Vec Ideal S768x768 .i8) = w
  generalize (iblk m c 5 t0_0 : Vec Ideal S768 .f32) = s
  exact congrFun (kms_pay w s z zs) j
theorem vg_eq : (dats m 0 c).arrAt 14 cfg0.N = gC (gY (iblk m c 0 t0_0) (iblk m c 1 t0_0) (iblk m c 6 t0_0) (iblk m c 7 t0_0)) := by
  refine (dats m 0 c).arrAt_eq_of_after_last 14 t0_0 (by decide +kernel) _ fun j => ?_
  blk_simp
  rw [after0_14]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 0 t0_0 : Vec Ideal S6x5x16x768 .i8) = z
  generalize (iblk m c 1 t0_0 : Vec Ideal S6x5x16 .f32) = zs
  generalize (iblk m c 6 t0_0 : Vec Ideal S768x768 .i8) = w
  generalize (iblk m c 7 t0_0 : Vec Ideal S768 .f32) = s
  exact congrFun (vg_pay w s z zs) j
theorem vgs_eq : (dats m 0 c).arrAt 15 cfg0.N = gN (gY (iblk m c 0 t0_0) (iblk m c 1 t0_0) (iblk m c 6 t0_0) (iblk m c 7 t0_0)) := by
  refine (dats m 0 c).arrAt_eq_of_after_last 15 t0_0 (by decide +kernel) _ fun j => ?_
  blk_simp
  rw [after0_15]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 0 t0_0 : Vec Ideal S6x5x16x768 .i8) = z
  generalize (iblk m c 1 t0_0 : Vec Ideal S6x5x16 .f32) = zs
  generalize (iblk m c 6 t0_0 : Vec Ideal S768x768 .i8) = w
  generalize (iblk m c 7 t0_0 : Vec Ideal S768 .f32) = s
  exact congrFun (vgs_pay w s z zs) j
theorem vm_eq : (dats m 0 c).arrAt 16 cfg0.N = mC (mY (iblk m c 2 t0_0) (iblk m c 3 t0_0) (iblk m c 6 t0_0) (iblk m c 7 t0_0)) := by
  refine (dats m 0 c).arrAt_eq_of_after_last 16 t0_0 (by decide +kernel) _ fun j => ?_
  blk_simp
  rw [after0_16]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 2 t0_0 : Vec Ideal S6x256x768 .i8) = z
  generalize (iblk m c 3 t0_0 : Vec Ideal S6x256 .f32) = zs
  generalize (iblk m c 6 t0_0 : Vec Ideal S768x768 .i8) = w
  generalize (iblk m c 7 t0_0 : Vec Ideal S768 .f32) = s
  exact congrFun (vm_pay w s z zs) j
theorem vms_eq : (dats m 0 c).arrAt 17 cfg0.N = mN (mY (iblk m c 2 t0_0) (iblk m c 3 t0_0) (iblk m c 6 t0_0) (iblk m c 7 t0_0)) := by
  refine (dats m 0 c).arrAt_eq_of_after_last 17 t0_0 (by decide +kernel) _ fun j => ?_
  blk_simp
  rw [after0_17]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 2 t0_0 : Vec Ideal S6x256x768 .i8) = z
  generalize (iblk m c 3 t0_0 : Vec Ideal S6x256 .f32) = zs
  generalize (iblk m c 6 t0_0 : Vec Ideal S768x768 .i8) = w
  generalize (iblk m c 7 t0_0 : Vec Ideal S768 .f32) = s
  exact congrFun (vms_pay w s z zs) j
theorem qg_eq : (dats m 0 c).arrAt 18 cfg0.N = gC (gY (iblk m c 0 t0_0) (iblk m c 1 t0_0) (iblk m c 8 t0_0) (iblk m c 9 t0_0)) := by
  refine (dats m 0 c).arrAt_eq_of_after_last 18 t0_0 (by decide +kernel) _ fun j => ?_
  blk_simp
  rw [after0_18]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 0 t0_0 : Vec Ideal S6x5x16x768 .i8) = z
  generalize (iblk m c 1 t0_0 : Vec Ideal S6x5x16 .f32) = zs
  generalize (iblk m c 8 t0_0 : Vec Ideal S768x768 .i8) = w
  generalize (iblk m c 9 t0_0 : Vec Ideal S768 .f32) = s
  exact congrFun (qg_pay w s z zs) j
theorem qgs_eq : (dats m 0 c).arrAt 19 cfg0.N = gN (gY (iblk m c 0 t0_0) (iblk m c 1 t0_0) (iblk m c 8 t0_0) (iblk m c 9 t0_0)) := by
  refine (dats m 0 c).arrAt_eq_of_after_last 19 t0_0 (by decide +kernel) _ fun j => ?_
  blk_simp
  rw [after0_19]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 0 t0_0 : Vec Ideal S6x5x16x768 .i8) = z
  generalize (iblk m c 1 t0_0 : Vec Ideal S6x5x16 .f32) = zs
  generalize (iblk m c 8 t0_0 : Vec Ideal S768x768 .i8) = w
  generalize (iblk m c 9 t0_0 : Vec Ideal S768 .f32) = s
  exact congrFun (qgs_pay w s z zs) j
theorem qm_eq : (dats m 0 c).arrAt 20 cfg0.N = qC (qY (k0_pay4 (iblk m c 2 t0_0)) (k0_pay5 (iblk m c 3 t0_0)) (iblk m c 8 t0_0) (iblk m c 9 t0_0)) := by
  refine (dats m 0 c).arrAt_eq_of_after_last 20 t0_0 (by decide +kernel) _ fun j => ?_
  blk_simp
  rw [after0_20]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 2 t0_0 : Vec Ideal S6x256x768 .i8) = z
  generalize (iblk m c 3 t0_0 : Vec Ideal S6x256 .f32) = zs
  generalize (iblk m c 8 t0_0 : Vec Ideal S768x768 .i8) = w
  generalize (iblk m c 9 t0_0 : Vec Ideal S768 .f32) = s
  exact congrFun (qm_pay w s z zs) j
theorem qms_eq : (dats m 0 c).arrAt 21 cfg0.N = qN (qY (k0_pay4 (iblk m c 2 t0_0)) (k0_pay5 (iblk m c 3 t0_0)) (iblk m c 8 t0_0) (iblk m c 9 t0_0)) := by
  refine (dats m 0 c).arrAt_eq_of_after_last 21 t0_0 (by decide +kernel) _ fun j => ?_
  blk_simp
  rw [after0_21]
  frame_out
  simp only [k0_pay40, k0_pay41, k0_pay42, k0_pay43, k0_pay44, k0_pay45, k0_pay46, k0_pay47, k0_pay48, k0_pay49, k0_pay50, k0_pay51, k0_pay52, k0_pay53, k0_pay54, full0, full1, full2, full3, full4, full5]
  generalize (iblk m c 2 t0_0 : Vec Ideal S6x256x768 .i8) = z
  generalize (iblk m c 3 t0_0 : Vec Ideal S6x256 .f32) = zs
  generalize (iblk m c 8 t0_0 : Vec Ideal S768x768 .i8) = w
  generalize (iblk m c 9 t0_0 : Vec Ideal S768 .f32) = s
  exact congrFun (qms_pay w s z zs) j

section
variable (b : Fin 6) (n : Fin 5) (r : Fin 16) (h : Fin 8) (d : Fin 96)
theorem kg_at : (dats m 0 c).arrAt 10 cfg0.N (ix5 b n r h d) = ((args m c).headG b n r 0 h).cd d := by
  rw [kg_eq]; exact gC_at _ b n r h d _ (g0_at m c b n r h)
theorem kgs_at : (dats m 0 c).arrAt 11 cfg0.N (ix4 b n r h) = ((args m c).headG b n r 0 h).sc := by
  rw [kgs_eq]; exact gN_at _ b n r h _ (g0_at m c b n r h)
theorem km_at (q : Fin 256) : (dats m 0 c).arrAt 12 cfg0.N (ix4 b q h d) = ((args m c).headM b q 0 h).cd d := by
  rw [km_eq]; exact mC_at _ b q h d _ fun d => m0_at m c b h d q
theorem kms_at (q : Fin 256) : (dats m 0 c).arrAt 13 cfg0.N (ix3 b q h) = ((args m c).headM b q 0 h).sc := by
  rw [kms_eq]; exact mN_at _ b q h _ fun d => m0_at m c b h d q
theorem vg_at : (dats m 0 c).arrAt 14 cfg0.N (ix5 b n r h d) = ((args m c).headG b n r 1 h).cd d := by
  rw [vg_eq]; exact gC_at _ b n r h d _ (g1_at m c b n r h)
theorem vgs_at : (dats m 0 c).arrAt 15 cfg0.N (ix4 b n r h) = ((args m c).headG b n r 1 h).sc := by
  rw [vgs_eq]; exact gN_at _ b n r h _ (g1_at m c b n r h)
theorem vm_at (q : Fin 256) : (dats m 0 c).arrAt 16 cfg0.N (ix4 b q h d) = ((args m c).headM b q 1 h).cd d := by
  rw [vm_eq]; exact mC_at _ b q h d _ fun d => m1_at m c b h d q
theorem vms_at (q : Fin 256) : (dats m 0 c).arrAt 17 cfg0.N (ix3 b q h) = ((args m c).headM b q 1 h).sc := by
  rw [vms_eq]; exact mN_at _ b q h _ fun d => m1_at m c b h d q
theorem qg_at : (dats m 0 c).arrAt 18 cfg0.N (ix5 b n r h d) = ((args m c).headG b n r 2 h).cd d := by
  rw [qg_eq]; exact gC_at _ b n r h d _ (g2_at m c b n r h)
theorem qgs_at : (dats m 0 c).arrAt 19 cfg0.N (ix4 b n r h) = ((args m c).headG b n r 2 h).sc := by
  rw [qgs_eq]; exact gN_at _ b n r h _ (g2_at m c b n r h)
theorem qm_at (q : Fin 128) : (dats m 0 c).arrAt 20 cfg0.N (ix4 b q h d) = ((args m c).headM b (last q) 2 h).cd d := by
  rw [qm_eq]; exact qC_at _ b q h d _ fun d => q2_at m c b h d q
theorem qms_at (q : Fin 128) : (dats m 0 c).arrAt 21 cfg0.N (ix3 b q h) = ((args m c).headM b (last q) 2 h).sc := by
  rw [qms_eq]; exact qN_at _ b q h _ fun d => q2_at m c b h d q
end

end Cert.HeadsReferenceIdeal.Results

end
-- ==== Proof.HeadOperands.lean ====
/- The projections' operand blocks at an index, in the arrays they were launched with. -/
module

public import proofs.«01_k».proof.Proof.HeadCases
public import proofs.«01_k».proof.Proof.HeadReference
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.HeadsIdeal.Operands

open Cert.HeadsIdeal Cert.HeadsIdeal.Gen Cert.HeadsIdeal.Blocks Cert.HeadsIdeal.Cases Cert.Spec Cert.HeadSpec
open Cert.HeadsReferenceIdeal.Results (Args)

variable (m : (ℓ : Loc nD τ sig) → Buf (Elt Ideal) ℓ) (c : Dev nD) (t : Fin cfg0.N)

/-- What the results are computed from: the arrays the kernel was launched with. -/
def args : Args where
  zg := m ((c : Thread nD τ).loc main_arg0)
  zgs := m ((c : Thread nD τ).loc main_arg1)
  zm := m ((c : Thread nD τ).loc main_arg2)
  zms := m ((c : Thread nD τ).loc main_arg3)
  wkv := m ((c : Thread nD τ).loc main_arg4)
  skv := m ((c : Thread nD τ).loc main_arg5)
  wq := m ((c : Thread nD τ).loc main_arg6)
  sq := m ((c : Thread nD τ).loc main_arg7)

/-- The batch a point of the grid works on. -/
abbrev batch : Fin 6 := ⟨t.val, t.isLt⟩

/-- The windows' index maps. -/
theorem idx : ∀ t : Fin cfg0.N, win0_0.index t = ![t.val, 0, 0] ∧ win0_1.index t = ![t.val, 0, 0] ∧ win0_2.index t = ![0, 0] ∧ win0_3.index t = ![0, 0] :=
  (by decide +kernel : ∀ t : Fin grid0.N, _)

theorem codes_at (z : Vec Ideal S1x768x384 .i8) (i : Fin 768) (q : Fin 384) : k0_pay2 (F := Ideal) z (ix2 i q) = val (z (ix3 0 i q)) := by
  unfold val
  pointwise [k0_pay2]
theorem weights_at (w : Vec Ideal S2304x768 .i8) (e : Fin 2304) (i : Fin 768) : k0_pay3 (F := Ideal) w (ix2 e i) = val (w (ix2 e i)) := by
  unfold val
  pointwise [k0_pay3]
theorem row_at (z : Vec Ideal S1x1x384 .f32) (q : Fin 384) : (shapeCast S1x384 z squeezes_S1x1x384_S1x384.numel_eq : Vec Ideal S1x384 .f32) (ix2 0 q) = z (ix3 0 0 q) := by
  pointwise

/-- The tokens' codes as the host makes them. -/
theorem V_v10 : (V m c main_v10 : Vec Ideal S6x768x384 .i8)
    = transpose S6x768x384 [0, 2, 1] (concatenate S6x384x768 1 [⟨S6x256x768, (m ((c : Thread nD τ).loc main_arg2) : Vec Ideal S6x256x768 .i8)⟩,
        ⟨S6x128x768, pad (α := Elt Ideal .i8) S6x128x768 ![0, 0, 0] ![0, 48, 0] ![0, 0, 0] (shapeCast S6x80x768 (m ((c : Thread nD τ).loc main_arg0) : Vec Ideal S6x5x16x768 .i8) shapeCasts_S6x5x16x768_S6x80x768)
          (trunci 8 (constantI S_ 32 0#32) natLt_8_32) pads_S6x80x768_S6x128x768_000_0480_000 h_S_⟩] concatenates_S6x256x768_S6x128x768_S6x384x768_d1) transposes_S6x384x768_S6x768x384_0_2_1 := by
  simp only [V, List.flatten_cons, List.flatten_nil, hostOps0, hostOps0_1, hostOps0_2, hostOps0_3, hostOps0_4, List.cons_append, List.nil_append, List.append_nil]
  entry_read
  rfl
theorem V_v10_M (b : Fin 6) (i : Fin 768) (q : Fin 256) : (V m c main_v10 : Vec Ideal S6x768x384 .i8) (ix3 b i (tokM q)) = (args m c).zm (ix3 b q i) := by
  rw [V_v10]
  pointwise
  rfl
theorem joined_at (A : Vec Ideal S6x256x768 .i8) (P : Vec Ideal S6x128x768 .i8) (b : Fin 6) (i : Fin 768) (n : Fin 5) (r : Fin 16) :
    transpose S6x768x384 [0, 2, 1] (concatenate S6x384x768 1 [⟨S6x256x768, A⟩, ⟨S6x128x768, P⟩] concatenates_S6x256x768_S6x128x768_S6x384x768_d1) transposes_S6x384x768_S6x768x384_0_2_1 (ix3 b i (tokG n r))
      = P (ix3 b (⟨n.val * 16 + r.val, by omega⟩ : Fin 128) i) := by
  pointwise
theorem padded_at (A : Vec Ideal S6x5x16x768 .i8) (v : Vec Ideal S_ .i8) (b : Fin 6) (i : Fin 768) (n : Fin 5) (r : Fin 16) :
    pad (α := Elt Ideal .i8) S6x128x768 ![0, 0, 0] ![0, 48, 0] ![0, 0, 0] (shapeCast S6x80x768 A shapeCasts_S6x5x16x768_S6x80x768) v pads_S6x80x768_S6x128x768_000_0480_000 h_S_
      (ix3 b (⟨n.val * 16 + r.val, by omega⟩ : Fin 128) i) = A (ix4 b n r i) := by
  pointwise
  exact dif_pos (show n.val * 16 + r.val < 80 by omega)
theorem V_v10_G (b : Fin 6) (i : Fin 768) (n : Fin 5) (r : Fin 16) : (V m c main_v10 : Vec Ideal S6x768x384 .i8) (ix3 b i (tokG n r)) = (args m c).zg (ix4 b n r i) := by
  rw [V_v10]
  exact (joined_at _ _ b i n r).trans (padded_at _ _ b i n r)
theorem z_block (i : Fin 768) (q : Fin 384) : (iblk m c 0 t : Vec Ideal S1x768x384 .i8) (ix3 0 i q) = (V m c main_v10 : Vec Ideal S6x768x384 .i8) (ix3 (batch t) i q) := by
  blk_ext [iblk, idx t]
theorem zM_at (i : Fin 768) (q : Fin 256) : (iblk m c 0 t : Vec Ideal S1x768x384 .i8) (ix3 0 i (tokM q)) = (args m c).zm (ix3 (batch t) q i) :=
  (z_block m c t i _).trans (V_v10_M m c (batch t) i q)
theorem zG_at (i : Fin 768) (n : Fin 5) (r : Fin 16) : (iblk m c 0 t : Vec Ideal S1x768x384 .i8) (ix3 0 i (tokG n r)) = (args m c).zg (ix4 (batch t) n r i) :=
  (z_block m c t i _).trans (V_v10_G m c (batch t) i n r)

/-- The tokens' scales as the host makes them. -/
theorem V_v15 : (V m c main_v15 : Vec Ideal S6x1x384 .f32)
    = transpose S6x1x384 [0, 2, 1] (concatenate S6x384x1 1 [⟨S6x256x1, shapeCast S6x256x1 (m ((c : Thread nD τ).loc main_arg3) : Vec Ideal S6x256 .f32) shapeCasts_S6x256_S6x256x1⟩,
        ⟨S6x128x1, pad (α := Elt Ideal .f32) S6x128x1 ![0, 0, 0] ![0, 48, 0] ![0, 0, 0] (shapeCast S6x80x1 (m ((c : Thread nD τ).loc main_arg1) : Vec Ideal S6x5x16 .f32) shapeCasts_S6x5x16_S6x80x1)
          (sitofp (F := Ideal) FTy.f32 (constantI S_ 32 0#32)) pads_S6x80x1_S6x128x1_000_0480_000 h_S_⟩] concatenates_S6x256x1_S6x128x1_S6x384x1_d1) transposes_S6x384x1_S6x1x384_0_2_1 := by
  simp only [V, List.flatten_cons, List.flatten_nil, hostOps0, hostOps0_1, hostOps0_2, hostOps0_3, hostOps0_4, List.cons_append, List.nil_append, List.append_nil]
  entry_read
  rfl
theorem V_v15_M (b : Fin 6) (q : Fin 256) : (V m c main_v15 : Vec Ideal S6x1x384 .f32) (ix3 b 0 (tokM q)) = (args m c).zms (ix2 b q) := by
  rw [V_v15]
  pointwise
  rfl
theorem V_v15_G (b : Fin 6) (n : Fin 5) (r : Fin 16) : (V m c main_v15 : Vec Ideal S6x1x384 .f32) (ix3 b 0 (tokG n r)) = (args m c).zgs (ix3 b n r) := by
  rw [V_v15]
  pointwise
  exact dif_pos (show n.val * 16 + r.val < 80 by omega)
theorem zs_block (q : Fin 384) : (iblk m c 1 t : Vec Ideal S1x1x384 .f32) (ix3 0 0 q) = (V m c main_v15 : Vec Ideal S6x1x384 .f32) (ix3 (batch t) 0 q) := by
  blk_ext [iblk, idx t]
theorem zsM_at (q : Fin 256) : (iblk m c 1 t : Vec Ideal S1x1x384 .f32) (ix3 0 0 (tokM q)) = (args m c).zms (ix2 (batch t) q) :=
  (zs_block m c t _).trans (V_v15_M m c (batch t) q)
theorem zsG_at (n : Fin 5) (r : Fin 16) : (iblk m c 1 t : Vec Ideal S1x1x384 .f32) (ix3 0 0 (tokG n r)) = (args m c).zgs (ix3 (batch t) n r) :=
  (zs_block m c t _).trans (V_v15_G m c (batch t) n r)

/-- The weights as the host makes them. -/
theorem V_v3 : (V m c main_v3 : Vec Ideal S2304x768 .i8)
    = transpose S2304x768 [1, 0] (concatenate S768x2304 1 [⟨S768x1536, shapeCast S768x1536 (m ((c : Thread nD τ).loc main_arg4) : Vec Ideal S768x2x8x96 .i8) shapeCasts_S768x2x8x96_S768x1536⟩,
        ⟨S768x768, shapeCast S768x768 (m ((c : Thread nD τ).loc main_arg6) : Vec Ideal S768x8x96 .i8) shapeCasts_S768x8x96_S768x768⟩] concatenates_S768x1536_S768x768_S768x2304_d1) transposes_S768x2304_S2304x768_1_0 := by
  simp only [V, List.flatten_cons, List.flatten_nil, hostOps0, hostOps0_1, hostOps0_2, hostOps0_3, hostOps0_4, List.cons_append, List.nil_append, List.append_nil]
  entry_read
  rfl
/-- The weights' scales as the host makes them. -/
theorem V_v17 : (V m c main_v17 : Vec Ideal S2304x128 .f32)
    = broadcastInDim S2304x128 ![0, 1] bcast_S2304x1_S2304x128_0_1 (shapeCast S2304x1 (concatenate S2304 0 [⟨S1536, shapeCast S1536 (m ((c : Thread nD τ).loc main_arg5) : Vec Ideal S2x8x96 .f32) shapeCasts_S2x8x96_S1536⟩,
        ⟨S768, shapeCast S768 (m ((c : Thread nD τ).loc main_arg7) : Vec Ideal S8x96 .f32) shapeCasts_S8x96_S768⟩] concatenates_S1536_S768_S2304_d0) shapeCasts_S2304_S2304x1) := by
  simp only [V, List.flatten_cons, List.flatten_nil, hostOps0, hostOps0_1, hostOps0_2, hostOps0_3, hostOps0_4, List.cons_append, List.nil_append, List.append_nil]
  entry_read
  rfl
theorem w_block (e : Fin 2304) (i : Fin 768) : (iblk m c 2 t : Vec Ideal S2304x768 .i8) (ix2 e i) = (V m c main_v3 : Vec Ideal S2304x768 .i8) (ix2 e i) := by
  blk_ext [iblk, idx t]
theorem s_block (e : Fin 2304) (j : Fin 128) : (iblk m c 3 t : Vec Ideal S2304x128 .f32) (ix2 e j) = (V m c main_v17 : Vec Ideal S2304x128 .f32) (ix2 e j) := by
  blk_ext [iblk, idx t]

theorem w0_at (h : Fin 8) (d : Fin 96) (i : Fin 768) : (V m c main_v3 : Vec Ideal S2304x768 .i8) (ix2 (entry (hd 0 h) d) i) = (args m c).wt 0 i h d := by
  rw [V_v3]
  pointwise
  refine (dif_pos (show h.val * 96 + d.val < 1536 by omega)).trans ?_
  have e : (h.val * 96 + d.val) / 768 = 0 := by omega
  refine congrArg (args m c).wkv ?_
  simp only [e]
  rfl
theorem s0_at (h : Fin 8) (d : Fin 96) (j : Fin 128) : (V m c main_v17 : Vec Ideal S2304x128 .f32) (ix2 (entry (hd 0 h) d) j) = (args m c).st 0 h d := by
  rw [V_v17]
  pointwise
  refine (dif_pos (show h.val * 96 + d.val < 1536 by omega)).trans ?_
  have e : (h.val * 96 + d.val) / 768 = 0 := by omega
  refine congrArg (args m c).skv ?_
  simp only [e]
  rfl
theorem w1_at (h : Fin 8) (d : Fin 96) (i : Fin 768) : (V m c main_v3 : Vec Ideal S2304x768 .i8) (ix2 (entry (hd 1 h) d) i) = (args m c).wt 1 i h d := by
  rw [V_v3]
  pointwise
  refine (dif_pos (show ((1 * 8 + h.val) * 96 + d.val) < 1536 by omega)).trans (congrArg (args m c).wkv ?_)
  have e1 : ((1 * 8 + h.val) * 96 + d.val) / 768 = 1 := by omega
  have e2 : ((1 * 8 + h.val) * 96 + d.val) / 96 % 8 = h.val := by omega
  have e3 : ((1 * 8 + h.val) * 96 + d.val) % 96 = d.val := by omega
  simp only [e1, e2, e3]
  rfl
theorem s1_at (h : Fin 8) (d : Fin 96) (j : Fin 128) : (V m c main_v17 : Vec Ideal S2304x128 .f32) (ix2 (entry (hd 1 h) d) j) = (args m c).st 1 h d := by
  rw [V_v17]
  pointwise
  refine (dif_pos (show ((1 * 8 + h.val) * 96 + d.val) < 1536 by omega)).trans (congrArg (args m c).skv ?_)
  have e1 : ((1 * 8 + h.val) * 96 + d.val) / 768 = 1 := by omega
  have e2 : ((1 * 8 + h.val) * 96 + d.val) / 96 % 8 = h.val := by omega
  have e3 : ((1 * 8 + h.val) * 96 + d.val) % 96 = d.val := by omega
  simp only [e1, e2, e3]
  rfl
theorem w2_at (h : Fin 8) (d : Fin 96) (i : Fin 768) : (V m c main_v3 : Vec Ideal S2304x768 .i8) (ix2 (entry (hd 2 h) d) i) = (args m c).wt 2 i h d := by
  rw [V_v3]
  pointwise
  refine (dif_neg (show ¬ (((2 * 8 + h.val) * 96 + d.val) < 1536) by omega)).trans (congrArg (args m c).wq ?_)
  have e1 : (((2 * 8 + h.val) * 96 + d.val) - 1536) / 96 = h.val := by omega
  have e2 : (((2 * 8 + h.val) * 96 + d.val) - 1536) % 96 = d.val := by omega
  simp only [e1, e2]
theorem s2_at (h : Fin 8) (d : Fin 96) (j : Fin 128) : (V m c main_v17 : Vec Ideal S2304x128 .f32) (ix2 (entry (hd 2 h) d) j) = (args m c).st 2 h d := by
  rw [V_v17]
  pointwise
  refine (dif_neg (show ¬ (((2 * 8 + h.val) * 96 + d.val) < 1536) by omega)).trans (congrArg (args m c).sq ?_)
  have e1 : (((2 * 8 + h.val) * 96 + d.val) - 1536) / 96 = h.val := by omega
  have e2 : (((2 * 8 + h.val) * 96 + d.val) - 1536) % 96 = d.val := by omega
  simp only [e1, e2]
theorem w_at (k : Fin 3) (h : Fin 8) (d : Fin 96) (i : Fin 768) : (iblk m c 2 t : Vec Ideal S2304x768 .i8) (ix2 (entry (hd k h) d) i) = (args m c).wt k i h d :=
  match k with
  | 0 => (w_block m c t _ i).trans (w0_at m c h d i)
  | 1 => (w_block m c t _ i).trans (w1_at m c h d i)
  | 2 => (w_block m c t _ i).trans (w2_at m c h d i)
theorem s_at (k : Fin 3) (h : Fin 8) (d : Fin 96) (j : Fin 128) : (iblk m c 3 t : Vec Ideal S2304x128 .f32) (ix2 (entry (hd k h) d) j) = (args m c).st k h d :=
  match k with
  | 0 => (s_block m c t _ j).trans (s0_at m c h d j)
  | 1 => (s_block m c t _ j).trans (s1_at m c h d j)
  | 2 => (s_block m c t _ j).trans (s2_at m c h d j)

/-- A head of a token of the merged sequence is what the blocks hold. -/
theorem fitsM (k : Fin 3) (h : Fin 8) (q : Fin 256) : Fits (ops m c t) (hd k h) (tokM q) ((args m c).headM (batch t) q k h) where
  z i := (codes_at _ i _).trans (congrArg val (zM_at m c t i q))
  zs := (row_at _ _).trans (zsM_at m c t q)
  w d i := (weights_at _ _ i).trans (congrArg val (w_at m c t k h d i))
  ws d j := s_at m c t k h d j
/-- A global token's head is what the blocks hold. -/
theorem fitsG (k : Fin 3) (h : Fin 8) (n : Fin 5) (r : Fin 16) : Fits (ops m c t) (hd k h) (tokG n r) ((args m c).headG (batch t) n r k h) where
  z i := (codes_at _ i _).trans (congrArg val (zG_at m c t i n r))
  zs := (row_at _ _).trans (zsG_at m c t n r)
  w d i := (weights_at _ _ i).trans (congrArg val (w_at m c t k h d i))
  ws d j := s_at m c t k h d j

end Cert.HeadsIdeal.Operands

end
-- ==== Proof.HeadResults.lean ====
/- The projections' results, at an index: each entry is read off the head of `Proof/HeadSpec.lean` that its batch, token
   and number name, computed from the arrays the kernel was launched with. -/
module

public import proofs.«01_k».proof.Proof.HeadOperands
public import proofs.«01_k».proof.Proof.Gen.HeadsIdeal.Value

@[expose] public section

set_option maxRecDepth 16384

noncomputable section

open Idealize.ShloMosaic Idealize.ShloMosaic.TcCoe Idealize.SL.Sem

namespace Cert.HeadsIdeal.Results

open Cert.HeadsIdeal Cert.HeadsIdeal.Gen Cert.HeadsIdeal.Value Cert.HeadsIdeal.Blocks Cert.HeadsIdeal.Cases Cert.HeadsIdeal.Operands Cert.HeadSpec
open Cert.HeadsReferenceIdeal.Results (last)

variable (m : (ℓ : Loc nD τ sig) → Buf (Elt Ideal) ℓ) (c : Dev nD)

/-- The output windows' index maps. -/
theorem oidx : ∀ t : Fin cfg0.N, win0_4.index t = ![t.val, 0, 0, 0, 0]
    ∧ win0_5.index t = ![t.val, 0, 0, 0]
    ∧ win0_6.index t = ![t.val, 0, 0, 0]
    ∧ win0_7.index t = ![t.val, 0, 0]
    ∧ win0_8.index t = ![t.val, 0, 0, 0, 0]
    ∧ win0_9.index t = ![t.val, 0, 0, 0]
    ∧ win0_10.index t = ![t.val, 0, 0, 0]
    ∧ win0_11.index t = ![t.val, 0, 0]
    ∧ win0_12.index t = ![t.val, 0, 0, 0, 0]
    ∧ win0_13.index t = ![t.val, 0, 0, 0]
    ∧ win0_14.index t = ![t.val, 0, 0, 0]
    ∧ win0_15.index t = ![t.val, 0, 0] :=
  (by decide +kernel : ∀ t : Fin grid0.N, _)

/-- Every point writes its blocks back. -/
theorem flush : ∀ t : Fin cfg0.N, (cfg0.win 4).flush t = true ∧ (cfg0.win 5).flush t = true ∧ (cfg0.win 6).flush t = true ∧ (cfg0.win 7).flush t = true ∧ (cfg0.win 8).flush t = true ∧ (cfg0.win 9).flush t = true ∧ (cfg0.win 10).flush t = true ∧ (cfg0.win 11).flush t = true ∧ (cfg0.win 12).flush t = true ∧ (cfg0.win 13).flush t = true ∧ (cfg0.win 14).flush t = true ∧ (cfg0.win 15).flush t = true :=
  (by decide +kernel : ∀ t : Fin grid0.N, _)

variable (b : Fin 6) (n : Fin 5) (r : Fin 16) (h : Fin 8) (d : Fin 96)

/-- The point that works on a batch. -/
abbrev point (b : Fin 6) : Fin cfg0.N := ⟨b.val, b.isLt⟩

theorem kg_at : (dats m 0 c).arrAt 4 cfg0.N (ix5 b n r h d) = ((args m c).headG b n r 0 h).cd d := by
  have x := congrFun (blocks4 m c (point b) (flush (point b)).1) (ix5 0 n r h d)
  rw [flushed4, out4] at x
  have e : ((cfg0.win 4).blk (point b)).view.read (Elt Ideal) ((dats m 0 c).arrAt 4 cfg0.N) (ix5 0 n r h d) = (dats m 0 c).arrAt 4 cfg0.N (ix5 b n r h d) := by
    blk_ext [oidx (point b)]
  refine e.symm.trans (x.trans (Eq.trans (b := oG (ops m c (point b)) 0 (ix5 0 n r h d)) rfl ?_))
  exact oG_at _ d h (fitsG m c (point b) 0 h n r)
theorem kgs_at : (dats m 0 c).arrAt 5 cfg0.N (ix4 b n r h) = ((args m c).headG b n r 0 h).sc := by
  have x := congrFun (blocks5 m c (point b) (flush (point b)).2.1) (ix4 0 n r h)
  rw [flushed5, out5] at x
  have e : ((cfg0.win 5).blk (point b)).view.read (Elt Ideal) ((dats m 0 c).arrAt 5 cfg0.N) (ix4 0 n r h) = (dats m 0 c).arrAt 5 cfg0.N (ix4 b n r h) := by
    blk_ext [oidx (point b)]
  refine e.symm.trans (x.trans (Eq.trans (b := oGs (ops m c (point b)) 0 (ix4 0 n r h)) rfl ?_))
  exact oGs_at _ h (fitsG m c (point b) 0 h n r)
theorem km_at (q : Fin 256) : (dats m 0 c).arrAt 6 cfg0.N (ix4 b q h d) = ((args m c).headM b q 0 h).cd d := by
  have x := congrFun (blocks6 m c (point b) (flush (point b)).2.2.1) (ix4 0 q h d)
  rw [flushed6, out6] at x
  have e : ((cfg0.win 6).blk (point b)).view.read (Elt Ideal) ((dats m 0 c).arrAt 6 cfg0.N) (ix4 0 q h d) = (dats m 0 c).arrAt 6 cfg0.N (ix4 b q h d) := by
    blk_ext [oidx (point b)]
  refine e.symm.trans (x.trans (Eq.trans (b := oM (ops m c (point b)) 0 (ix4 0 q h d)) rfl ?_))
  exact oM_at _ d h (fitsM m c (point b) 0 h q)
theorem kms_at (q : Fin 256) : (dats m 0 c).arrAt 7 cfg0.N (ix3 b q h) = ((args m c).headM b q 0 h).sc := by
  have x := congrFun (blocks7 m c (point b) (flush (point b)).2.2.2.1) (ix3 0 q h)
  rw [flushed7, out7] at x
  have e : ((cfg0.win 7).blk (point b)).view.read (Elt Ideal) ((dats m 0 c).arrAt 7 cfg0.N) (ix3 0 q h) = (dats m 0 c).arrAt 7 cfg0.N (ix3 b q h) := by
    blk_ext [oidx (point b)]
  refine e.symm.trans (x.trans (Eq.trans (b := oMs (ops m c (point b)) 0 (ix3 0 q h)) rfl ?_))
  exact oMs_at _ h (fitsM m c (point b) 0 h q)
theorem vg_at : (dats m 0 c).arrAt 8 cfg0.N (ix5 b n r h d) = ((args m c).headG b n r 1 h).cd d := by
  have x := congrFun (blocks8 m c (point b) (flush (point b)).2.2.2.2.1) (ix5 0 n r h d)
  rw [flushed8, out8] at x
  have e : ((cfg0.win 8).blk (point b)).view.read (Elt Ideal) ((dats m 0 c).arrAt 8 cfg0.N) (ix5 0 n r h d) = (dats m 0 c).arrAt 8 cfg0.N (ix5 b n r h d) := by
    blk_ext [oidx (point b)]
  refine e.symm.trans (x.trans (Eq.trans (b := oG (ops m c (point b)) 1 (ix5 0 n r h d)) rfl ?_))
  exact oG_at _ d h (fitsG m c (point b) 1 h n r)
theorem vgs_at : (dats m 0 c).arrAt 9 cfg0.N (ix4 b n r h) = ((args m c).headG b n r 1 h).sc := by
  have x := congrFun (blocks9 m c (point b) (flush (point b)).2.2.2.2.2.1) (ix4 0 n r h)
  rw [flushed9, out9] at x
  have e : ((cfg0.win 9).blk (point b)).view.read (Elt Ideal) ((dats m 0 c).arrAt 9 cfg0.N) (ix4 0 n r h) = (dats m 0 c).arrAt 9 cfg0.N (ix4 b n r h) := by
    blk_ext [oidx (point b)]
  refine e.symm.trans (x.trans (Eq.trans (b := oGs (ops m c (point b)) 1 (ix4 0 n r h)) rfl ?_))
  exact oGs_at _ h (fitsG m c (point b) 1 h n r)
theorem vm_at (q : Fin 256) : (dats m 0 c).arrAt 10 cfg0.N (ix4 b q h d) = ((args m c).headM b q 1 h).cd d := by
  have x := congrFun (blocks10 m c (point b) (flush (point b)).2.2.2.2.2.2.1) (ix4 0 q h d)
  rw [flushed10, out10] at x
  have e : ((cfg0.win 10).blk (point b)).view.read (Elt Ideal) ((dats m 0 c).arrAt 10 cfg0.N) (ix4 0 q h d) = (dats m 0 c).arrAt 10 cfg0.N (ix4 b q h d) := by
    blk_ext [oidx (point b)]
  refine e.symm.trans (x.trans (Eq.trans (b := oM (ops m c (point b)) 1 (ix4 0 q h d)) rfl ?_))
  exact oM_at _ d h (fitsM m c (point b) 1 h q)
theorem vms_at (q : Fin 256) : (dats m 0 c).arrAt 11 cfg0.N (ix3 b q h) = ((args m c).headM b q 1 h).sc := by
  have x := congrFun (blocks11 m c (point b) (flush (point b)).2.2.2.2.2.2.2.1) (ix3 0 q h)
  rw [flushed11, out11] at x
  have e : ((cfg0.win 11).blk (point b)).view.read (Elt Ideal) ((dats m 0 c).arrAt 11 cfg0.N) (ix3 0 q h) = (dats m 0 c).arrAt 11 cfg0.N (ix3 b q h) := by
    blk_ext [oidx (point b)]
  refine e.symm.trans (x.trans (Eq.trans (b := oMs (ops m c (point b)) 1 (ix3 0 q h)) rfl ?_))
  exact oMs_at _ h (fitsM m c (point b) 1 h q)
theorem qg_at : (dats m 0 c).arrAt 12 cfg0.N (ix5 b n r h d) = ((args m c).headG b n r 2 h).cd d := by
  have x := congrFun (blocks12 m c (point b) (flush (point b)).2.2.2.2.2.2.2.2.1) (ix5 0 n r h d)
  rw [flushed12, out12] at x
  have e : ((cfg0.win 12).blk (point b)).view.read (Elt Ideal) ((dats m 0 c).arrAt 12 cfg0.N) (ix5 0 n r h d) = (dats m 0 c).arrAt 12 cfg0.N (ix5 b n r h d) := by
    blk_ext [oidx (point b)]
  refine e.symm.trans (x.trans (Eq.trans (b := oGq (ops m c (point b)) (ix5 0 n r h d)) rfl ?_))
  exact oGq_at _ d h (fitsG m c (point b) 2 h n r)
theorem qgs_at : (dats m 0 c).arrAt 13 cfg0.N (ix4 b n r h) = ((args m c).headG b n r 2 h).sc := by
  have x := congrFun (blocks13 m c (point b) (flush (point b)).2.2.2.2.2.2.2.2.2.1) (ix4 0 n r h)
  rw [flushed13, out13] at x
  have e : ((cfg0.win 13).blk (point b)).view.read (Elt Ideal) ((dats m 0 c).arrAt 13 cfg0.N) (ix4 0 n r h) = (dats m 0 c).arrAt 13 cfg0.N (ix4 b n r h) := by
    blk_ext [oidx (point b)]
  refine e.symm.trans (x.trans (Eq.trans (b := oGs (ops m c (point b)) 2 (ix4 0 n r h)) rfl ?_))
  exact oGs_at _ h (fitsG m c (point b) 2 h n r)
theorem qm_at (q : Fin 128) : (dats m 0 c).arrAt 14 cfg0.N (ix4 b q h d) = ((args m c).headM b (last q) 2 h).cd d := by
  have x := congrFun (blocks14 m c (point b) (flush (point b)).2.2.2.2.2.2.2.2.2.2.1) (ix4 0 q h d)
  rw [flushed14, out14] at x
  have e : ((cfg0.win 14).blk (point b)).view.read (Elt Ideal) ((dats m 0 c).arrAt 14 cfg0.N) (ix4 0 q h d) = (dats m 0 c).arrAt 14 cfg0.N (ix4 b q h d) := by
    blk_ext [oidx (point b)]
  refine e.symm.trans (x.trans (Eq.trans (b := oMq (ops m c (point b)) (ix4 0 q h d)) rfl ?_))
  exact oMq_at _ d h (fitsM m c (point b) 2 h (last q))
theorem qms_at (q : Fin 128) : (dats m 0 c).arrAt 15 cfg0.N (ix3 b q h) = ((args m c).headM b (last q) 2 h).sc := by
  have x := congrFun (blocks15 m c (point b) (flush (point b)).2.2.2.2.2.2.2.2.2.2.2) (ix3 0 q h)
  rw [flushed15, out15] at x
  have e : ((cfg0.win 15).blk (point b)).view.read (Elt Ideal) ((dats m 0 c).arrAt 15 cfg0.N) (ix3 0 q h) = (dats m 0 c).arrAt 15 cfg0.N (ix3 b q h) := by
    blk_ext [oidx (point b)]
  refine e.symm.trans (x.trans (Eq.trans (b := oMsq (ops m c (point b)) (ix3 0 q h)) rfl ?_))
  exact oMsq_at _ h (fitsM m c (point b) 2 h (last q))

end Cert.HeadsIdeal.Results

end
-- ==== Proof.HeadAgree.lean ====
/- The projections' results are their reference's: both are read off the same heads, computed from equal arrays. -/
module

public import proofs.«01_k».proof.Proof.HeadResults

@[expose] public section

set_option maxRecDepth 16384

noncomputable section

open Idealize.ShloMosaic Idealize.ShloMosaic.TcCoe Idealize.SL.Sem

namespace Cert.HeadAgree

variable (m : (ℓ : Loc HeadsIdeal.nD HeadsIdeal.τ HeadsIdeal.sig) → Buf (Elt Ideal) ℓ)
  (m' : (ℓ : Loc HeadsReferenceIdeal.nD HeadsReferenceIdeal.τ HeadsReferenceIdeal.sig) → Buf (Elt Ideal) ℓ) (c : Dev HeadsIdeal.nD)
  (E : HeadsReferenceIdeal.Results.args m' c = HeadsIdeal.Operands.args m c)
include E

theorem kg_eq : (HeadsReferenceIdeal.Gen.dats m' 0 c).arrAt 10 HeadsReferenceIdeal.cfg0.N = (HeadsIdeal.Gen.dats m 0 c).arrAt 4 HeadsIdeal.cfg0.N := by
  funext (i : HeadsIdeal.S6x5x16x8x96.Idx)
  obtain ⟨b, n, r, h, d, rfl⟩ : ∃ b n r h d, i = ix5 b n r h d := ⟨i 0, i 1, i 2, i 3, i 4, by funext a; fin_cases a <;> rfl⟩
  have x := HeadsReferenceIdeal.Results.kg_at m' c b n r h d
  rw [E] at x
  exact x.trans (HeadsIdeal.Results.kg_at m c b n r h d).symm
theorem kgs_eq : (HeadsReferenceIdeal.Gen.dats m' 0 c).arrAt 11 HeadsReferenceIdeal.cfg0.N = (HeadsIdeal.Gen.dats m 0 c).arrAt 5 HeadsIdeal.cfg0.N := by
  funext (i : HeadsIdeal.S6x5x16x8.Idx)
  obtain ⟨b, n, r, h, rfl⟩ : ∃ b n r h, i = ix4 b n r h := ⟨i 0, i 1, i 2, i 3, by funext a; fin_cases a <;> rfl⟩
  have x := HeadsReferenceIdeal.Results.kgs_at m' c b n r h
  rw [E] at x
  exact x.trans (HeadsIdeal.Results.kgs_at m c b n r h).symm
theorem km_eq : (HeadsReferenceIdeal.Gen.dats m' 0 c).arrAt 12 HeadsReferenceIdeal.cfg0.N = (HeadsIdeal.Gen.dats m 0 c).arrAt 6 HeadsIdeal.cfg0.N := by
  funext (i : HeadsIdeal.S6x256x8x96.Idx)
  obtain ⟨b, q, h, d, rfl⟩ : ∃ b q h d, i = ix4 b q h d := ⟨i 0, i 1, i 2, i 3, by funext a; fin_cases a <;> rfl⟩
  have x := HeadsReferenceIdeal.Results.km_at m' c b h d q
  rw [E] at x
  exact x.trans (HeadsIdeal.Results.km_at m c b h d q).symm
theorem kms_eq : (HeadsReferenceIdeal.Gen.dats m' 0 c).arrAt 13 HeadsReferenceIdeal.cfg0.N = (HeadsIdeal.Gen.dats m 0 c).arrAt 7 HeadsIdeal.cfg0.N := by
  funext (i : HeadsIdeal.S6x256x8.Idx)
  obtain ⟨b, q, h, rfl⟩ : ∃ b q h, i = ix3 b q h := ⟨i 0, i 1, i 2, by funext a; fin_cases a <;> rfl⟩
  have x := HeadsReferenceIdeal.Results.kms_at m' c b h q
  rw [E] at x
  exact x.trans (HeadsIdeal.Results.kms_at m c b h q).symm
theorem vg_eq : (HeadsReferenceIdeal.Gen.dats m' 0 c).arrAt 14 HeadsReferenceIdeal.cfg0.N = (HeadsIdeal.Gen.dats m 0 c).arrAt 8 HeadsIdeal.cfg0.N := by
  funext (i : HeadsIdeal.S6x5x16x8x96.Idx)
  obtain ⟨b, n, r, h, d, rfl⟩ : ∃ b n r h d, i = ix5 b n r h d := ⟨i 0, i 1, i 2, i 3, i 4, by funext a; fin_cases a <;> rfl⟩
  have x := HeadsReferenceIdeal.Results.vg_at m' c b n r h d
  rw [E] at x
  exact x.trans (HeadsIdeal.Results.vg_at m c b n r h d).symm
theorem vgs_eq : (HeadsReferenceIdeal.Gen.dats m' 0 c).arrAt 15 HeadsReferenceIdeal.cfg0.N = (HeadsIdeal.Gen.dats m 0 c).arrAt 9 HeadsIdeal.cfg0.N := by
  funext (i : HeadsIdeal.S6x5x16x8.Idx)
  obtain ⟨b, n, r, h, rfl⟩ : ∃ b n r h, i = ix4 b n r h := ⟨i 0, i 1, i 2, i 3, by funext a; fin_cases a <;> rfl⟩
  have x := HeadsReferenceIdeal.Results.vgs_at m' c b n r h
  rw [E] at x
  exact x.trans (HeadsIdeal.Results.vgs_at m c b n r h).symm
theorem vm_eq : (HeadsReferenceIdeal.Gen.dats m' 0 c).arrAt 16 HeadsReferenceIdeal.cfg0.N = (HeadsIdeal.Gen.dats m 0 c).arrAt 10 HeadsIdeal.cfg0.N := by
  funext (i : HeadsIdeal.S6x256x8x96.Idx)
  obtain ⟨b, q, h, d, rfl⟩ : ∃ b q h d, i = ix4 b q h d := ⟨i 0, i 1, i 2, i 3, by funext a; fin_cases a <;> rfl⟩
  have x := HeadsReferenceIdeal.Results.vm_at m' c b h d q
  rw [E] at x
  exact x.trans (HeadsIdeal.Results.vm_at m c b h d q).symm
theorem vms_eq : (HeadsReferenceIdeal.Gen.dats m' 0 c).arrAt 17 HeadsReferenceIdeal.cfg0.N = (HeadsIdeal.Gen.dats m 0 c).arrAt 11 HeadsIdeal.cfg0.N := by
  funext (i : HeadsIdeal.S6x256x8.Idx)
  obtain ⟨b, q, h, rfl⟩ : ∃ b q h, i = ix3 b q h := ⟨i 0, i 1, i 2, by funext a; fin_cases a <;> rfl⟩
  have x := HeadsReferenceIdeal.Results.vms_at m' c b h q
  rw [E] at x
  exact x.trans (HeadsIdeal.Results.vms_at m c b h q).symm
theorem qg_eq : (HeadsReferenceIdeal.Gen.dats m' 0 c).arrAt 18 HeadsReferenceIdeal.cfg0.N = (HeadsIdeal.Gen.dats m 0 c).arrAt 12 HeadsIdeal.cfg0.N := by
  funext (i : HeadsIdeal.S6x5x16x8x96.Idx)
  obtain ⟨b, n, r, h, d, rfl⟩ : ∃ b n r h d, i = ix5 b n r h d := ⟨i 0, i 1, i 2, i 3, i 4, by funext a; fin_cases a <;> rfl⟩
  have x := HeadsReferenceIdeal.Results.qg_at m' c b n r h d
  rw [E] at x
  exact x.trans (HeadsIdeal.Results.qg_at m c b n r h d).symm
theorem qgs_eq : (HeadsReferenceIdeal.Gen.dats m' 0 c).arrAt 19 HeadsReferenceIdeal.cfg0.N = (HeadsIdeal.Gen.dats m 0 c).arrAt 13 HeadsIdeal.cfg0.N := by
  funext (i : HeadsIdeal.S6x5x16x8.Idx)
  obtain ⟨b, n, r, h, rfl⟩ : ∃ b n r h, i = ix4 b n r h := ⟨i 0, i 1, i 2, i 3, by funext a; fin_cases a <;> rfl⟩
  have x := HeadsReferenceIdeal.Results.qgs_at m' c b n r h
  rw [E] at x
  exact x.trans (HeadsIdeal.Results.qgs_at m c b n r h).symm
theorem qm_eq : (HeadsReferenceIdeal.Gen.dats m' 0 c).arrAt 20 HeadsReferenceIdeal.cfg0.N = (HeadsIdeal.Gen.dats m 0 c).arrAt 14 HeadsIdeal.cfg0.N := by
  funext (i : HeadsIdeal.S6x128x8x96.Idx)
  obtain ⟨b, q, h, d, rfl⟩ : ∃ b q h d, i = ix4 b q h d := ⟨i 0, i 1, i 2, i 3, by funext a; fin_cases a <;> rfl⟩
  have x := HeadsReferenceIdeal.Results.qm_at m' c b h d q
  rw [E] at x
  exact x.trans (HeadsIdeal.Results.qm_at m c b h d q).symm
theorem qms_eq : (HeadsReferenceIdeal.Gen.dats m' 0 c).arrAt 21 HeadsReferenceIdeal.cfg0.N = (HeadsIdeal.Gen.dats m 0 c).arrAt 15 HeadsIdeal.cfg0.N := by
  funext (i : HeadsIdeal.S6x128x8.Idx)
  obtain ⟨b, q, h, rfl⟩ : ∃ b q h, i = ix3 b q h := ⟨i 0, i 1, i 2, by funext a; fin_cases a <;> rfl⟩
  have x := HeadsReferenceIdeal.Results.qms_at m' c b h q
  rw [E] at x
  exact x.trans (HeadsIdeal.Results.qms_at m c b h q).symm

end Cert.HeadAgree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsReferenceIdeal
public import proofs.«01_k».proof.Proof.Gen.HeadsReferenceIdeal.Skeleton
public import proofs.«01_k».proof.Proof.Gen.HeadsReferenceIdeal.Launch
public import proofs.«01_k».proof.Proof.Gen.HeadsReferenceIdeal.Points
public import proofs.«01_k».proof.Proof.Gen.HeadsReferenceIdeal.Frame
public import proofs.«01_k».proof.Proof.Gen.HeadsIdeal.Value
public import proofs.«01_k».proof.Proof.Gen.HeadsReferenceIdeal.Value
public import proofs.«01_k».proof.Proof.Gen.Tokens
public import proofs.«01_k».proof.Proof.Gen.Tokens.Skeleton
public import proofs.«01_k».proof.Proof.Gen.Tokens.Launch
public import proofs.«01_k».proof.Proof.Gen.Tokens.Points
public import proofs.«01_k».proof.Proof.Gen.Tokens.Frame
public import proofs.«01_k».proof.Proof.Gen.TokensIdeal
public import proofs.«01_k».proof.Proof.Gen.TokensIdeal.Skeleton
public import proofs.«01_k».proof.Proof.Gen.TokensIdeal.Launch
public import proofs.«01_k».proof.Proof.Gen.TokensIdeal.Points
public import proofs.«01_k».proof.Proof.Gen.TokensIdeal.Frame
public import proofs.«01_k».proof.Proof.Gen.TokensIdeal.Value
public import proofs.«01_k».proof.Proof.Gen.TokensReferenceIdeal
public import proofs.«01_k».proof.Proof.Gen.TokensReferenceIdeal.Skeleton
public import proofs.«01_k».proof.Proof.Gen.TokensReferenceIdeal.Launch
public import proofs.«01_k».proof.Proof.Gen.TokensReferenceIdeal.Points
public import proofs.«01_k».proof.Proof.Gen.TokensReferenceIdeal.Frame
public import proofs.«01_k».proof.Proof.Gen.TokensReferenceIdeal.Value
public import proofs.«01_k».proof.Proof.Agree
public import proofs.«01_k».proof.Proof.TokenAgree
public import proofs.«01_k».proof.Proof.HeadAgree
public import Idealize.ShloMosaic.Adequacy
public import Idealize.ShloMosaic.Init

@[expose] public section

noncomputable section

namespace Cert.Proof

open Idealize.ShloMosaic Idealize.SL.Sem Cert.Kernel

/-- Equal arguments are read as the same rows. -/
theorem args_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)) :
    ReferenceIdeal.Results.args m' c = KernelIdeal.Results.args m c := by
  obtain ⟨h0, h1, h2, h3, h4, h5, h6, h7, h8, h9, h10⟩ := h
  unfold ReferenceIdeal.Results.args KernelIdeal.Results.args
  congr 1
  funext j
  exact congrFun h5 _

/-- Every launch of the two ideal programs on equal arguments ends with equal results. -/
theorem algebraic : algebraic_KernelIdeal_ReferenceIdeal := fun m g m' g' _ hagree =>
  have E := fun c => args_agree m m' c (hagree c)
  ⟨fun c => KernelIdeal.Value.G12 m c, fun c => KernelIdeal.Value.G13 m c, fun c => KernelIdeal.Value.G14 m c, fun c => KernelIdeal.Value.G15 m c, fun c => KernelIdeal.Value.G16 m c, fun c => KernelIdeal.Value.G17 m c, fun c => KernelIdeal.Value.G18 m c, fun c => KernelIdeal.Value.G19 m c,
    KernelIdeal.Value.run m g,
    (θ_run _ _ _).mono (fun _ h c =>
      have ⟨r0, r1, r2, r3, r4, r5, r6, r7, kept⟩ := h c
      ⟨r0.trans (Agree.y_eq m m' c (E c)), r1.trans (Agree.a_eq m m' c (E c)), r2.trans (Agree.ca_eq m m' c (E c)), r3.trans (Agree.sa_eq m m' c (E c)), r4.trans (Agree.cn_eq m m' c (E c)), r5.trans (Agree.sn_eq m m' c (E c)), r6.trans (Agree.cu_eq m m' c (E c)), r7.trans (Agree.su_eq m m' c (E c)), kept⟩)
      (ReferenceIdeal.Value.run_blocks m' g')⟩

/-- Every launch of the token normalisation and of its reference on equal arguments ends with equal results. -/
theorem tokens_algebraic : algebraic_TokensIdeal_TokensReferenceIdeal := fun m g m' g' _ hagree =>
  have E : ∀ c, TokensReferenceIdeal.Results.args m' c = TokensIdeal.Operands.args m c := fun c => by
    obtain ⟨h0, h1, h2, h3⟩ := hagree c
    unfold TokensReferenceIdeal.Results.args TokensIdeal.Operands.args
    congr 1
  ⟨fun c => (TokensIdeal.Gen.dats m 0 c).arrAt 4 TokensIdeal.cfg0.N, fun c => (TokensIdeal.Gen.dats m 0 c).arrAt 5 TokensIdeal.cfg0.N,
    fun c => (TokensIdeal.Gen.dats m 0 c).arrAt 6 TokensIdeal.cfg0.N, fun c => (TokensIdeal.Gen.dats m 0 c).arrAt 7 TokensIdeal.cfg0.N,
    fun c => (TokensIdeal.Gen.dats m 0 c).arrAt 8 TokensIdeal.cfg0.N,
    TokensIdeal.Value.run_blocks m g,
    (θ_run _ _ _).mono (fun _ h c =>
      have ⟨r0, r1, r2, r3, r4, kept⟩ := h c
      ⟨r0.trans (TokenAgree.merged_eq m m' c (E c)), r1.trans (TokenAgree.zg_eq m m' c (E c)), r2.trans (TokenAgree.zgs_eq m m' c (E c)),
        r3.trans (TokenAgree.zm_eq m m' c (E c)), r4.trans (TokenAgree.zms_eq m m' c (E c)), kept⟩)
      (TokensReferenceIdeal.Value.run_blocks m' g')⟩

set_option maxHeartbeats 4000000 in
/-- Every launch of the projections and of their reference on equal arguments ends with equal results. -/
theorem heads_algebraic : algebraic_HeadsIdeal_HeadsReferenceIdeal := fun m g m' g' _ hagree =>
  have E : ∀ c, HeadsReferenceIdeal.Results.args m' c = HeadsIdeal.Operands.args m c := fun c => by
    obtain ⟨h0, h1, h2, h3, h4, h5, h6, h7⟩ := hagree c
    unfold HeadsReferenceIdeal.Results.args HeadsIdeal.Operands.args
    congr 1
  ⟨fun c => (HeadsIdeal.Gen.dats m 0 c).arrAt 4 HeadsIdeal.cfg0.N,
    fun c => (HeadsIdeal.Gen.dats m 0 c).arrAt 5 HeadsIdeal.cfg0.N,
    fun c => (HeadsIdeal.Gen.dats m 0 c).arrAt 6 HeadsIdeal.cfg0.N,
    fun c => (HeadsIdeal.Gen.dats m 0 c).arrAt 7 HeadsIdeal.cfg0.N,
    fun c => (HeadsIdeal.Gen.dats m 0 c).arrAt 8 HeadsIdeal.cfg0.N,
    fun c => (HeadsIdeal.Gen.dats m 0 c).arrAt 9 HeadsIdeal.cfg0.N,
    fun c => (HeadsIdeal.Gen.dats m 0 c).arrAt 10 HeadsIdeal.cfg0.N,
    fun c => (HeadsIdeal.Gen.dats m 0 c).arrAt 11 HeadsIdeal.cfg0.N,
    fun c => (HeadsIdeal.Gen.dats m 0 c).arrAt 12 HeadsIdeal.cfg0.N,
    fun c => (HeadsIdeal.Gen.dats m 0 c).arrAt 13 HeadsIdeal.cfg0.N,
    fun c => (HeadsIdeal.Gen.dats m 0 c).arrAt 14 HeadsIdeal.cfg0.N,
    fun c => (HeadsIdeal.Gen.dats m 0 c).arrAt 15 HeadsIdeal.cfg0.N,
    HeadsIdeal.Value.run_blocks m g,
    (θ_run _ _ _).mono (fun _ h c => (And.imp (fun r => r.trans (HeadAgree.kg_eq m m' c (E c)))
        (And.imp (fun r => r.trans (HeadAgree.kgs_eq m m' c (E c)))
        (And.imp (fun r => r.trans (HeadAgree.km_eq m m' c (E c)))
        (And.imp (fun r => r.trans (HeadAgree.kms_eq m m' c (E c)))
        (And.imp (fun r => r.trans (HeadAgree.vg_eq m m' c (E c)))
        (And.imp (fun r => r.trans (HeadAgree.vgs_eq m m' c (E c)))
        (And.imp (fun r => r.trans (HeadAgree.vm_eq m m' c (E c)))
        (And.imp (fun r => r.trans (HeadAgree.vms_eq m m' c (E c)))
        (And.imp (fun r => r.trans (HeadAgree.qg_eq m m' c (E c)))
        (And.imp (fun r => r.trans (HeadAgree.qgs_eq m m' c (E c)))
        (And.imp (fun r => r.trans (HeadAgree.qm_eq m m' c (E c)))
        (And.imp (fun r => r.trans (HeadAgree.qms_eq m m' c (E c))) id)))))))))))) (h c))
      (HeadsReferenceIdeal.Value.run_blocks m' g')⟩

theorem claim : Cert.Claim := ⟨Cert.Kernel.Gen.facts, Cert.KernelIdeal.Gen.facts, Cert.ReferenceIdeal.Gen.facts,
  Cert.Tokens.Gen.facts, Cert.TokensIdeal.Gen.facts, Cert.TokensReferenceIdeal.Gen.facts,
  Cert.Heads.Gen.facts, Cert.HeadsIdeal.Gen.facts, Cert.HeadsReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Tokens.Gen.frame m ρ, fun m ρ _ => Cert.TokensIdeal.Gen.frame m ρ, fun m ρ _ => Cert.TokensReferenceIdeal.Gen.frame m ρ,
  fun m ρ _ => Cert.Heads.Gen.frame m ρ, fun m ρ _ => Cert.HeadsIdeal.Gen.frame m ρ, fun m ρ _ => Cert.HeadsReferenceIdeal.Gen.frame m ρ,
  trivial, algebraic, trivial, tokens_algebraic, trivial, heads_algebraic⟩

end Cert.Proof

end
